-- ==== Defs.lean ====
def Pre_NormKernel (m : (ℓ : Loc Cert.NormKernel.nD Cert.NormKernel.τ Cert.NormKernel.sig) → Buf (Elt Bits) ℓ) : Prop :=
  True

def Pre_NormKernelIdeal (m : (ℓ : Loc Cert.NormKernelIdeal.nD Cert.NormKernelIdeal.τ Cert.NormKernelIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def quiescent_NormKernel [hNormKernel : Cert.NormKernel.Facts] : Prop :=
  ∀ (m : (ℓ : Loc Cert.NormKernel.nD Cert.NormKernel.τ Cert.NormKernel.sig) → Buf (Elt Bits) ℓ) (g : Dev Cert.NormKernel.nD → PrngReg), Pre_NormKernel m →
    θ_run (Cert.NormKernel.defs (F := Bits)) (onTc (τ := Cert.NormKernel.τ) (Cert.NormKernel.main (F := Bits))) ⟨m, fun _ => 0, g⟩ (fun r => (∀ c : Dev Cert.NormKernel.nD,
      r.2.mem ((c.tc : Thread Cert.NormKernel.nD Cert.NormKernel.τ).loc Cert.NormKernel.main_arg0) = m ((c.tc : Thread Cert.NormKernel.nD Cert.NormKernel.τ).loc Cert.NormKernel.main_arg0)
      ∧ r.2.mem ((c.tc : Thread Cert.NormKernel.nD Cert.NormKernel.τ).loc Cert.NormKernel.main_arg1) = m ((c.tc : Thread Cert.NormKernel.nD Cert.NormKernel.τ).loc Cert.NormKernel.main_arg1))
      ∧ r.2.sem = fun _ => 0)

def quiescent_NormKernelIdeal [hNormKernelIdeal : Cert.NormKernelIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg), Pre_NormKernelIdeal m →
    θ_run (Cert.NormKernelIdeal.defs (F := Ideal)) (onTc (τ := Cert.NormKernelIdeal.τ) (Cert.NormKernelIdeal.main (F := Ideal))) ⟨m, fun _ => 0, g⟩ (fun r => (∀ c : Dev Cert.NormKernelIdeal.nD,
      r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
      ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1)
      ∧ r.2.mem ((c.tc : Thread Cert.DownKernel.nD Cert.DownKernel.τ).loc Cert.DownKernel.main_arg2) = m ((c.tc : Thread Cert.DownKernel.nD Cert.DownKernel.τ).loc Cert.DownKernel.main_arg2)
      ∧ r.2.mem ((c.tc : Thread Cert.DownKernel.nD Cert.DownKernel.τ).loc Cert.DownKernel.main_arg3) = m ((c.tc : Thread Cert.DownKernel.nD Cert.DownKernel.τ).loc Cert.DownKernel.main_arg3)
      ∧ r.2.mem ((c.tc : Thread Cert.DownKernel.nD Cert.DownKernel.τ).loc Cert.DownKernel.main_arg4) = m ((c.tc : Thread Cert.DownKernel.nD Cert.DownKernel.τ).loc Cert.DownKernel.main_arg4))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
      ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
      ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
      ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4))
      ∧ r.2.sem = fun _ => 0)

def preserves_NormKernel_NormKernelIdeal : Prop :=
  True

def algebraic_NormKernelIdeal_NormReferenceIdeal [hNormKernelIdeal : Cert.NormKernelIdeal.Facts] [hNormReferenceIdeal : Cert.NormReferenceIdeal.Facts] : Prop :=
  ∀ (m : (ℓ : Loc Cert.NormKernelIdeal.nD Cert.NormKernelIdeal.τ Cert.NormKernelIdeal.sig) → Buf (Elt Ideal) ℓ) (g : Dev Cert.NormKernelIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormKernelIdeal m →
    (∀ c : Dev Cert.NormKernelIdeal.nD,
      m' ((c.tc : Thread Cert.NormReferenceIdeal.nD Cert.NormReferenceIdeal.τ).loc Cert.NormReferenceIdeal.main_arg0) = m ((c.tc : Thread Cert.NormKernelIdeal.nD Cert.NormKernelIdeal.τ).loc Cert.NormKernelIdeal.main_arg0)
      ∧ m' ((c.tc : Thread Cert.NormReferenceIdeal.nD Cert.NormReferenceIdeal.τ).loc Cert.NormReferenceIdeal.main_arg1) = m ((c.tc : Thread Cert.NormKernelIdeal.nD Cert.NormKernelIdeal.τ).loc Cert.NormKernelIdeal.main_arg1)) →
    ∃ (v0 : (c : Dev Cert.NormKernelIdeal.nD) → Buf (Elt Ideal) ((c.tc : Thread Cert.NormKernelIdeal.nD Cert.NormKernelIdeal.τ).loc Cert.NormKernelIdeal.main_v3_0)) (v1 : (c : Dev Cert.NormKernelIdeal.nD) → Buf (Elt Ideal) ((c.tc : Thread Cert.NormKernelIdeal.nD Cert.NormKernelIdeal.τ).loc Cert.NormKernelIdeal.main_v3_1)),
      θ_run (Cert.NormKernelIdeal.defs (F := Ideal)) (onTc (τ := Cert.NormKernelIdeal.τ) (Cert.NormKernelIdeal.main (F := Ideal))) ⟨m, fun _ => 0, g⟩ (fun r => ∀ c : Dev Cert.NormKernelIdeal.nD,
          r.2.mem ((c.tc : Thread Cert.NormKernelIdeal.nD Cert.NormKernelIdeal.τ).loc Cert.NormKernelIdeal.main_v3_0) = v0 c
          ∧ r.2.mem ((c.tc : Thread Cert.NormKernelIdeal.nD Cert.NormKernelIdeal.τ).loc Cert.NormKernelIdeal.main_v3_1) = v1 c
          ∧ r.2.mem ((c.tc : Thread Cert.NormKernelIdeal.nD Cert.NormKernelIdeal.τ).loc Cert.NormKernelIdeal.main_arg0) = m ((c.tc : Thread Cert.NormKernelIdeal.nD Cert.NormKernelIdeal.τ).loc Cert.NormKernelIdeal.main_arg0)
          ∧ r.2.mem ((c.tc : Thread Cert.NormKernelIdeal.nD Cert.NormKernelIdeal.τ).loc Cert.NormKernelIdeal.main_arg1) = m ((c.tc : Thread Cert.NormKernelIdeal.nD Cert.NormKernelIdeal.τ).loc Cert.NormKernelIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v2_0) = v0 c
          ∧ r.2.mem ((c.tc : Thread Cert.NormReferenceIdeal.nD Cert.NormReferenceIdeal.τ).loc Cert.NormReferenceIdeal.main_v2_1) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v2)) (v1 : (c : Dev Cert.InKernelIdeal.nD) → Buf (Elt Ideal) ((c.tc : Thread Cert.InKernelIdeal.nD Cert.InKernelIdeal.τ).loc Cert.InKernelIdeal.main_v1_1)) (v2 : (c : Dev Cert.InKernelIdeal.nD) → Buf (Elt Ideal) ((c.tc : Thread Cert.InKernelIdeal.nD Cert.InKernelIdeal.τ).loc Cert.InKernelIdeal.main_v1_2)) (v3 : (c : Dev Cert.InKernelIdeal.nD) → Buf (Elt Ideal) ((c.tc : Thread Cert.InKernelIdeal.nD Cert.InKernelIdeal.τ).loc Cert.InKernelIdeal.main_v1_3)) (v4 : (c : Dev Cert.InKernelIdeal.nD) → Buf (Elt Ideal) ((c.tc : Thread Cert.InKernelIdeal.nD Cert.InKernelIdeal.τ).loc Cert.InKernelIdeal.main_v1_4)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2) = v0 c
          ∧ r.2.mem ((c.tc : Thread Cert.InKernelIdeal.nD Cert.InKernelIdeal.τ).loc Cert.InKernelIdeal.main_v1_1) = v1 c
          ∧ r.2.mem ((c.tc : Thread Cert.InKernelIdeal.nD Cert.InKernelIdeal.τ).loc Cert.InKernelIdeal.main_v1_2) = v2 c
          ∧ r.2.mem ((c.tc : Thread Cert.InKernelIdeal.nD Cert.InKernelIdeal.τ).loc Cert.InKernelIdeal.main_v1_3) = v3 c
          ∧ r.2.mem ((c.tc : Thread Cert.InKernelIdeal.nD Cert.InKernelIdeal.τ).loc Cert.InKernelIdeal.main_v1_4) = v4 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v1_0) = v0 c
          ∧ r.2.mem ((c.tc : Thread Cert.InReferenceIdeal.nD Cert.InReferenceIdeal.τ).loc Cert.InReferenceIdeal.main_v1_1) = v1 c
          ∧ r.2.mem ((c.tc : Thread Cert.InReferenceIdeal.nD Cert.InReferenceIdeal.τ).loc Cert.InReferenceIdeal.main_v1_2) = v2 c
          ∧ r.2.mem ((c.tc : Thread Cert.InReferenceIdeal.nD Cert.InReferenceIdeal.τ).loc Cert.InReferenceIdeal.main_v1_3) = v3 c
          ∧ r.2.mem ((c.tc : Thread Cert.InReferenceIdeal.nD Cert.InReferenceIdeal.τ).loc Cert.InReferenceIdeal.main_v1_4) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)
      ∧ m' ((c.tc : Thread Cert.DownReferenceIdeal.nD Cert.DownReferenceIdeal.τ).loc Cert.DownReferenceIdeal.main_arg2) = m ((c.tc : Thread Cert.DownKernelIdeal.nD Cert.DownKernelIdeal.τ).loc Cert.DownKernelIdeal.main_arg2)
      ∧ m' ((c.tc : Thread Cert.DownReferenceIdeal.nD Cert.DownReferenceIdeal.τ).loc Cert.DownReferenceIdeal.main_arg3) = m ((c.tc : Thread Cert.DownKernelIdeal.nD Cert.DownKernelIdeal.τ).loc Cert.DownKernelIdeal.main_arg3)
      ∧ m' ((c.tc : Thread Cert.DownReferenceIdeal.nD Cert.DownReferenceIdeal.τ).loc Cert.DownReferenceIdeal.main_arg4) = m ((c.tc : Thread Cert.DownKernelIdeal.nD Cert.DownKernelIdeal.τ).loc Cert.DownKernelIdeal.main_arg4)) →
    ∃ (v0 : (c : Dev Cert.DownKernelIdeal.nD) → Buf (Elt Ideal) ((c.tc : Thread Cert.DownKernelIdeal.nD Cert.DownKernelIdeal.τ).loc Cert.DownKernelIdeal.main_v2)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v2) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1)
          ∧ r.2.mem ((c.tc : Thread Cert.DownKernelIdeal.nD Cert.DownKernelIdeal.τ).loc Cert.DownKernelIdeal.main_arg2) = m ((c.tc : Thread Cert.DownKernelIdeal.nD Cert.DownKernelIdeal.τ).loc Cert.DownKernelIdeal.main_arg2)
          ∧ r.2.mem ((c.tc : Thread Cert.DownKernelIdeal.nD Cert.DownKernelIdeal.τ).loc Cert.DownKernelIdeal.main_arg3) = m ((c.tc : Thread Cert.DownKernelIdeal.nD Cert.DownKernelIdeal.τ).loc Cert.DownKernelIdeal.main_arg3)
          ∧ r.2.mem ((c.tc : Thread Cert.DownKernelIdeal.nD Cert.DownKernelIdeal.τ).loc Cert.DownKernelIdeal.main_arg4) = m ((c.tc : Thread Cert.DownKernelIdeal.nD Cert.DownKernelIdeal.τ).loc Cert.DownKernelIdeal.main_arg4))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4))

def Claim : Prop :=
  ∃ (hNormKernel : Cert.NormKernel.Facts) (hNormKernelIdeal : Cert.NormKernelIdeal.Facts) (hNormReferenceIdeal : Cert.NormReferenceIdeal.Facts) (hInKernel : Cert.InKernel.Facts) (hInKernelIdeal : Cert.InKernelIdeal.Facts) (hInReferenceIdeal : Cert.InReferenceIdeal.Facts) (hDownKernel : Cert.DownKernel.Facts) (hDownKernelIdeal : Cert.DownKernelIdeal.Facts) (hDownReferenceIdeal : Cert.DownReferenceIdeal.Facts),
    quiescent_NormKernel (hNormKernel := hNormKernel)
    ∧ quiescent_NormKernelIdeal (hNormKernelIdeal := hNormKernelIdeal)
    ∧ quiescent_NormReferenceIdeal (hNormReferenceIdeal := hNormReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ preserves_NormKernel_NormKernelIdeal
    ∧ algebraic_NormKernelIdeal_NormReferenceIdeal (hNormKernelIdeal := hNormKernelIdeal) (hNormReferenceIdeal := hNormReferenceIdeal)
    ∧ preserves_InKernel_InKernelIdeal
    ∧ algebraic_InKernelIdeal_InReferenceIdeal (hInKernelIdeal := hInKernelIdeal) (hInReferenceIdeal := hInReferenceIdeal)
    ∧ preserves_DownKernel_DownKernelIdeal
    ∧ algebraic_DownKernelIdeal_DownReferenceIdeal (hDownKernelIdeal := hDownKernelIdeal) (hDownReferenceIdeal := hDownReferenceIdeal)
-- ==== NormKernel.lean ====
abbrev S1x4096x5120 : Shape := ⟨3, ![1, 4096, 5120]⟩
abbrev S5120 : Shape := ⟨1, ![5120]⟩
abbrev S4096x5120 : Shape := ⟨2, ![4096, 5120]⟩
abbrev S1x5120 : Shape := ⟨2, ![1, 5120]⟩
abbrev S4096x1 : Shape := ⟨2, ![4096, 1]⟩
abbrev S256x5120 : Shape := ⟨2, ![256, 5120]⟩
abbrev S256x1 : Shape := ⟨2, ![256, 1]⟩
abbrev S256 : Shape := ⟨1, ![256]⟩
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S1x4096x5120, .bf16⟩
  | .hbm, ⟨1, _⟩ => ⟨S5120, .bf16⟩
  | .hbm, ⟨2, _⟩ => ⟨S4096x5120, .bf16⟩
  | .hbm, ⟨3, _⟩ => ⟨S5120, .f32⟩
  | .hbm, ⟨4, _⟩ => ⟨S1x5120, .f32⟩
  | .hbm, ⟨5, _⟩ => ⟨S4096x5120, .fp8e4m3⟩
  | .hbm, ⟨6, _⟩ => ⟨S4096x1, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S256x5120, .fp8e4m3⟩
  | .local _ .vmem, ⟨4, _⟩ => ⟨S256x5120, .fp8e4m3⟩
  | .local _ .vmem, ⟨5, _⟩ => ⟨S256x1, .f32⟩
  | .local _ .vmem, ⟨6, _⟩ => ⟨S256x1, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormReferenceIdeal.lean ====
abbrev S1x4096x5120 : Shape := ⟨3, ![1, 4096, 5120]⟩
abbrev S5120 : Shape := ⟨1, ![5120]⟩
abbrev S4096x5120 : Shape := ⟨2, ![4096, 5120]⟩
abbrev S1x5120 : Shape := ⟨2, ![1, 5120]⟩
abbrev S4096x1 : Shape := ⟨2, ![4096, 1]⟩
abbrev S4096 : Shape := ⟨1, ![4096]⟩

abbrev nBuf : Space → Nat
  | .hbm => 6
  | .vmem => 4
  | .smem => 0
  | _ => 0

abbrev bufTy : (tb : Table) → Fin (tcTables nBuf tb) → BufTy
  | .hbm, ⟨0, _⟩ => ⟨S1x4096x5120, .bf16⟩
  | .hbm, ⟨1, _⟩ => ⟨S5120, .bf16⟩
  | .hbm, ⟨2, _⟩ => ⟨S4096x5120, .bf16⟩
  | .hbm, ⟨3, _⟩ => ⟨S1x5120, .bf16⟩
  | .hbm, ⟨4, _⟩ => ⟨S4096x5120, .fp8e4m3⟩
  | .hbm, ⟨5, _⟩ => ⟨S4096x1, .f32⟩
  | .local _ .vmem, ⟨0, _⟩ => ⟨S4096x5120, .bf16⟩
  | .local _ .vmem, ⟨1, _⟩ => ⟨S1x5120, .bf16⟩
  | .local _ .vmem, ⟨2, _⟩ => ⟨S4096x5120, .fp8e4m3⟩
  | .local _ .vmem, ⟨3, _⟩ => ⟨S4096x1, .f32⟩
  | _, _ => ⟨S1x4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== InKernel.lean ====
abbrev S4096x5120 : Shape := ⟨2, ![4096, 5120]⟩
abbrev S4096x1 : Shape := ⟨2, ![4096, 1]⟩
abbrev S5120x10752 : Shape := ⟨2, ![5120, 10752]⟩
abbrev S10752 : Shape := ⟨1, ![10752]⟩
abbrev S1x10752 : Shape := ⟨2, ![1, 10752]⟩
abbrev S10x4096x128 : Shape := ⟨3, ![10, 4096, 128]⟩
abbrev S4096x256 : Shape := ⟨2, ![4096, 256]⟩
abbrev S4096x4480 : Shape := ⟨2, ![4096, 4480]⟩
abbrev S1024x5120 : Shape := ⟨2, ![1024, 5120]⟩
abbrev S1024x1 : Shape := ⟨2, ![1024, 1]⟩
abbrev S5120x256 : Shape := ⟨2, ![5120, 256]⟩
abbrev S1x256 : Shape := ⟨2, ![1, 256]⟩
abbrev S2x1024x128 : Shape := ⟨3, ![2, 1024, 128]⟩
abbrev S1024x256 : Shape := ⟨2, ![1024, 256]⟩
abbrev S1024x4480 : Shape := ⟨2, ![1024, 4480]⟩
abbrev S35x1024x128 : Shape := ⟨3, ![35, 1024, 128]⟩
abbrev S1024x128 : Shape := ⟨2, ![1024, 128]⟩
abbrev S1x1024x128 : Shape := ⟨3, ![1, 1024, 128]⟩
abbrev S256x128 : Shape := ⟨2, ![256, 128]⟩
abbrev S256x128x1 : Shape := ⟨3, ![256, 128, 1]⟩
abbrev S1x128 : Shape := ⟨2, ![1, 128]⟩
abbrev S8x128 : Shape := ⟨2, ![8, 128]⟩
abbrev S8x128x1 : Shape := ⟨3, ![8, 128, 1]⟩
abbrev S1024 : Shape := ⟨1, ![1024]⟩
abbrev S4096x10x128 : Shape := ⟨3, ![4096, 10, 128]⟩

abbrev nBuf : Space → Nat
  | .hbm => 11
  | .vmem => 21
  | .smem => 0
  | _ => 0

abbrev bufTy : (tb : Table) → Fin (tcTables nBuf tb) → BufTy
  | .hbm, ⟨0, _⟩ => ⟨S4096x5120, .fp8e4m3⟩
  | .hbm, ⟨1, _⟩ => ⟨S4096x1, .f32⟩
  | .hbm, ⟨2, _⟩ => ⟨S5120x10752, .fp8e4m3⟩
  | .hbm, ⟨3, _⟩ => ⟨S10752, .f32⟩
  | .hbm, ⟨4, _⟩ => ⟨S1x10752, .f32⟩
  | .hbm, ⟨5, _⟩ => ⟨S10x4096x128, .bf16⟩
  | .hbm, ⟨6, _⟩ => ⟨S4096x256, .bf16⟩
  | .hbm, ⟨7, _⟩ => ⟨S4096x256, .bf16⟩
  | .hbm, ⟨8, _⟩ => ⟨S4096x4480, .fp8e4m3⟩
  | .hbm, ⟨9, _⟩ => ⟨S4096x1, .f32⟩
  | .hbm, ⟨10, _⟩ => ⟨S4096x10x128, .bf16⟩
  | .local _ .vmem, ⟨0, _⟩ => ⟨S1024x5120, .fp8e4m3⟩
  | .local _ .vmem, ⟨1, _⟩ => ⟨S1024x5120, .fp8e4m3⟩
  | .local _ .vmem, ⟨2, _⟩ => ⟨S1024x1, .f32⟩
  | .local _ .vmem, ⟨3, _⟩ => ⟨S1024x1, .f32⟩
  | .local _ .vmem, ⟨4, _⟩ => ⟨S5120x256, .fp8e4m3⟩
  | .local _ .vmem, ⟨5, _⟩ => ⟨S5120x256, .fp8e4m3⟩
  | .local _ .vmem, ⟨6, _⟩ => ⟨S1x256, .f32⟩
  | .local _ .vmem, ⟨7, _⟩ => ⟨S1x256, .f32⟩
  | .local _ .vmem, ⟨8, _⟩ => ⟨S2x1024x128, .bf16⟩
  | .local _ .vmem, ⟨9, _⟩ => ⟨S2x1024x128, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x4480, .fp8e4m3⟩
  | .local _ .vmem, ⟨15, _⟩ => ⟨S1024x4480, .fp8e4m3⟩
  | .local _ .vmem, ⟨16, _⟩ => ⟨S1024x1, .f32⟩
  | .local _ .vmem, ⟨17, _⟩ => ⟨S1024x1, .f32⟩
  | .local _ .vmem, ⟨18, _⟩ => ⟨S35x1024x128, .f32⟩
  | .local _ .vmem, ⟨19, _⟩ => ⟨S1024x128, .f32⟩
  | .local _ .vmem, ⟨20, _⟩ => ⟨S5120x256, .fp8e4m3⟩
  | _, _ => ⟨S4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 42], ![false, false]⟩

def k0_cond5 (i : grid0.Coords) : BitVec 1 :=
  let arg1 : BitVec 32 := BitVec.ofNat 32 (i 1).val
  let c7_i32_0 : BitVec 32 := 7#32
  let v3 : BitVec 1 := Scalar.cmpi .sge arg1 c7_i32_0
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_3 : BitVec 32 := 0#32
  let c20_i32 : BitVec 32 := 20#32
  let v9 : BitVec 32 := Scalar.addi c0_i32_3 c20_i32
  let c1_i32 : BitVec 32 := 1#32
  ⟨c0_i32_3, v9, c1_i32⟩
def k0_off1 (k0_t1 : Fin k0_t1_loop.trips) : Fin 2 → Nat :=
  let c0_i32_3 : BitVec 32 := 0#32
  let c1_i32 : BitVec 32 := 1#32
  let arg14 : BitVec 32 := Scf.iv c0_i32_3 c1_i32 k0_t1
  let c256_i32 : BitVec 32 := 256#32
  let v86 : BitVec 32 := Scalar.muli arg14 c256_i32
  let v87 : Index := Scalar.indexCast v86
  let c0_30 : Index := 0#32
  ![v87.toNat, 0]
def k0_off2 (k0_t1 : Fin k0_t1_loop.trips) : Fin 2 → Nat :=
  let c0_i32_3 : BitVec 32 := 0#32
  let c1_i32 : BitVec 32 := 1#32
  let arg14 : BitVec 32 := Scf.iv c0_i32_3 c1_i32 k0_t1
  let c256_i32 : BitVec 32 := 256#32
  let v86 : BitVec 32 := Scalar.muli arg14 c256_i32
  let v90 : Index := Scalar.indexCast v86
  let c128_31 : Index := 128#32
  ![v90.toNat, 128]
def k0_off3 (i : grid0.Coords) : Fin 3 → Nat :=
  let arg1 : BitVec 32 := BitVec.ofNat 32 (i 1).val
  let c7_i32_22 : BitVec 32 := 7#32
  let v73 : BitVec 32 := Scalar.subi arg1 c7_i32_22
  let v74 : Index := Scalar.indexCast v73
  let c0_23 : Index := 0#32
  let c0_24 : Index := 0#32
  ![v74.toNat, 0, 0]
def k0_cond1 (i : grid0.Coords) : BitVec 1 :=
  let arg1 : BitVec 32 := BitVec.ofNat 32 (i 1).val
  let c7_i32 : BitVec 32 := 7#32
  let v0 : BitVec 1 := Scalar.cmpi .slt arg1 c7_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c5_i32 : BitVec 32 := 5#32
  let v20 : BitVec 1 := Scalar.cmpi .slt arg1 c5_i32
  let v21 : BitVec 32 := Scalar.extui v20
  let c0_i32_10 : BitVec 32 := 0#32
  let v22 : BitVec 1 := Scalar.cmpi .ne v21 c0_i32_10
  v22

def k0_cond3 (i : grid0.Coords) : BitVec 1 :=
  let arg1 : BitVec 32 := BitVec.ofNat 32 (i 1).val
  let c5_i32_11 : BitVec 32 := 5#32
  let v23 : BitVec 1 := Scalar.cmpi .eq arg1 c5_i32_11
  let v24 : BitVec 32 := Scalar.extui v23
  let c0_i32_12 : BitVec 32 := 0#32
  let v25 : BitVec 1 := Scalar.cmpi .ne v24 c0_i32_12
  v25

def k0_cond4 (i : grid0.Coords) : BitVec 1 :=
  let arg1 : BitVec 32 := BitVec.ofNat 32 (i 1).val
  let c6_i32 : BitVec 32 := 6#32
  let v26 : BitVec 1 := Scalar.cmpi .eq arg1 c6_i32
  let v27 : BitVec 32 := Scalar.extui v26
  let c0_i32_13 : BitVec 32 := 0#32
  let v28 : BitVec 1 := Scalar.cmpi .ne v27 c0_i32_13
  v28

def k0_cond6 (i : grid0.Coords) : BitVec 1 :=
  let arg1 : BitVec 32 := BitVec.ofNat 32 (i 1).val
  let c41_i32 : BitVec 32 := 41#32
  let v6 : BitVec 1 := Scalar.cmpi .eq arg1 c41_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.minsi arg1 c4_i32
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S5120x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x4480 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== InReferenceIdeal.lean ====
abbrev S4096x5120 : Shape := ⟨2, ![4096, 5120]⟩
abbrev S4096x1 : Shape := ⟨2, ![4096, 1]⟩
abbrev S5120x10752 : Shape := ⟨2, ![5120, 10752]⟩
abbrev S10752 : Shape := ⟨1, ![10752]⟩
abbrev S1x10752 : Shape := ⟨2, ![1, 10752]⟩
abbrev S4096x10x128 : Shape := ⟨3, ![4096, 10, 128]⟩
abbrev S4096x256 : Shape := ⟨2, ![4096, 256]⟩
abbrev S4096x4480 : Shape := ⟨2, ![4096, 4480]⟩
abbrev S4096x10752 : Shape := ⟨2, ![4096, 10752]⟩
abbrev S4096x1280 : Shape := ⟨2, ![4096, 1280]⟩
abbrev S4096x8960 : Shape := ⟨2, ![4096, 8960]⟩
abbrev S4096x4480x2 : Shape := ⟨3, ![4096, 4480, 2]⟩
abbrev S4096x4480x1 : Shape := ⟨3, ![4096, 4480, 1]⟩
abbrev S4096 : Shape := ⟨1, ![4096]⟩

abbrev nBuf : Space → Nat
  | .hbm => 10
  | .vmem => 9
  | .smem => 0
  | _ => 0

abbrev bufTy : (tb : Table) → Fin (tcTables nBuf tb) → BufTy
  | .hbm, ⟨0, _⟩ => ⟨S4096x5120, .fp8e4m3⟩
  | .hbm, ⟨1, _⟩ => ⟨S4096x1, .f32⟩
  | .hbm, ⟨2, _⟩ => ⟨S5120x10752, .fp8e4m3⟩
  | .hbm, ⟨3, _⟩ => ⟨S10752, .f32⟩
  | .hbm, ⟨4, _⟩ => ⟨S1x10752, .f32⟩
  | .hbm, ⟨5, _⟩ => ⟨S4096x10x128, .bf16⟩
  | .hbm, ⟨6, _⟩ => ⟨S4096x256, .bf16⟩
  | .hbm, ⟨7, _⟩ => ⟨S4096x256, .bf16⟩
  | .hbm, ⟨8, _⟩ => ⟨S4096x4480, .fp8e4m3⟩
  | .hbm, ⟨9, _⟩ => ⟨S4096x1, .f32⟩
  | .local _ .vmem, ⟨0, _⟩ => ⟨S4096x5120, .fp8e4m3⟩
  | .local _ .vmem, ⟨1, _⟩ => ⟨S4096x1, .f32⟩
  | .local _ .vmem, ⟨2, _⟩ => ⟨S5120x10752, .fp8e4m3⟩
  | .local _ .vmem, ⟨3, _⟩ => ⟨S1x10752, .f32⟩
  | .local _ .vmem, ⟨4, _⟩ => ⟨S4096x10x128, .bf16⟩
  | .local _ .vmem, ⟨5, _⟩ => ⟨S4096x256, .bf16⟩
  | .local _ .vmem, ⟨6, _⟩ => ⟨S4096x256, .bf16⟩
  | .local _ .vmem, ⟨7, _⟩ => ⟨S4096x4480, .fp8e4m3⟩
  | .local _ .vmem, ⟨8, _⟩ => ⟨S4096x1, .f32⟩
  | _, _ => ⟨S4096x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x10752 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10752 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x10x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x4480 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== DownKernel.lean ====
abbrev S4096x4480 : Shape := ⟨2, ![4096, 4480]⟩
abbrev S4096x1 : Shape := ⟨2, ![4096, 1]⟩
abbrev S4480x5120 : Shape := ⟨2, ![4480, 5120]⟩
abbrev S5120 : Shape := ⟨1, ![5120]⟩
abbrev S1x4096x5120 : Shape := ⟨3, ![1, 4096, 5120]⟩
abbrev S4096x5120 : Shape := ⟨2, ![4096, 5120]⟩
abbrev S1x5120 : Shape := ⟨2, ![1, 5120]⟩
abbrev S1024x4480 : Shape := ⟨2, ![1024, 4480]⟩
abbrev S1024x1 : Shape := ⟨2, ![1024, 1]⟩
abbrev S4480x512 : Shape := ⟨2, ![4480, 512]⟩
abbrev S1x512 : Shape := ⟨2, ![1, 512]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x4480, .fp8e4m3⟩
  | .hbm, ⟨1, _⟩ => ⟨S4096x1, .f32⟩
  | .hbm, ⟨2, _⟩ => ⟨S4480x5120, .fp8e4m3⟩
  | .hbm, ⟨3, _⟩ => ⟨S5120, .f32⟩
  | .hbm, ⟨4, _⟩ => ⟨S1x4096x5120, .bf16⟩
  | .hbm, ⟨5, _⟩ => ⟨S4096x5120, .bf16⟩
  | .hbm, ⟨6, _⟩ => ⟨S1x5120, .f32⟩
  | .hbm, ⟨7, _⟩ => ⟨S4096x5120, .bf16⟩
  | .local _ .vmem, ⟨0, _⟩ => ⟨S1024x4480, .fp8e4m3⟩
  | .local _ .vmem, ⟨1, _⟩ => ⟨S1024x4480, .fp8e4m3⟩
  | .local _ .vmem, ⟨2, _⟩ => ⟨S1024x1, .f32⟩
  | .local _ .vmem, ⟨3, _⟩ => ⟨S1024x1, .f32⟩
  | .local _ .vmem, ⟨4, _⟩ => ⟨S4480x512, .fp8e4m3⟩
  | .local _ .vmem, ⟨5, _⟩ => ⟨S4480x512, .fp8e4m3⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4480 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4480x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownReferenceIdeal.lean ====
abbrev S4096x4480 : Shape := ⟨2, ![4096, 4480]⟩
abbrev S4096x1 : Shape := ⟨2, ![4096, 1]⟩
abbrev S4480x5120 : Shape := ⟨2, ![4480, 5120]⟩
abbrev S5120 : Shape := ⟨1, ![5120]⟩
abbrev S1x4096x5120 : Shape := ⟨3, ![1, 4096, 5120]⟩
abbrev S1x5120 : Shape := ⟨2, ![1, 5120]⟩
abbrev S4096x5120 : Shape := ⟨2, ![4096, 5120]⟩

abbrev nBuf : Space → Nat
  | .hbm => 8
  | .vmem => 6
  | .smem => 0
  | _ => 0

abbrev bufTy : (tb : Table) → Fin (tcTables nBuf tb) → BufTy
  | .hbm, ⟨0, _⟩ => ⟨S4096x4480, .fp8e4m3⟩
  | .hbm, ⟨1, _⟩ => ⟨S4096x1, .f32⟩
  | .hbm, ⟨2, _⟩ => ⟨S4480x5120, .fp8e4m3⟩
  | .hbm, ⟨3, _⟩ => ⟨S5120, .f32⟩
  | .hbm, ⟨4, _⟩ => ⟨S1x4096x5120, .bf16⟩
  | .hbm, ⟨5, _⟩ => ⟨S1x5120, .f32⟩
  | .hbm, ⟨6, _⟩ => ⟨S4096x5120, .bf16⟩
  | .hbm, ⟨7, _⟩ => ⟨S4096x5120, .bf16⟩
  | .local _ .vmem, ⟨0, _⟩ => ⟨S4096x4480, .fp8e4m3⟩
  | .local _ .vmem, ⟨1, _⟩ => ⟨S4096x1, .f32⟩
  | .local _ .vmem, ⟨2, _⟩ => ⟨S4480x5120, .fp8e4m3⟩
  | .local _ .vmem, ⟨3, _⟩ => ⟨S1x5120, .f32⟩
  | .local _ .vmem, ⟨4, _⟩ => ⟨S4096x5120, .bf16⟩
  | .local _ .vmem, ⟨5, _⟩ => ⟨S4096x5120, .bf16⟩
  | _, _ => ⟨S4096x4480, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x4480 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4480x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.ScaleFold.lean ====
/-
  The greatest of the exponent fields up to a given one.
-/
module

public import proofs.«01_k».proof.Defs
public import Idealize.ShloMosaic.PureOps.Reduce

@[expose] public section

set_option maxRecDepth 16384

namespace Cert.Scale

open Idealize.ShloMosaic

/-- The maximum over the fields up to `k` is `k`. -/
theorem fold_upto : ∀ k : Fin 256, Finset.fold IntOp.maxsi (2147483648#32) (fun x : Fin 256 => if x.val ≤ k.val then BitVec.ofNat 32 x.val else 0#32) Finset.univ = BitVec.ofNat 32 k.val := by
  decide +kernel

end Cert.Scale
-- ==== Proof.Scale.lean ====
/-
  The power-of-two scale of one row, the two ways it is computed.

  `t` is the row's greatest magnitude over 448. The reference takes e = ⌊log t / log 2⌋ + 1 for t in [2⁻¹²⁶, 2¹²⁰) and e = 0
  otherwise, and the scale 2ᵉ. The kernel finds the greatest exponent field k whose power of two 2ᵏ⁻¹²⁷ is at most t, takes
  e = k - 126 (0 for the fields 0 and 255), and writes the word of the float 2ᵉ. The two agree at every extended real t.
-/
module

public import proofs.«01_k».proof.Defs
public import proofs.«01_k».proof.Proof.ScaleFold
public import Idealize.ShloMosaic.Lib.Pipeline.ValueKit
public import Idealize.ShloMosaic.Lib.Tactic

@[expose] public section

set_option maxRecDepth 16384

noncomputable section

namespace Cert.Scale

open Idealize.ShloMosaic

/-- The float whose word is the exponent field `n` alone. -/
abbrev word (n : BitVec 32) : EReal := Ideal.ofBits FTy.f32 (IntOp.shli ArithUnit.vector n 23#32)

/-- The greatest field whose power of two is at most `t`; 255 from 2¹²⁰ on. -/
def field (t : EReal) : BitVec 32 :=
  if Ideal.ofBits FTy.f32 2071986176#32 ≤ t then 255#32
  else Finset.fold IntOp.maxsi (2147483648#32) (fun k : Fin 256 => if word (BitVec.ofNat 32 k.val) ≤ t then BitVec.ofNat 32 k.val else 0#32) Finset.univ

/-- The kernel's exponent. -/
def expK (f : BitVec 32) : BitVec 32 :=
  Scalar.select (IntOp.ori (IntOp.cmpi CmpIPredicate.eq f 0#32) (IntOp.cmpi CmpIPredicate.eq f 255#32)) 0#32 (IntOp.subi f 126#32)

/-- The kernel's scale and its inverse. -/
def scaleK (t : EReal) : EReal := word (IntOp.addi (expK (field t)) 127#32)
def invK (t : EReal) : EReal := word (IntOp.subi 127#32 (expK (field t)))

open Classical in
/-- The reference's exponent. -/
def expR (t : EReal) : EReal :=
  if Ideal.ofBits FTy.f32 8388608#32 ≤ t ∧ t < Ideal.ofBits FTy.f32 2071986176#32 then
    Ideal.liftRound Int.floor (Ideal.div (Ideal.log t) (Ideal.log (Ideal.ofBits FTy.f32 1073741824#32))) + Ideal.ofBits FTy.f32 1065353216#32
  else Ideal.ofBits FTy.f32 0#32

/-- The reference's exponent as it is spelt, with a selection. -/
theorem expR_select (t : EReal) :
    Scalar.select (IntOp.andi (Ideal.cmp .oge t (Ideal.ofBits FTy.f32 8388608#32)) (Ideal.cmp .olt t (Ideal.ofBits FTy.f32 2071986176#32)))
      (Ideal.liftRound Int.floor (Ideal.div (Ideal.log t) (Ideal.log (Ideal.ofBits FTy.f32 1073741824#32))) + Ideal.ofBits FTy.f32 1065353216#32)
      (Ideal.ofBits FTy.f32 0#32) = expR t := by
  unfold expR Ideal.cmp
  by_cases h1 : Ideal.ofBits FTy.f32 8388608#32 ≤ t <;> by_cases h2 : t < Ideal.ofBits FTy.f32 2071986176#32 <;>
    simp [h1, h2, Scalar.select, IntOp.andi]

/-! ## The words -/

theorem word_bits : ∀ n : Fin 256,
    ((IntOp.shli ArithUnit.vector (BitVec.ofNat 32 n.val) 23#32).extractLsb' 31 1 == 1#1) = false
    ∧ ((IntOp.shli ArithUnit.vector (BitVec.ofNat 32 n.val) 23#32).extractLsb' 23 8).toNat = n.val
    ∧ ((IntOp.shli ArithUnit.vector (BitVec.ofNat 32 n.val) 23#32).extractLsb' 0 23).toNat = 0 := by decide +kernel

/-- A float with sign 0 and fraction 0, by its exponent field. -/
theorem ieee_pow (b : BitVec 32) (n : ℕ) (h1 : (b.extractLsb' (8 + 23) 1 == 1#1) = false) (h2 : (b.extractLsb' 23 8).toNat = n) (h3 : (b.extractLsb' 0 23).toNat = 0) :
    Ideal.ieee 8 23 b = if n = 255 then ⊤ else if n = 0 then 0 else (((2 : ℝ) ^ ((n : ℤ) - 127) : ℝ) : EReal) := by
  unfold Ideal.ieee
  simp only [h1, h2, h3]
  by_cases e1 : n = 255
  · subst e1; simp
  · by_cases e0 : n = 0
    · subst e0; simp
    · rw [if_neg (by norm_num; omega), if_neg e0, if_neg e1, if_neg e0]
      have : (2 : ℝ) ^ ((n : ℤ) - 127) = 2 ^ 23 * (2 : ℝ) ^ ((n : ℤ) - (2 ^ (8 - 1) - 1) - 23) := by
        rw [← zpow_natCast, ← zpow_add₀ (by norm_num)]
        congr 1
        push_cast
        ring
      rw [this]
      exact congrArg Real.toEReal (by norm_num)

theorem word_eq (n : Fin 256) : word (BitVec.ofNat 32 n.val) = if n.val = 255 then ⊤ else if n.val = 0 then 0 else (((2 : ℝ) ^ ((n.val : ℤ) - 127) : ℝ) : EReal) := by
  obtain ⟨h1, h2, h3⟩ := word_bits n
  unfold word
  generalize IntOp.shli ArithUnit.vector (BitVec.ofNat 32 n.val) 23#32 = b at h1 h2 h3 ⊢
  exact ieee_pow b n.val h1 h2 h3

theorem word_zero : word (BitVec.ofNat 32 0) = 0 := (word_eq 0).trans (by simp)
theorem word_top : word (BitVec.ofNat 32 255) = ⊤ := (word_eq 255).trans (by simp)
theorem word_pow (n : Fin 256) (h0 : 1 ≤ n.val) (h1 : n.val ≤ 254) : word (BitVec.ofNat 32 n.val) = (((2 : ℝ) ^ ((n.val : ℤ) - 127) : ℝ) : EReal) := by
  rw [word_eq, if_neg (by omega), if_neg (by omega)]

theorem lo_eq : Ideal.ofBits FTy.f32 8388608#32 = (((2 : ℝ) ^ (-126 : ℤ) : ℝ) : EReal) := word_pow 1 (by decide) (by decide)
theorem hi_eq : Ideal.ofBits FTy.f32 2071986176#32 = (((2 : ℝ) ^ (120 : ℤ) : ℝ) : EReal) := word_pow 247 (by decide) (by decide)
theorem two_eq : Ideal.ofBits FTy.f32 1073741824#32 = ((2 : ℝ) : EReal) := (word_pow 128 (by decide) (by decide)).trans (by norm_num)
theorem one_eq : Ideal.ofBits FTy.f32 1065353216#32 = ((1 : ℝ) : EReal) := (word_pow 127 (by decide) (by decide)).trans (by norm_num)
theorem zero_eq : Ideal.ofBits FTy.f32 0#32 = ((0 : ℝ) : EReal) := word_zero.trans (by simp)

/-! ## The field of a normal quotient -/

/-- Below the smallest normal number the field is 0. -/
theorem field_small (t : EReal) (h : t < Ideal.ofBits FTy.f32 8388608#32) : field t = 0#32 := by
  have hlo := lo_eq
  have hhi := hi_eq
  unfold field
  rw [if_neg]
  · refine Eq.trans (congrArg (fun f => Finset.fold IntOp.maxsi (2147483648#32) f Finset.univ) (funext fun x => ?_)) (fold_upto 0)
    by_cases hx : x.val = 0
    · have e : BitVec.ofNat 32 x.val = 0#32 := by rw [hx]
      simp only [e, ite_self]
    · rw [if_neg, if_neg (by show ¬ x.val ≤ 0; omega)]
      refine not_le.mpr (h.trans_le ?_)
      by_cases h255 : x.val = 255
      · rw [h255, word_top]; exact le_top
      · rw [word_pow x (by omega) (by omega), hlo, EReal.coe_le_coe_iff]
        exact zpow_le_zpow_right₀ (by norm_num) (by omega)
  · refine not_le.mpr (h.trans_le ?_)
    rw [hlo, hhi, EReal.coe_le_coe_iff]
    exact zpow_le_zpow_right₀ (by norm_num) (by norm_num)

/-- The field of r with 2ᵏ⁻¹²⁷ ≤ r < 2ᵏ⁻¹²⁶ is k. -/
theorem field_normal (r : ℝ) (k : Fin 256) (h0 : 1 ≤ k.val) (h1 : k.val ≤ 246) (hl : (2 : ℝ) ^ ((k.val : ℤ) - 127) ≤ r)
    (hu : r < (2 : ℝ) ^ ((k.val : ℤ) - 126)) : field (r : EReal) = BitVec.ofNat 32 k.val := by
  have hhi := hi_eq
  have hpos : (0 : ℝ) < (2 : ℝ) ^ ((k.val : ℤ) - 127) := by positivity
  unfold field
  rw [if_neg, ← fold_upto k]
  · congr 1
    funext x
    refine if_congr ?_ rfl rfl
    by_cases hx : x.val = 0
    · rw [hx, word_zero]
      simp only [Nat.zero_le, iff_true]
      exact_mod_cast (hpos.trans_le hl).le
    · by_cases h255 : x.val = 255
      · rw [h255, word_top]
        constructor
        · intro h; exact absurd (top_le_iff.mp h) (EReal.coe_ne_top r)
        · intro h; omega
      · rw [word_pow x (by omega) (by omega), EReal.coe_le_coe_iff]
        constructor
        · intro h
          have := lt_of_le_of_lt h hu
          rw [zpow_lt_zpow_iff_right₀ (by norm_num)] at this
          omega
        · intro h
          exact (zpow_le_zpow_right₀ (by norm_num) (by omega)).trans hl
  · rw [hhi, EReal.coe_le_coe_iff, not_le]
    exact hu.trans_le (zpow_le_zpow_right₀ (by norm_num) (by omega))

/-! ## The exponents -/

theorem exp_normal : ∀ k : Fin 256, 1 ≤ k.val → k.val ≤ 246 →
    IntOp.addi (expK (BitVec.ofNat 32 k.val)) 127#32 = BitVec.ofNat 32 (k.val + 1)
    ∧ IntOp.subi 127#32 (expK (BitVec.ofNat 32 k.val)) = BitVec.ofNat 32 (253 - k.val) := by decide +kernel

theorem exp_other : expK 0#32 = 0#32 ∧ expK 255#32 = 0#32 := by decide +kernel

theorem field_big (t : EReal) (h : Ideal.ofBits FTy.f32 2071986176#32 ≤ t) : field t = 255#32 := by
  unfold field; rw [if_pos h]

/-- Outside the range of normal quotients both exponents are 0. -/
theorem outside (t : EReal) (h : ¬(Ideal.ofBits FTy.f32 8388608#32 ≤ t ∧ t < Ideal.ofBits FTy.f32 2071986176#32)) : expK (field t) = 0#32 ∧ expR t = 0 := by
  constructor
  · by_cases hl : Ideal.ofBits FTy.f32 8388608#32 ≤ t
    · rw [field_big t (not_lt.mp fun h' => h ⟨hl, h'⟩), exp_other.2]
    · rw [field_small t (not_le.mp hl), exp_other.1]
  · unfold expR; rw [if_neg h, zero_eq]; rfl

/-- Inside it both are the exponent e with 2ᵉ⁻¹ ≤ t < 2ᵉ. -/
theorem inside (t : EReal) (h : Ideal.ofBits FTy.f32 8388608#32 ≤ t ∧ t < Ideal.ofBits FTy.f32 2071986176#32) :
    ∃ k : Fin 256, 1 ≤ k.val ∧ k.val ≤ 246 ∧ field t = BitVec.ofNat 32 k.val ∧ expR t = ((((k.val : ℤ) - 126 : ℤ) : ℝ) : EReal) := by
  have hexp : expR t = Ideal.liftRound Int.floor (Ideal.div (Ideal.log t) (Ideal.log (Ideal.ofBits FTy.f32 1073741824#32))) + Ideal.ofBits FTy.f32 1065353216#32 := by
    unfold expR; rw [if_pos h]
  rw [lo_eq, hi_eq] at h
  obtain ⟨hl, hu⟩ := h
  induction t with
  | bot => exact absurd hl (by simp)
  | top => exact absurd hu (by simp)
  | coe r =>
    rw [EReal.coe_le_coe_iff] at hl
    rw [EReal.coe_lt_coe_iff] at hu
    have hr : 0 < r := lt_of_lt_of_le (by positivity) hl
    have hlog2 : Real.log 2 ≠ 0 := (Real.log_pos (by norm_num)).ne'
    set z : ℤ := ⌊Real.log r / Real.log 2⌋ with hz
    have e1 : expR (r : EReal) = (((z + 1 : ℤ) : ℝ) : EReal) := by
      rw [hexp, two_eq, one_eq, Ideal.log_coe, Ideal.log_coe, if_neg (not_le.mpr hr), if_neg (by norm_num)]
      unfold Ideal.div
      rw [if_neg (by exact_mod_cast hlog2), ← EReal.coe_inv, ← EReal.coe_mul, ← div_eq_mul_inv]
      show ((((⌊Real.log r / Real.log 2⌋ : ℤ) : ℝ) : EReal)) + _ = _
      rw [← EReal.coe_add, ← hz]
      push_cast
      rfl
    have l2 : 0 < Real.log 2 := Real.log_pos (by norm_num)
    have f1 : (2 : ℝ) ^ z ≤ r := by
      have := Int.floor_le (Real.log r / Real.log 2)
      rw [← hz, le_div_iff₀ l2, ← Real.log_zpow] at this
      exact (Real.log_le_log_iff (by positivity) hr).mp this
    have f2 : r < (2 : ℝ) ^ (z + 1) := by
      have := Int.lt_floor_add_one (Real.log r / Real.log 2)
      rw [← hz, div_lt_iff₀ l2, show ((z : ℝ) + 1) = ((z + 1 : ℤ) : ℝ) by push_cast; rfl, ← Real.log_zpow] at this
      exact (Real.log_lt_log_iff hr (by positivity)).mp this
    have z1 : -126 < z + 1 := by
      have := lt_of_le_of_lt hl f2
      rwa [zpow_lt_zpow_iff_right₀ (by norm_num)] at this
    have z2 : z < 120 := by
      have := lt_of_le_of_lt f1 hu
      rwa [zpow_lt_zpow_iff_right₀ (by norm_num)] at this
    obtain ⟨n, hn⟩ : ∃ n : ℕ, z + 127 = n := Int.eq_ofNat_of_zero_le (by omega)
    refine ⟨⟨n, by omega⟩, ?_, ?_, ?_, ?_⟩
    · dsimp only; omega
    · dsimp only; omega
    · refine field_normal r _ (by dsimp only; omega) (by dsimp only; omega) ?_ ?_
      · dsimp only; rw [show (n : ℤ) - 127 = z by omega]; exact f1
      · dsimp only; rw [show (n : ℤ) - 126 = z + 1 by omega]; exact f2
    · dsimp only; rw [e1, show (n : ℤ) - 126 = z + 1 by omega]

theorem exp2_int (z : ℤ) : Ideal.exp2 (((z : ℝ)) : EReal) = (((2 : ℝ) ^ z : ℝ) : EReal) := by
  rw [Ideal.exp2_coe]
  congr 1
  exact Real.rpow_intCast 2 z

/-- The kernel's scale is the reference's. -/
theorem scale_eq (t : EReal) : scaleK t = Ideal.exp2 (expR t) := by
  unfold scaleK
  by_cases h : Ideal.ofBits FTy.f32 8388608#32 ≤ t ∧ t < Ideal.ofBits FTy.f32 2071986176#32
  · obtain ⟨k, h0, h1, hf, he⟩ := inside t h
    rw [hf, he, (exp_normal k h0 h1).1, exp2_int]
    refine (word_pow ⟨k.val + 1, by omega⟩ (by dsimp only; omega) (by dsimp only; omega)).trans ?_
    dsimp only
    congr 2
    push_cast
    ring
  · obtain ⟨h1, h2⟩ := outside t h
    rw [h1, h2]
    refine (one_eq).trans ?_
    have := exp2_int 0
    rw [zpow_zero] at this
    rw [← this]
    norm_num

/-- The kernel's inverse scale is the reference's. -/
theorem inv_eq (t : EReal) : invK t = Ideal.exp2 (Ideal.ofBits FTy.f32 0#32 - expR t) := by
  unfold invK
  by_cases h : Ideal.ofBits FTy.f32 8388608#32 ≤ t ∧ t < Ideal.ofBits FTy.f32 2071986176#32
  · obtain ⟨k, h0, h1, hf, he⟩ := inside t h
    rw [hf, he, (exp_normal k h0 h1).2, zero_eq, ← EReal.coe_sub, show (0 : ℝ) - (((k.val : ℤ) - 126 : ℤ) : ℝ) = ((126 - (k.val : ℤ) : ℤ) : ℝ) by push_cast; ring, exp2_int]
    refine (word_pow ⟨253 - k.val, by omega⟩ (by dsimp only; omega) (by dsimp only; omega)).trans ?_
    dsimp only
    congr 2
    omega
  · obtain ⟨h1, h2⟩ := outside t h
    rw [h1, h2, zero_eq]
    refine (one_eq).trans ?_
    have := exp2_int 0
    rw [zpow_zero] at this
    rw [← this]
    norm_num

end Cert.Scale

end
-- ==== Proof.Quant.lean ====
/-
  The quantiser of one row, over the extended reals.

  A row `f` has the quotient `quot f` = max|f| / 448, the scale 2ᵉ with e the exponent of the quotient, and the codes: the
  row times 2⁻ᵉ, clipped to ±448.
-/
module

public import proofs.«01_k».proof.Proof.Scale

@[expose] public section

noncomputable section

namespace Cert.Quant

open Idealize.ShloMosaic

/-- The magnitude of an extended real. -/
abbrev mag (y : EReal) : EReal := FloatOps.absf (F := Ideal) (φ := .f32) y

/-- A row's greatest magnitude. -/
abbrev top {n : ℕ} (f : Fin n → EReal) : EReal := Finset.fold max (Ideal.ofBits FTy.f32 4286578688#32) (fun k => mag (f k)) Finset.univ

/-- A row's greatest magnitude over 448. -/
def quot {n : ℕ} (f : Fin n → EReal) : EReal := top f * Ideal.ofBits FTy.f32 991054117#32

/-- A row's scale. -/
def scale {n : ℕ} (f : Fin n → EReal) : EReal := Ideal.exp2 (Scale.expR (quot f))

/-- A number times an inverse scale, clipped. -/
def clip (y inv : EReal) : EReal := min (Ideal.ofBits FTy.f32 1138753536#32) (max (Ideal.ofBits FTy.f32 3286237184#32) (y * inv))

/-- A row's codes. -/
def code {n : ℕ} (f : Fin n → EReal) (i : Fin n) : EReal := clip (f i) (Ideal.exp2 (Ideal.ofBits FTy.f32 0#32 - Scale.expR (quot f)))

end Cert.Quant

end
-- ==== Proof.NormBlock.lean ====
/-
  The normalisation and quantisation, block by block.

  `row x g r c` is the normalised row r at column c: x[r, c] times the reciprocal root of the row's mean square plus the
  epsilon, times the gain of column c. The pipelined kernel normalises 256 rows at each grid point, each row whole, and
  writes their codes and scales (Quant.lean); its blocks tile the two results.
-/
module

public import proofs.«01_k».proof.Proof.Quant
public import proofs.«01_k».proof.Proof.Gen.NormKernelIdeal.Frame

@[expose] public section

set_option maxRecDepth 16384

noncomputable section

namespace Cert.Norm

open Idealize.ShloMosaic

/-- The normalised row r at column c. -/
def row (x : Fin 4096 → Fin 5120 → EReal) (g : Fin 5120 → EReal) (r : Fin 4096) (c : Fin 5120) : EReal :=
  x r c * Ideal.rsqrt (Ideal.div (∑ k : Fin 5120, x r k * x r k) (Ideal.ofBits FTy.f32 1168113664#32) + Ideal.ofBits FTy.f32 897988541#32) * g c

/-- The codes and the scales of the normalised rows. -/
def codes (x : Fin 4096 → Fin 5120 → EReal) (g : Fin 5120 → EReal) : Vec Ideal ⟨2, ![4096, 5120]⟩ .fp8e4m3 := fun i => Quant.code (row x g (i 0)) (i 1)
def scales (x : Fin 4096 → Fin 5120 → EReal) (g : Fin 5120 → EReal) : Vec Ideal ⟨2, ![4096, 1]⟩ .f32 := fun i => Quant.scale (row x g (i 0))

end Cert.Norm

namespace Cert.NormKernelIdeal.Block

open Cert.NormKernelIdeal Cert.NormKernelIdeal.Gen Idealize.ShloMosaic Idealize.ShloMosaic.TcCoe Idealize.SL.Sem
open Idealize.ShloMosaic.Pipeline (Dat)

/-- The normalised block at row a and column b. -/
theorem normed (x : Vec Ideal S256x5120 .bf16) (g : Vec Ideal S1x5120 .f32) (a : Fin 256) (b : Fin 5120) :
    k0_pay4 (F := Ideal) x g (ix2 a b)
      = (x (ix2 a b) * Ideal.rsqrt (Ideal.div (∑ k : Fin 5120, x (ix2 a k) * x (ix2 a k)) (Ideal.ofBits FTy.f32 1168113664#32) + Ideal.ofBits FTy.f32 897988541#32) * g (ix2 0 b) : EReal) := by
  unfold k0_pay4
  pointwise

/-- The column of quotients. -/
def col (v : FVec Ideal S256x5120 .f32) : FVec Ideal S256x1 .f32 :=
  mulf (shapeCast S256x1 (multiReduction .maximumf [1] S256 (absf v) 0xFF800000#32 reduces_S256x5120_S256 (.inl rfl) rfl) shapeCasts_S256_S256x1)
    (broadcast S256x1 (Scalar.ofBits .f32 0x3B124925#32))

theorem col_at (v : FVec Ideal S256x5120 .f32) (a : Fin 256) : col v (ix2 a 0) = Quant.quot fun k : Fin 5120 => v (ix2 a k) := by
  unfold col Quant.quot Quant.top Quant.mag
  generalize hw : absf v = w
  have e : ∀ k, FloatOps.absf (F := Ideal) (φ := .f32) (v (ix2 a k)) = w (ix2 a k) := fun k => by rw [← hw]; rfl
  simp only [e]
  clear hw e
  pointwise

/-- The exponent fields of a column of quotients. -/
def fields (T : FVec Ideal S256x1 .f32) : IVec S256x1 32 :=
  select (cmpf .oge T (broadcast S256x1 (Scalar.ofBits .f32 0x7B800000#32))) (broadcast S256x1 255#32)
    (shapeCast S256x1 (multiReductionI .maxsi [1] S256
      (select (cmpf .oge (broadcastTo S256x256 T broadcasts_S256x1_S256x256) (bitcastToFloat .f32 (shli (iota .tc S256x256 32 [1] iota_S256x256_d1_w32) (broadcast S256x256 23#32))))
        (iota .tc S256x256 32 [1] iota_S256x256_d1_w32) (broadcast S256x256 0#32))
      2147483648#32 reduces_S256x256_S256 rfl) shapeCasts_S256_S256x1)

theorem fields_at (T : FVec Ideal S256x1 .f32) (a : Fin 256) : fields T (ix2 a 0) = Scale.field (T (ix2 a 0)) := by
  unfold fields Scale.field Scale.word
  pointwise

theorem pay5_eq (x : Vec Ideal S256x5120 .bf16) (g : Vec Ideal S1x5120 .f32) : k0_pay5 (F := Ideal) x g = fields (col (k0_pay4 x g)) := rfl

/-- The exponents. -/
theorem exps (x : Vec Ideal S256x5120 .bf16) (g : Vec Ideal S1x5120 .f32) (i : S256x1.Idx) :
    k0_pay1 (k0_pay5 (F := Ideal) x g) (k0_pay6 x g) k0_pay7 i = Scale.expK (k0_pay5 (F := Ideal) x g i) := rfl

theorem scale_at (x : Vec Ideal S256x5120 .bf16) (g : Vec Ideal S1x5120 .f32) (a : Fin 256) :
    k0_pay2 (F := Ideal) (k0_pay5 (F := Ideal) x g) (k0_pay6 x g) k0_pay7 (ix2 a 0) = Quant.scale fun k : Fin 5120 => k0_pay4 (F := Ideal) x g (ix2 a k) := by
  have e : k0_pay2 (F := Ideal) (k0_pay5 (F := Ideal) x g) (k0_pay6 x g) k0_pay7 (ix2 a 0)
      = Scale.word (IntOp.addi (k0_pay1 (k0_pay5 (F := Ideal) x g) (k0_pay6 x g) k0_pay7 (ix2 a 0)) 127#32) := rfl
  rw [e, exps, pay5_eq, fields_at, col_at]
  exact Scale.scale_eq _

theorem code_at (x : Vec Ideal S256x5120 .bf16) (g : Vec Ideal S1x5120 .f32) (a : Fin 256) (b : Fin 5120) :
    k0_pay3 (F := Ideal) (k0_pay4 x g) (k0_pay5 (F := Ideal) x g) (k0_pay6 x g) k0_pay7 (ix2 a b)
      = Quant.code (fun k : Fin 5120 => k0_pay4 (F := Ideal) x g (ix2 a k)) b := by
  have e : k0_pay3 (F := Ideal) (k0_pay4 x g) (k0_pay5 (F := Ideal) x g) (k0_pay6 x g) k0_pay7 (ix2 a b)
      = Quant.clip (k0_pay4 (F := Ideal) x g (ix2 a b)) (Scale.word (IntOp.subi 127#32 (k0_pay1 (k0_pay5 (F := Ideal) x g) (k0_pay6 x g) k0_pay7 (ix2 a 0)))) := by
    unfold k0_pay3 Quant.clip Scale.word
    generalize k0_pay4 x g = v
    generalize k0_pay1 (k0_pay5 (F := Ideal) x g) (k0_pay6 x g) k0_pay7 = w
    pointwise
  rw [e, exps, pay5_eq, fields_at, col_at]
  unfold Quant.code
  rw [← Scale.inv_eq]
  rfl

end Cert.NormKernelIdeal.Block

end
-- ==== Proof.NormArray.lean ====
/-
  The arrays the pipelined normalisation leaves.

  Each grid point's blocks of codes and of scales are those of 256 rows of the array, so the sixteen of them make the codes
  and scales of all the rows.
-/
module

public import proofs.«01_k».proof.Proof.NormBlock
public import Idealize.ShloMosaic.Lib.Pipeline.ValueKit
public import Idealize.ShloMosaic.Lib.Tactic

@[expose] public section

set_option maxRecDepth 16384

noncomputable section

namespace Cert.NormKernelIdeal.Block

open Cert.NormKernelIdeal Cert.NormKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array and the gain enter the call reshaped. -/
abbrev X (c : Dev nD) : Vec Ideal S4096x5120 .bf16 := shapeCast S4096x5120 (m ((c : Thread nD τ).loc main_arg0)) shapeCasts_S1x4096x5120_S4096x5120
abbrev G (c : Dev nD) : Vec Ideal S1x5120 .bf16 := shapeCast S1x5120 (m ((c : Thread nD τ).loc main_arg1)) shapeCasts_S5120_S1x5120
theorem V_x (c : Dev nD) : V m c main_v0 = X m c := by
  show StableHlo.after hostOps0 _ (Proc.devRef .tc main_v0) = _
  after_results
  rfl
theorem V_g (c : Dev nD) : V m c main_v2 = G m c := by
  show StableHlo.after hostOps0 _ (Proc.devRef .tc main_v2) = _
  after_results
  rfl

/-- The codes and the scales of the launched arguments. -/
abbrev codes (c : Dev nD) : Vec Ideal ⟨2, ![4096, 5120]⟩ .fp8e4m3 := Norm.codes (fun r k => X m c (ix2 r k)) fun k => G m c (ix2 0 k)
abbrev scales (c : Dev nD) : Vec Ideal ⟨2, ![4096, 1]⟩ .f32 := Norm.scales (fun r k => X m c (ix2 r k)) fun k => G m c (ix2 0 k)

/-- Which block each window is on at a grid point. -/
theorem index (t : Fin cfg0.N) : win0_0.index t = ![(grid0.coords t 0).val, 0] ∧ win0_1.index t = ![0, 0] ∧ win0_2.index t = ![(grid0.coords t 0).val, 0] ∧ win0_3.index t = ![(grid0.coords t 0).val, 0] :=
  (by decide +kernel : ∀ t : Fin grid0.N, win0_0.index t = ![(grid0.coords t 0).val, 0] ∧ win0_1.index t = ![0, 0] ∧ win0_2.index t = ![(grid0.coords t 0).val, 0] ∧ win0_3.index t = ![(grid0.coords t 0).val, 0]) t

/-- A block's normalised row is the whole array's. -/
theorem row_eq (c : Dev nD) (t : Fin cfg0.N) (a : Fin 256) (r : Fin 4096) (hr : r.val = (grid0.coords t 0).val * 256 + a.val) :
    (fun k : Fin 5120 => k0_pay4 (F := Ideal) (iblk m c 0 t) (iblk m c 1 t) (ix2 a k)) = Norm.row (fun r k => X m c (ix2 r k)) (fun k => G m c (ix2 0 k)) r := by
  obtain ⟨e0, e1, e2, e3⟩ := index t
  have r0 : ∀ k : Fin 5120, iblk m c 0 t (ix2 a k) = X m c (ix2 r k) := fun k => by
    rw [← V_x]
    blk_ext [iblk, e0, hr]
  have r1 : ∀ k : Fin 5120, iblk m c 1 t (ix2 0 k) = G m c (ix2 0 k) := fun k => by
    rw [← V_g]
    blk_ext [iblk, e1]
  funext k
  rw [normed]
  unfold Norm.row
  simp only [r0, r1]

/-- The blocks of codes are the blocks of the normalised rows' codes, and tile the array. -/
theorem codes_array (c : Dev nD) : (dats m 0 c).arrAt 2 cfg0.N = codes m c := by
  refine (dats m 0 c).arrAt_eq_of_covers 2 _ (by decide +kernel) fun t hf y => ?_
  have e := index t
  blk_simp
  rw [after0_2]
  unfold out0_2 k0_pay8 k0_pay9 k0_pay10
  frame_out
  obtain ⟨a, b, rfl⟩ : ∃ (a : Fin 256) (b : Fin 5120), y = ix2 a b := ⟨y 0, y 1, eq_ix2 y⟩
  rw [code_at, row_eq m c t a ((((View.whole main_v3_0).slice (win0_2.rect t)).emb (ix2 a b)) 0) (by first | (blk_simp [e.2.2.1]; try omega) | skip)]
  exact congrArg (Quant.code _) (Fin.ext (by blk_simp [e.2.2.1]))

theorem scales_array (c : Dev nD) : (dats m 0 c).arrAt 3 cfg0.N = scales m c := by
  refine (dats m 0 c).arrAt_eq_of_covers 3 _ (by decide +kernel) fun t hf y => ?_
  have e := index t
  blk_simp
  rw [after0_3]
  unfold out0_3 k0_pay8 k0_pay9 k0_pay10
  frame_out
  obtain ⟨a, b, rfl⟩ : ∃ (a : Fin 256) (b : Fin 1), y = ix2 a b := ⟨y 0, y 1, eq_ix2 y⟩
  obtain rfl : b = 0 := Subsingleton.elim _ _
  rw [scale_at, row_eq m c t a ((((View.whole main_v3_1).slice (win0_3.rect t)).emb (ix2 a 0)) 0) (by first | (blk_simp [e.2.2.2]; try omega) | skip)]
  rfl

/-- The run: the two results are the codes and scales of the normalised rows; the arguments are left as they were. -/
theorem run : θ_run defs (onTc (τ := τ) (main (F := Ideal))) ⟨m, fun _ => 0, ρ⟩ fun r => ∀ c : Dev nD,
      r.2.mem ((c : Thread nD τ).loc main_v3_0) = codes m c
      ∧ r.2.mem ((c : Thread nD τ).loc main_v3_1) = scales m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (codes_array m c), ((h c).1 3).trans (scales_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.NormKernelIdeal.Block

end
-- ==== Proof.NormWhole.lean ====
/-
  The normalisation and quantisation by the reference, on whole arrays.

  The reference normalises every row at once and quantises it with logarithms and powers of two; its results are
  `Norm.codes` and `Norm.scales` of the arguments.
-/
module

public import proofs.«01_k».proof.Proof.NormBlock
public import proofs.«01_k».proof.Proof.Gen.NormReferenceIdeal.Frame
public import Idealize.ShloMosaic.Lib.Pipeline.ValueKit
public import Idealize.ShloMosaic.Lib.Tactic

@[expose] public section

set_option maxRecDepth 16384

noncomputable section

namespace Cert.NormReferenceIdeal.Whole

open Cert.NormReferenceIdeal Cert.NormReferenceIdeal.Gen Idealize.ShloMosaic Idealize.ShloMosaic.TcCoe Idealize.SL.Sem
open Idealize.ShloMosaic.Pipeline (Dat)

/-- The normalised array at row a and column b. -/
theorem normed (x : Vec Ideal S4096x5120 .bf16) (g : Vec Ideal S1x5120 .bf16) (a : Fin 4096) (b : Fin 5120) :
    k0_pay3 (F := Ideal) x g (ix2 a b)
      = (x (ix2 a b) * Ideal.rsqrt (Ideal.div (∑ k : Fin 5120, x (ix2 a k) * x (ix2 a k)) (Ideal.ofBits FTy.f32 1168113664#32) + Ideal.ofBits FTy.f32 897988541#32) * g (ix2 0 b) : EReal) := by
  unfold k0_pay3
  pointwise

/-- The column of quotients. -/
def col (v : FVec Ideal S4096x5120 .f32) : FVec Ideal S4096x1 .f32 :=
  mulf (shapeCast S4096x1 (multiReduction .maximumf [1] S4096 (absf v) 0xFF800000#32 reduces_S4096x5120_S4096 (.inl rfl) rfl) shapeCasts_S4096_S4096x1)
    (broadcast S4096x1 (Scalar.ofBits .f32 0x3B124925#32))

/-- A vector of rows as a column. -/
theorem column (v : FVec Ideal S4096 .f32) (a : Fin 4096) : shapeCast S4096x1 v shapeCasts_S4096_S4096x1 (ix2 a 0) = v (ix1 a) := by
  pointwise

theorem col_at (v : FVec Ideal S4096x5120 .f32) (a : Fin 4096) : col v (ix2 a 0) = Quant.quot fun k : Fin 5120 => v (ix2 a k) := by
  have e : ∀ w : FVec Ideal S4096x1 .f32, mulf w (broadcast S4096x1 (Scalar.ofBits .f32 0x3B124925#32)) (ix2 a 0) = w (ix2 a 0) * Ideal.ofBits FTy.f32 991054117#32 := fun _ => rfl
  have f : multiReduction .maximumf [1] S4096 (absf v) 0xFF800000#32 reduces_S4096x5120_S4096 (.inl rfl) rfl (ix1 a) = Quant.top fun k : Fin 5120 => v (ix2 a k) := by
    refine (Ideal.multiReduction_maximumf_single (absf v) _ reduces_S4096x5120_S4096 _ _ (ix1 a)).trans ?_
    refine congrArg (fun f => Finset.fold max _ f Finset.univ) (funext fun k : Fin 5120 => congrArg (fun i => Quant.mag (v i)) ?_)
    funext d
    match d with
    | 0 => rfl
    | 1 => rfl
  unfold col Quant.quot
  rw [e, column, f]

/-- The exponent of a column of quotients, entry by entry. -/
def exps (T : FVec Ideal S4096x1 .f32) : FVec Ideal S4096x1 .f32 :=
  select (andi (cmpf .oge T (broadcast S4096x1 (Scalar.ofBits .f32 0x00800000#32))) (cmpf .olt T (broadcast S4096x1 (Scalar.ofBits .f32 0x7B800000#32))))
    (addf (floor (divf (log T) (log (broadcast S4096x1 (Scalar.ofBits .f32 0x40000000#32))))) (broadcast S4096x1 (Scalar.ofBits .f32 0x3F800000#32)))
    (broadcast S4096x1 (Scalar.ofBits .f32 0x00000000#32))

theorem exps_at (T : FVec Ideal S4096x1 .f32) (i : S4096x1.Idx) : exps T i = Scale.expR (T i) := (Scale.expR_select (T i) : _)

theorem pay4_eq (x : Vec Ideal S4096x5120 .bf16) (g : Vec Ideal S1x5120 .bf16) : k0_pay4 (F := Ideal) x g = exps (col (k0_pay3 x g)) := rfl

theorem scale_at (x : Vec Ideal S4096x5120 .bf16) (g : Vec Ideal S1x5120 .bf16) (a : Fin 4096) :
    k0_pay2 (F := Ideal) (k0_pay4 x g) (ix2 a 0) = Quant.scale fun k : Fin 5120 => k0_pay3 (F := Ideal) x g (ix2 a k) := by
  have e : ∀ w : FVec Ideal S4096x1 .f32, k0_pay2 (F := Ideal) w (ix2 a 0) = Ideal.exp2 (w (ix2 a 0)) := fun _ => rfl
  rw [e, pay4_eq, exps_at, col_at]
  unfold Quant.scale
  with_reducible rfl

/-- A column spread over the lanes reads its row's entry. -/
theorem spread (T : FVec Ideal S4096x1 .f32) (a : Fin 4096) (b : Fin 5120) :
    broadcastTo S4096x5120 T broadcasts_S4096x1_S4096x5120 (ix2 a b) = T (ix2 a 0) := by
  pointwise

theorem code_at (x : Vec Ideal S4096x5120 .bf16) (g : Vec Ideal S1x5120 .bf16) (a : Fin 4096) (b : Fin 5120) :
    k0_pay1 (F := Ideal) (k0_pay5 x g) (Scalar.ofBits .f32 0x43E00000#32) (k0_pay6 (F := Ideal)) (ix2 a b)
      = Quant.code (fun k : Fin 5120 => k0_pay3 (F := Ideal) x g (ix2 a k)) b := by
  have e : ∀ v w : FVec Ideal S4096x5120 .f32, k0_pay1 (F := Ideal) (mulf v w) (Scalar.ofBits .f32 0x43E00000#32) (k0_pay6 (F := Ideal)) (ix2 a b)
      = Quant.clip (v (ix2 a b)) (w (ix2 a b)) := fun _ _ => rfl
  have e' : ∀ w : FVec Ideal S4096x1 .f32, exp2 (subf (broadcast S4096x1 (Scalar.ofBits (F := Ideal) .f32 0x00000000#32)) w) (ix2 a 0)
      = Ideal.exp2 (Ideal.ofBits FTy.f32 0#32 - w (ix2 a 0)) := fun _ => rfl
  unfold k0_pay5 Quant.code
  dsimp only
  rw [e, spread, e', pay4_eq, exps_at, col_at]

variable (m : (ℓ : Loc nD τ sig) → Buf (Elt Ideal) ℓ) (ρ : Dev nD → PrngReg)

/-- The array and the gain enter the call reshaped. -/
abbrev X (c : Dev nD) : Vec Ideal S4096x5120 .bf16 := shapeCast S4096x5120 (m ((c : Thread nD τ).loc main_arg0)) shapeCasts_S1x4096x5120_S4096x5120
abbrev G (c : Dev nD) : Vec Ideal S1x5120 .bf16 := shapeCast S1x5120 (m ((c : Thread nD τ).loc main_arg1)) shapeCasts_S5120_S1x5120
theorem V_x (c : Dev nD) : V m c main_v0 = X m c := by
  show StableHlo.after hostOps0 _ (Proc.devRef .tc main_v0) = _
  after_results
  rfl
theorem V_g (c : Dev nD) : V m c main_v1 = G m c := by
  show StableHlo.after hostOps0 _ (Proc.devRef .tc main_v1) = _
  after_results
  rfl

/-- The codes and the scales of the launched arguments. -/
abbrev codes (c : Dev nD) : Vec Ideal ⟨2, ![4096, 5120]⟩ .fp8e4m3 := Norm.codes (fun r k => X m c (ix2 r k)) fun k => G m c (ix2 0 k)
abbrev scales (c : Dev nD) : Vec Ideal ⟨2, ![4096, 1]⟩ .f32 := Norm.scales (fun r k => X m c (ix2 r k)) fun k => G m c (ix2 0 k)

/-- Which block each window is on at a grid point. -/
theorem index (t : Fin cfg0.N) : win0_0.index t = ![0, 0] ∧ win0_1.index t = ![0, 0] ∧ win0_2.index t = ![0, 0] ∧ win0_3.index t = ![0, 0] :=
  (by decide +kernel : ∀ t : Fin grid0.N, win0_0.index t = ![0, 0] ∧ win0_1.index t = ![0, 0] ∧ win0_2.index t = ![0, 0] ∧ win0_3.index t = ![0, 0]) t

/-- A block's normalised row is the whole array's. -/
theorem row_eq (c : Dev nD) (t : Fin cfg0.N) (a : Fin 4096) (r : Fin 4096) (hr : r.val = a.val) :
    (fun k : Fin 5120 => k0_pay3 (F := Ideal) (iblk m c 0 t) (iblk m c 1 t) (ix2 a k)) = Norm.row (fun r k => X m c (ix2 r k)) (fun k => G m c (ix2 0 k)) r := by
  obtain ⟨e0, e1, e2, e3⟩ := index t
  have r0 : ∀ k : Fin 5120, iblk m c 0 t (ix2 a k) = X m c (ix2 r k) := fun k => by
    rw [← V_x]
    blk_ext [iblk, e0, hr]
  have r1 : ∀ k : Fin 5120, iblk m c 1 t (ix2 0 k) = G m c (ix2 0 k) := fun k => by
    rw [← V_g]
    blk_ext [iblk, e1]
  funext k
  rw [normed]
  unfold Norm.row
  simp only [r0, r1]

/-- The blocks of codes are the blocks of the normalised rows' codes, and tile the array. -/
theorem codes_array (c : Dev nD) : (dats m 0 c).arrAt 2 cfg0.N = codes m c := by
  refine (dats m 0 c).arrAt_eq_of_covers 2 _ (by decide +kernel) fun t hf y => ?_
  have e := index t
  blk_simp
  rw [after0_2]
  frame_out
  obtain ⟨a, b, rfl⟩ : ∃ (a : Fin 4096) (b : Fin 5120), y = ix2 a b := ⟨y 0, y 1, eq_ix2 y⟩
  rw [code_at, row_eq m c t a ((((View.whole main_v2_0).slice (win0_2.rect t)).emb (ix2 a b)) 0) (by first | (blk_simp [e.2.2.1]; try omega) | skip)]
  exact congrArg (Quant.code _) (Fin.ext (by blk_simp [e.2.2.1]))

theorem scales_array (c : Dev nD) : (dats m 0 c).arrAt 3 cfg0.N = scales m c := by
  refine (dats m 0 c).arrAt_eq_of_covers 3 _ (by decide +kernel) fun t hf y => ?_
  have e := index t
  blk_simp
  rw [after0_3]
  frame_out
  obtain ⟨a, b, rfl⟩ : ∃ (a : Fin 4096) (b : Fin 1), y = ix2 a b := ⟨y 0, y 1, eq_ix2 y⟩
  obtain rfl : b = 0 := Subsingleton.elim _ _
  rw [scale_at, row_eq m c t a ((((View.whole main_v2_1).slice (win0_3.rect t)).emb (ix2 a 0)) 0) (by first | (blk_simp [e.2.2.2]; try omega) | skip)]
  rfl

/-- The run: the two results are the codes and scales of the normalised rows; the arguments are left as they were. -/
theorem run : θ_run defs (onTc (τ := τ) (main (F := Ideal))) ⟨m, fun _ => 0, ρ⟩ fun r => ∀ c : Dev nD,
      r.2.mem ((c : Thread nD τ).loc main_v2_0) = codes m c
      ∧ r.2.mem ((c : Thread nD τ).loc main_v2_1) = scales m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (codes_array m c), ((h c).1 3).trans (scales_array m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.NormReferenceIdeal.Whole

end
-- ==== Proof.NormClaims.lean ====
/-
  The five claims about the normalisation: the frames are generated, and the kernel and the reference both leave
  `Norm.codes` and `Norm.scales` of their arguments.
-/
module

public import proofs.«01_k».proof.Defs
public import proofs.«01_k».proof.Proof.Gen.NormKernel
public import proofs.«01_k».proof.Proof.Gen.NormKernel.Frame
public import proofs.«01_k».proof.Proof.NormArray
public import proofs.«01_k».proof.Proof.NormWhole

@[expose] public section

noncomputable section

namespace Cert.Proof.Norm

open Idealize.ShloMosaic Idealize.ShloMosaic.TcCoe Idealize.SL.Sem

theorem frame_kernel : Cert.quiescent_NormKernel := fun m ρ _ => Cert.NormKernel.Gen.frame m ρ
theorem frame_ideal : Cert.quiescent_NormKernelIdeal := fun m ρ _ => Cert.NormKernelIdeal.Gen.frame m ρ
theorem frame_reference : Cert.quiescent_NormReferenceIdeal := fun m ρ _ => Cert.NormReferenceIdeal.Gen.frame m ρ

/-- Over the extended reals, equal arguments give equal codes and scales. -/
theorem algebraic : Cert.algebraic_NormKernelIdeal_NormReferenceIdeal := by
  intro m ρ m' ρ' _ hagree
  refine ⟨fun c => Cert.NormKernelIdeal.Block.codes m c, fun c => Cert.NormKernelIdeal.Block.scales m c, Cert.NormKernelIdeal.Block.run m ρ, ?_⟩
  refine (θ_run Cert.NormReferenceIdeal.defs _ _).mono (fun _ h c => ⟨(h c).1.trans ?_, (h c).2.1.trans ?_, (h c).2.2⟩)
    (Cert.NormReferenceIdeal.Whole.run m' ρ')
  · unfold Cert.NormKernelIdeal.Block.codes Cert.NormReferenceIdeal.Whole.codes Cert.NormKernelIdeal.Block.X Cert.NormKernelIdeal.Block.G
      Cert.NormReferenceIdeal.Whole.X Cert.NormReferenceIdeal.Whole.G
    rw [(hagree c).1, (hagree c).2]
  · unfold Cert.NormKernelIdeal.Block.scales Cert.NormReferenceIdeal.Whole.scales Cert.NormKernelIdeal.Block.X Cert.NormKernelIdeal.Block.G
      Cert.NormReferenceIdeal.Whole.X Cert.NormReferenceIdeal.Whole.G
    rw [(hagree c).1, (hagree c).2]

end Cert.Proof.Norm

end
-- ==== Proof.InTriplesP.lean ====
/-
  One grid point of the input projection, as a triple over its memrefs.

  The grid is (4 blocks of 1024 rows) x (42 steps). At steps 0..4 the body stores one block of `q`, at step 5 the block of
  `k`, at step 6 the block of `v`; at the steps 7..41 it rearranges the staged weights into a scratch (`perm`), stores one
  slab of hidden values into a second scratch (`slab`), and updates the running lane maximum in a third (`amax`); at
  step 41 it also stores the codes and the scale of the 1024 rows. Each case is one triple below: what is stored is
  named as a function of what the memrefs hold.
-/
module

public import proofs.«01_k».proof.Proof.Gen.InKernel.Loops
public import proofs.«01_k».proof.Proof.Gen.InKernel.Frame

@[expose] public section

set_option maxRecDepth 16384

noncomputable section

namespace Cert.InKernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InKernel Cert.InKernel.Gen

variable {F : FTy → Type} [FloatOps F]

local notation "𝕄" => MT nD τ sig Unit (Elt F) ℕ (UR sig nD τ) ℕ

/-! ## The rectangles the body reads and stores -/

abbrev rX : Rect S1024x5120 := Rect.unit (s := S1024x5120) ![0, 0] S1024x5120.size inb_S1024x5120_S1024x5120_0_0
abbrev rS : Rect S1024x1 := Rect.unit (s := S1024x1) ![0, 0] S1024x1.size inb_S1024x1_S1024x1_0_0
abbrev rW : Rect S5120x256 := Rect.unit (s := S5120x256) ![0, 0] S5120x256.size inb_S5120x256_S5120x256_0_0
abbrev rC : Rect S1x256 := Rect.unit (s := S1x256) ![0, 0] S1x256.size inb_S1x256_S1x256_0_0
abbrev rC0 : Rect S1x256 := Rect.unit (s := S1x256) ![0, 0] S1x128.size inb_S1x256_S1x128_0_0
abbrev rC1 : Rect S1x256 := Rect.unit (s := S1x256) ![0, 128] S1x128.size inb_S1x256_S1x128_0_128
abbrev rQ0 : Rect S2x1024x128 := Rect.unit (s := S2x1024x128) ![0, 0, 0] S1x1024x128.size inb_S2x1024x128_S1x1024x128_0_0_0
abbrev rQ1 : Rect S2x1024x128 := Rect.unit (s := S2x1024x128) ![1, 0, 0] S1x1024x128.size inb_S2x1024x128_S1x1024x128_1_0_0
abbrev rK : Rect S1024x256 := Rect.unit (s := S1024x256) ![0, 0] S1024x256.size inb_S1024x256_S1024x256_0_0
abbrev rA : Rect S1024x128 := Rect.unit (s := S1024x128) ![0, 0] S1024x128.size inb_S1024x128_S1024x128_0_0
/-- The rows `256 k ..< 256 k + 256` of the left and of the right half of the weights: what trip `k` rearranges. -/
abbrev rL (i : grid0.Coords) (h5 : k0_cond5 i = 1#1) (k : Fin k0_t1_loop.trips) : Rect S5120x256 := Rect.unit (s := S5120x256) (k0_off1 k) S256x128.size (k0_off1_inb i k h5)
abbrev rR (i : grid0.Coords) (h5 : k0_cond5 i = 1#1) (k : Fin k0_t1_loop.trips) : Rect S5120x256 := Rect.unit (s := S5120x256) (k0_off2 k) S256x128.size (k0_off2_inb i k h5)
/-- The slab of hidden values the point stores. -/
abbrev rH (i : grid0.Coords) (h5 : k0_cond5 i = 1#1) : Rect S35x1024x128 := Rect.unit (s := S35x1024x128) (k0_off3 i) S1x1024x128.size (k0_off3_inb i h5)

/-- The 35 slabs of hidden values, and the 35 column blocks of the codes. -/
abbrev rT0 : Rect S35x1024x128 := Rect.unit (s := S35x1024x128) ![0, 0, 0] S1x1024x128.size inb_S35x1024x128_S1x1024x128_0_0_0
abbrev rU0 : Rect S1024x4480 := Rect.unit (s := S1024x4480) ![0, 0] S1024x128.size inb_S1024x4480_S1024x128_0_0
abbrev rT1 : Rect S35x1024x128 := Rect.unit (s := S35x1024x128) ![1, 0, 0] S1x1024x128.size inb_S35x1024x128_S1x1024x128_1_0_0
abbrev rU1 : Rect S1024x4480 := Rect.unit (s := S1024x4480) ![0, 128] S1024x128.size inb_S1024x4480_S1024x128_0_128
abbrev rT2 : Rect S35x1024x128 := Rect.unit (s := S35x1024x128) ![2, 0, 0] S1x1024x128.size inb_S35x1024x128_S1x1024x128_2_0_0
abbrev rU2 : Rect S1024x4480 := Rect.unit (s := S1024x4480) ![0, 256] S1024x128.size inb_S1024x4480_S1024x128_0_256
abbrev rT3 : Rect S35x1024x128 := Rect.unit (s := S35x1024x128) ![3, 0, 0] S1x1024x128.size inb_S35x1024x128_S1x1024x128_3_0_0
abbrev rU3 : Rect S1024x4480 := Rect.unit (s := S1024x4480) ![0, 384] S1024x128.size inb_S1024x4480_S1024x128_0_384
abbrev rT4 : Rect S35x1024x128 := Rect.unit (s := S35x1024x128) ![4, 0, 0] S1x1024x128.size inb_S35x1024x128_S1x1024x128_4_0_0
abbrev rU4 : Rect S1024x4480 := Rect.unit (s := S1024x4480) ![0, 512] S1024x128.size inb_S1024x4480_S1024x128_0_512
abbrev rT5 : Rect S35x1024x128 := Rect.unit (s := S35x1024x128) ![5, 0, 0] S1x1024x128.size inb_S35x1024x128_S1x1024x128_5_0_0
abbrev rU5 : Rect S1024x4480 := Rect.unit (s := S1024x4480) ![0, 640] S1024x128.size inb_S1024x4480_S1024x128_0_640
abbrev rT6 : Rect S35x1024x128 := Rect.unit (s := S35x1024x128) ![6, 0, 0] S1x1024x128.size inb_S35x1024x128_S1x1024x128_6_0_0
abbrev rU6 : Rect S1024x4480 := Rect.unit (s := S1024x4480) ![0, 768] S1024x128.size inb_S1024x4480_S1024x128_0_768
abbrev rT7 : Rect S35x1024x128 := Rect.unit (s := S35x1024x128) ![7, 0, 0] S1x1024x128.size inb_S35x1024x128_S1x1024x128_7_0_0
abbrev rU7 : Rect S1024x4480 := Rect.unit (s := S1024x4480) ![0, 896] S1024x128.size inb_S1024x4480_S1024x128_0_896
abbrev rT8 : Rect S35x1024x128 := Rect.unit (s := S35x1024x128) ![8, 0, 0] S1x1024x128.size inb_S35x1024x128_S1x1024x128_8_0_0
abbrev rU8 : Rect S1024x4480 := Rect.unit (s := S1024x4480) ![0, 1024] S1024x128.size inb_S1024x4480_S1024x128_0_1024
abbrev rT9 : Rect S35x1024x128 := Rect.unit (s := S35x1024x128) ![9, 0, 0] S1x1024x128.size inb_S35x1024x128_S1x1024x128_9_0_0
abbrev rU9 : Rect S1024x4480 := Rect.unit (s := S1024x4480) ![0, 1152] S1024x128.size inb_S1024x4480_S1024x128_0_1152
abbrev rT10 : Rect S35x1024x128 := Rect.unit (s := S35x1024x128) ![10, 0, 0] S1x1024x128.size inb_S35x1024x128_S1x1024x128_10_0_0
abbrev rU10 : Rect S1024x4480 := Rect.unit (s := S1024x4480) ![0, 1280] S1024x128.size inb_S1024x4480_S1024x128_0_1280
abbrev rT11 : Rect S35x1024x128 := Rect.unit (s := S35x1024x128) ![11, 0, 0] S1x1024x128.size inb_S35x1024x128_S1x1024x128_11_0_0
abbrev rU11 : Rect S1024x4480 := Rect.unit (s := S1024x4480) ![0, 1408] S1024x128.size inb_S1024x4480_S1024x128_0_1408
abbrev rT12 : Rect S35x1024x128 := Rect.unit (s := S35x1024x128) ![12, 0, 0] S1x1024x128.size inb_S35x1024x128_S1x1024x128_12_0_0
abbrev rU12 : Rect S1024x4480 := Rect.unit (s := S1024x4480) ![0, 1536] S1024x128.size inb_S1024x4480_S1024x128_0_1536
abbrev rT13 : Rect S35x1024x128 := Rect.unit (s := S35x1024x128) ![13, 0, 0] S1x1024x128.size inb_S35x1024x128_S1x1024x128_13_0_0
abbrev rU13 : Rect S1024x4480 := Rect.unit (s := S1024x4480) ![0, 1664] S1024x128.size inb_S1024x4480_S1024x128_0_1664
abbrev rT14 : Rect S35x1024x128 := Rect.unit (s := S35x1024x128) ![14, 0, 0] S1x1024x128.size inb_S35x1024x128_S1x1024x128_14_0_0
abbrev rU14 : Rect S1024x4480 := Rect.unit (s := S1024x4480) ![0, 1792] S1024x128.size inb_S1024x4480_S1024x128_0_1792
abbrev rT15 : Rect S35x1024x128 := Rect.unit (s := S35x1024x128) ![15, 0, 0] S1x1024x128.size inb_S35x1024x128_S1x1024x128_15_0_0
abbrev rU15 : Rect S1024x4480 := Rect.unit (s := S1024x4480) ![0, 1920] S1024x128.size inb_S1024x4480_S1024x128_0_1920
abbrev rT16 : Rect S35x1024x128 := Rect.unit (s := S35x1024x128) ![16, 0, 0] S1x1024x128.size inb_S35x1024x128_S1x1024x128_16_0_0
abbrev rU16 : Rect S1024x4480 := Rect.unit (s := S1024x4480) ![0, 2048] S1024x128.size inb_S1024x4480_S1024x128_0_2048
abbrev rT17 : Rect S35x1024x128 := Rect.unit (s := S35x1024x128) ![17, 0, 0] S1x1024x128.size inb_S35x1024x128_S1x1024x128_17_0_0
abbrev rU17 : Rect S1024x4480 := Rect.unit (s := S1024x4480) ![0, 2176] S1024x128.size inb_S1024x4480_S1024x128_0_2176
abbrev rT18 : Rect S35x1024x128 := Rect.unit (s := S35x1024x128) ![18, 0, 0] S1x1024x128.size inb_S35x1024x128_S1x1024x128_18_0_0
abbrev rU18 : Rect S1024x4480 := Rect.unit (s := S1024x4480) ![0, 2304] S1024x128.size inb_S1024x4480_S1024x128_0_2304
abbrev rT19 : Rect S35x1024x128 := Rect.unit (s := S35x1024x128) ![19, 0, 0] S1x1024x128.size inb_S35x1024x128_S1x1024x128_19_0_0
abbrev rU19 : Rect S1024x4480 := Rect.unit (s := S1024x4480) ![0, 2432] S1024x128.size inb_S1024x4480_S1024x128_0_2432
abbrev rT20 : Rect S35x1024x128 := Rect.unit (s := S35x1024x128) ![20, 0, 0] S1x1024x128.size inb_S35x1024x128_S1x1024x128_20_0_0
abbrev rU20 : Rect S1024x4480 := Rect.unit (s := S1024x4480) ![0, 2560] S1024x128.size inb_S1024x4480_S1024x128_0_2560
abbrev rT21 : Rect S35x1024x128 := Rect.unit (s := S35x1024x128) ![21, 0, 0] S1x1024x128.size inb_S35x1024x128_S1x1024x128_21_0_0
abbrev rU21 : Rect S1024x4480 := Rect.unit (s := S1024x4480) ![0, 2688] S1024x128.size inb_S1024x4480_S1024x128_0_2688
abbrev rT22 : Rect S35x1024x128 := Rect.unit (s := S35x1024x128) ![22, 0, 0] S1x1024x128.size inb_S35x1024x128_S1x1024x128_22_0_0
abbrev rU22 : Rect S1024x4480 := Rect.unit (s := S1024x4480) ![0, 2816] S1024x128.size inb_S1024x4480_S1024x128_0_2816
abbrev rT23 : Rect S35x1024x128 := Rect.unit (s := S35x1024x128) ![23, 0, 0] S1x1024x128.size inb_S35x1024x128_S1x1024x128_23_0_0
abbrev rU23 : Rect S1024x4480 := Rect.unit (s := S1024x4480) ![0, 2944] S1024x128.size inb_S1024x4480_S1024x128_0_2944
abbrev rT24 : Rect S35x1024x128 := Rect.unit (s := S35x1024x128) ![24, 0, 0] S1x1024x128.size inb_S35x1024x128_S1x1024x128_24_0_0
abbrev rU24 : Rect S1024x4480 := Rect.unit (s := S1024x4480) ![0, 3072] S1024x128.size inb_S1024x4480_S1024x128_0_3072
abbrev rT25 : Rect S35x1024x128 := Rect.unit (s := S35x1024x128) ![25, 0, 0] S1x1024x128.size inb_S35x1024x128_S1x1024x128_25_0_0
abbrev rU25 : Rect S1024x4480 := Rect.unit (s := S1024x4480) ![0, 3200] S1024x128.size inb_S1024x4480_S1024x128_0_3200
abbrev rT26 : Rect S35x1024x128 := Rect.unit (s := S35x1024x128) ![26, 0, 0] S1x1024x128.size inb_S35x1024x128_S1x1024x128_26_0_0
abbrev rU26 : Rect S1024x4480 := Rect.unit (s := S1024x4480) ![0, 3328] S1024x128.size inb_S1024x4480_S1024x128_0_3328
abbrev rT27 : Rect S35x1024x128 := Rect.unit (s := S35x1024x128) ![27, 0, 0] S1x1024x128.size inb_S35x1024x128_S1x1024x128_27_0_0
abbrev rU27 : Rect S1024x4480 := Rect.unit (s := S1024x4480) ![0, 3456] S1024x128.size inb_S1024x4480_S1024x128_0_3456
abbrev rT28 : Rect S35x1024x128 := Rect.unit (s := S35x1024x128) ![28, 0, 0] S1x1024x128.size inb_S35x1024x128_S1x1024x128_28_0_0
abbrev rU28 : Rect S1024x4480 := Rect.unit (s := S1024x4480) ![0, 3584] S1024x128.size inb_S1024x4480_S1024x128_0_3584
abbrev rT29 : Rect S35x1024x128 := Rect.unit (s := S35x1024x128) ![29, 0, 0] S1x1024x128.size inb_S35x1024x128_S1x1024x128_29_0_0
abbrev rU29 : Rect S1024x4480 := Rect.unit (s := S1024x4480) ![0, 3712] S1024x128.size inb_S1024x4480_S1024x128_0_3712
abbrev rT30 : Rect S35x1024x128 := Rect.unit (s := S35x1024x128) ![30, 0, 0] S1x1024x128.size inb_S35x1024x128_S1x1024x128_30_0_0
abbrev rU30 : Rect S1024x4480 := Rect.unit (s := S1024x4480) ![0, 3840] S1024x128.size inb_S1024x4480_S1024x128_0_3840
abbrev rT31 : Rect S35x1024x128 := Rect.unit (s := S35x1024x128) ![31, 0, 0] S1x1024x128.size inb_S35x1024x128_S1x1024x128_31_0_0
abbrev rU31 : Rect S1024x4480 := Rect.unit (s := S1024x4480) ![0, 3968] S1024x128.size inb_S1024x4480_S1024x128_0_3968
abbrev rT32 : Rect S35x1024x128 := Rect.unit (s := S35x1024x128) ![32, 0, 0] S1x1024x128.size inb_S35x1024x128_S1x1024x128_32_0_0
abbrev rU32 : Rect S1024x4480 := Rect.unit (s := S1024x4480) ![0, 4096] S1024x128.size inb_S1024x4480_S1024x128_0_4096
abbrev rT33 : Rect S35x1024x128 := Rect.unit (s := S35x1024x128) ![33, 0, 0] S1x1024x128.size inb_S35x1024x128_S1x1024x128_33_0_0
abbrev rU33 : Rect S1024x4480 := Rect.unit (s := S1024x4480) ![0, 4224] S1024x128.size inb_S1024x4480_S1024x128_0_4224
abbrev rT34 : Rect S35x1024x128 := Rect.unit (s := S35x1024x128) ![34, 0, 0] S1x1024x128.size inb_S35x1024x128_S1x1024x128_34_0_0
abbrev rU34 : Rect S1024x4480 := Rect.unit (s := S1024x4480) ![0, 4352] S1024x128.size inb_S1024x4480_S1024x128_0_4352

/-! ## The weights rearranged -/

/-- What trip `k` stores of the weights `w`: first the left half of its rows, then the right half (last first). -/
def tripPieces (i : grid0.Coords) (h5 : k0_cond5 i = 1#1) (w : Vec F S5120x256 .fp8e4m3) (k : Fin k0_t1_loop.trips) :
    List (View.Piece (Elt F) S5120x256 .fp8e4m3) :=
  [⟨rR i h5 k, k0_pay14 (k0_pay12 (View.ld w (rL i h5 k)) (View.ld w (rR i h5 k)))⟩,
   ⟨rL i h5 k, k0_pay13 (k0_pay11 (View.ld w (rL i h5 k)) (View.ld w (rR i h5 k)))⟩]

/-- What the trips before `k` store, last first. -/
def pieces (i : grid0.Coords) (h5 : k0_cond5 i = 1#1) (w : Vec F S5120x256 .fp8e4m3) : ℕ → List (View.Piece (Elt F) S5120x256 .fp8e4m3)
  | 0 => []
  | k + 1 => (if h : k < k0_t1_loop.trips then tripPieces i h5 w ⟨k, h⟩ else []) ++ pieces i h5 w k

/-- The rearranged weights: what the 20 trips leave in the scratch. -/
def perm (i : grid0.Coords) (h5 : k0_cond5 i = 1#1) (w : Vec F S5120x256 .fp8e4m3) : Vec F S5120x256 .fp8e4m3 :=
  View.canon (pieces i h5 w k0_t1_loop.trips)

theorem trips_eq : k0_t1_loop.trips = 20 := by decide +kernel

theorem off1_eq (k : Fin k0_t1_loop.trips) : k0_off1 k = ![256 * k.val, 0] := by revert k; decide +kernel

theorem off2_eq (k : Fin k0_t1_loop.trips) : k0_off2 k = ![256 * k.val, 128] := by revert k; decide +kernel

theorem mem_pieces (i : grid0.Coords) (h5 : k0_cond5 i = 1#1) (w : Vec F S5120x256 .fp8e4m3) (k : Fin k0_t1_loop.trips)
    (p : View.Piece (Elt F) S5120x256 .fp8e4m3) (hp : p ∈ tripPieces i h5 w k) :
    ∀ n, k.val < n → p ∈ pieces i h5 w n
  | n + 1, h => by
    rw [pieces]
    by_cases hk : k.val = n
    · refine List.mem_append_left _ ?_
      subst hk
      rw [dif_pos k.isLt]; exact hp
    · exact List.mem_append_right _ (mem_pieces i h5 w k p hp n (by omega))

/-- The 40 pieces cover the scratch: a row lies in the trip of its 256 rows, in the half of its lane. -/
theorem cover_pieces (i : grid0.Coords) (h5 : k0_cond5 i = 1#1) (w : Vec F S5120x256 .fp8e4m3) (y : S5120x256.Idx) :
    ∃ p ∈ pieces i h5 w k0_t1_loop.trips, y ∈ p.1.set := by
  have h0 : (y 0).val < 5120 := (y 0).isLt
  have h1 : (y 1).val < 256 := (y 1).isLt
  have hk : (y 0).val / 256 < k0_t1_loop.trips := by rw [trips_eq]; omega
  by_cases hl : (y 1).val < 128
  · refine ⟨⟨rL i h5 ⟨_, hk⟩, _⟩, mem_pieces i h5 w ⟨_, hk⟩ _ (List.mem_cons_of_mem _ List.mem_cons_self) _ hk, ?_⟩
    refine (Rect.mem_set_unit (inb := k0_off1_inb i ⟨_, hk⟩ h5)).mpr fun a => ?_
    rw [off1_eq]
    fin_cases a
    · show 256 * ((y 0).val / 256) ≤ (y 0).val ∧ (y 0).val < 256 * ((y 0).val / 256) + 256; omega
    · show 0 ≤ (y 1).val ∧ (y 1).val < 0 + 128; omega
  · refine ⟨⟨rR i h5 ⟨_, hk⟩, _⟩, mem_pieces i h5 w ⟨_, hk⟩ _ List.mem_cons_self _ hk, ?_⟩
    refine (Rect.mem_set_unit (inb := k0_off2_inb i ⟨_, hk⟩ h5)).mpr fun a => ?_
    rw [off2_eq]
    fin_cases a
    · show 256 * ((y 0).val / 256) ≤ (y 0).val ∧ (y 0).val < 256 * ((y 0).val / 256) + 256; omega
    · show 128 ≤ (y 1).val ∧ (y 1).val < 128 + 128; omega

/-- What one store leaves, read back. -/
theorem read_one {κ : Kind} {sp : Space} {s : Shape} {e : EltTy} (v : View sig κ sp s e) (f : v.ty.Contents (Elt F)) (r : Rect s) (p : r.shape.Idx → Elt F e) :
    v.read (Elt F) (v.writes (Elt F) f [⟨r, p⟩]) = r.overlay (v.read (Elt F) f) p := by
  funext y
  by_cases h : y ∈ r.set
  · obtain ⟨x, rfl⟩ : ∃ x, r.emb x = y := r.exists_idx_of_mem h
    rw [View.read_writes_cons_emb, r.overlay_emb]
  · rw [View.read_writes_cons_miss _ _ _ _ _ h, r.overlay_of_not_mem _ _ h]; rfl

section Trip

variable (𝒱 : Variants) (c : Dev nD) (bd : Option 𝒱.V) (i : grid0.Coords) (arg2 : Memref sig .tc .vmem S1024x5120 .fp8e4m3) (harg2 : arg2.IsWhole) (arg3 : Memref sig .tc .vmem S1024x1 .f32) (harg3 : arg3.IsWhole) (arg4 : Memref sig .tc .vmem S5120x256 .fp8e4m3) (harg4 : arg4.IsWhole) (arg5 : Memref sig .tc .vmem S1x256 .f32) (harg5 : arg5.IsWhole) (arg6 : Memref sig .tc .vmem S2x1024x128 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x4480 .fp8e4m3) (harg9 : arg9.IsWhole) (arg10 : Memref sig .tc .vmem S1024x1 .f32) (harg10 : arg10.IsWhole) (arg11 : Memref sig .tc .vmem S35x1024x128 .f32) (harg11 : arg11.IsWhole) (arg12 : Memref sig .tc .vmem S1024x128 .f32) (harg12 : arg12.IsWhole) (arg13 : Memref sig .tc .vmem S5120x256 .fp8e4m3) (harg13 : arg13.IsWhole) (k0_h5 : k0_cond5 i = 1#1) (X : BufTy.Contents (Elt F) arg4.view.ty)

/-- The pieces the loop's run names are the pieces above. -/
theorem loop_pieces : ∀ k, k ≤ k0_t1_loop.trips →
    pb_k0_t1 (F := F) 𝒱 c bd i arg2 harg2 arg3 harg3 arg4 harg4 arg5 harg5 arg6 harg6 arg7 harg7 arg8 harg8 arg9 harg9 arg10 harg10 arg11 harg11 arg12 harg12 arg13 harg13 k0_h5 X k = pieces i k0_h5 (arg4.view.read (Elt F) X) k
  | 0, _ => rfl
  | k + 1, h => by
    have hk : k < k0_t1_loop.trips := h
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 k0_h5 X ⟨k, hk⟩
    dsimp only at e
    rw [e, loop_pieces k (Nat.le_of_lt hk), pieces, dif_pos hk]
    congr 1
    unfold tripL_k0_t1 trip_k0_t1
    rfl

/-- The rearranged weights as the product loads them. -/
theorem load_perm (f : BufTy.Contents (Elt F) arg13.view.ty) :
    View.readAt (Elt F) arg13.view rW.toLoadRect (arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h5 X k0_t1_loop.trips))
      = View.ld (perm i k0_h5 (arg4.view.read (Elt F) X)) rW := by
  rw [View.readAt_eq_ld, loop_pieces (F := F) 𝒱 c bd i arg2 harg2 arg3 harg3 arg4 harg4 arg5 harg5 arg6 harg6 arg7 harg7 arg8 harg8 arg9 harg9 arg10 harg10 arg11 harg11 arg12 harg12 arg13 harg13 k0_h5 X _ (Nat.le_refl _), View.read_writes_eq_canon _ _ _ (cover_pieces i k0_h5 _)]
  rfl

end Trip

/-! ## What a point stores -/

/-- The slab of hidden values: one block of 128 lanes of `silu (gate) * up`. -/
def slab (i : grid0.Coords) (h5 : k0_cond5 i = 1#1) (x : Vec F S1024x5120 .fp8e4m3) (xs : Vec F S1024x1 .f32) (w : Vec F S5120x256 .fp8e4m3) (ws : Vec F S1x256 .f32) : Vec F S1x1024x128 .f32 :=
  k0_pay5 (k0_pay15 (View.ld ws rC1)) k0_pay16 k0_pay17 (k0_pay18 (View.ld ws rC0)) k0_pay19 k0_pay20 (View.ld (perm i h5 w) rW) (View.ld x rX) (View.ld xs rS)

/-- The running maximum of the slabs' magnitudes, from the one before. -/
def amax (i : grid0.Coords) (h5 : k0_cond5 i = 1#1) (x : Vec F S1024x5120 .fp8e4m3) (xs : Vec F S1024x1 .f32) (w : Vec F S5120x256 .fp8e4m3) (ws : Vec F S1x256 .f32) (A : Vec F S1024x128 .f32) : Vec F S1024x128 .f32 :=
  View.canon [⟨rA, k0_pay6 i (k0_pay15 (View.ld ws rC1)) k0_pay16 k0_pay17 (k0_pay18 (View.ld ws rC0)) k0_pay19 k0_pay20 (View.ld (perm i h5 w) rW) (View.ld x rX) (View.ld xs rS) (View.ld A rA)⟩]

/-- A block of `q`: two heads of 128 lanes. -/
def outQ (x : Vec F S1024x5120 .fp8e4m3) (xs : Vec F S1024x1 .f32) (w : Vec F S5120x256 .fp8e4m3) (ws : Vec F S1x256 .f32) : Vec F S2x1024x128 .bf16 :=
  View.canon [⟨rQ1, k0_pay3 (View.ld w rW) (View.ld x rX) (View.ld xs rS) (View.ld ws rC)⟩, ⟨rQ0, k0_pay2 (View.ld w rW) (View.ld x rX) (View.ld xs rS) (View.ld ws rC)⟩]

/-- A block of `k` or of `v`. -/
def outK (x : Vec F S1024x5120 .fp8e4m3) (xs : Vec F S1024x1 .f32) (w : Vec F S5120x256 .fp8e4m3) (ws : Vec F S1x256 .f32) : Vec F S1024x256 .bf16 :=
  View.canon [⟨rK, k0_pay1 (View.ld w rW) (View.ld x rX) (View.ld xs rS) (View.ld ws rC)⟩]

/-- The scale of the 1024 rows, from the lane maxima. -/
def outS (A : Vec F S1024x128 .f32) : Vec F S1024x1 .f32 := View.canon [⟨rS, k0_pay22 (View.ld A rA)⟩]

/-- The codes of one slab: the slab over the scale, clipped. -/
def code (A : Vec F S1024x128 .f32) (v : Vec F S1x1024x128 .f32) : FVec F S1024x128 .fp8e4m3 := k0_pay30 (k0_pay24 (k0_pay23 (View.ld A rA))) v

/-- The codes of the 35 slabs, side by side. -/
def outC (H : Vec F S35x1024x128 .f32) (A : Vec F S1024x128 .f32) : Vec F S1024x4480 .fp8e4m3 :=
  View.canon [⟨rU34, code A (View.ld H rT34)⟩, ⟨rU33, code A (View.ld H rT33)⟩, ⟨rU32, code A (View.ld H rT32)⟩, ⟨rU31, code A (View.ld H rT31)⟩, ⟨rU30, code A (View.ld H rT30)⟩, ⟨rU29, code A (View.ld H rT29)⟩, ⟨rU28, code A (View.ld H rT28)⟩, ⟨rU27, code A (View.ld H rT27)⟩, ⟨rU26, code A (View.ld H rT26)⟩, ⟨rU25, code A (View.ld H rT25)⟩, ⟨rU24, code A (View.ld H rT24)⟩, ⟨rU23, code A (View.ld H rT23)⟩, ⟨rU22, code A (View.ld H rT22)⟩, ⟨rU21, code A (View.ld H rT21)⟩, ⟨rU20, code A (View.ld H rT20)⟩, ⟨rU19, code A (View.ld H rT19)⟩, ⟨rU18, code A (View.ld H rT18)⟩, ⟨rU17, code A (View.ld H rT17)⟩, ⟨rU16, code A (View.ld H rT16)⟩, ⟨rU15, code A (View.ld H rT15)⟩, ⟨rU14, code A (View.ld H rT14)⟩, ⟨rU13, code A (View.ld H rT13)⟩, ⟨rU12, code A (View.ld H rT12)⟩, ⟨rU11, code A (View.ld H rT11)⟩, ⟨rU10, code A (View.ld H rT10)⟩, ⟨rU9, code A (View.ld H rT9)⟩, ⟨rU8, code A (View.ld H rT8)⟩, ⟨rU7, code A (View.ld H rT7)⟩, ⟨rU6, code A (View.ld H rT6)⟩, ⟨rU5, code A (View.ld H rT5)⟩, ⟨rU4, code A (View.ld H rT4)⟩, ⟨rU3, code A (View.ld H rT3)⟩, ⟨rU2, code A (View.ld H rT2)⟩, ⟨rU1, code A (View.ld H rT1)⟩, ⟨rU0, code A (View.ld H rT0)⟩]

theorem cover_S (p) (y : S1024x1.Idx) : ∃ pc ∈ ([⟨rS, p⟩] : List (View.Piece (Elt F) S1024x1 .f32)), y ∈ pc.1.set :=
  View.cover_of_tiled [⟨rS, p⟩] S1024x1.size (by rfl) y

theorem cover_Q (p q) (y : S2x1024x128.Idx) : ∃ pc ∈ ([⟨rQ1, p⟩, ⟨rQ0, q⟩] : List (View.Piece (Elt F) S2x1024x128 .bf16)), y ∈ pc.1.set :=
  View.cover_of_tiled [⟨rQ1, p⟩, ⟨rQ0, q⟩] S1x1024x128.size (by rfl) y

theorem cover_K (p) (y : S1024x256.Idx) : ∃ pc ∈ ([⟨rK, p⟩] : List (View.Piece (Elt F) S1024x256 .bf16)), y ∈ pc.1.set :=
  View.cover_of_tiled [⟨rK, p⟩] S1024x256.size (by rfl) y

theorem cover_A (p) (y : S1024x128.Idx) : ∃ pc ∈ ([⟨rA, p⟩] : List (View.Piece (Elt F) S1024x128 .f32)), y ∈ pc.1.set :=
  View.cover_of_tiled [⟨rA, p⟩] S1024x128.size (by rfl) y

/-! ## The triples -/

section Triples

variable (c : Dev nD) (E : Set ℕ) (i : grid0.Coords) (arg2 : Memref sig .tc .vmem S1024x5120 .fp8e4m3) (harg2 : arg2.IsWhole) (arg3 : Memref sig .tc .vmem S1024x1 .f32) (harg3 : arg3.IsWhole) (arg4 : Memref sig .tc .vmem S5120x256 .fp8e4m3) (harg4 : arg4.IsWhole) (arg5 : Memref sig .tc .vmem S1x256 .f32) (harg5 : arg5.IsWhole) (arg6 : Memref sig .tc .vmem S2x1024x128 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x4480 .fp8e4m3) (harg9 : arg9.IsWhole) (arg10 : Memref sig .tc .vmem S1024x1 .f32) (harg10 : arg10.IsWhole) (arg11 : Memref sig .tc .vmem S35x1024x128 .f32) (harg11 : arg11.IsWhole) (arg12 : Memref sig .tc .vmem S1024x128 .f32) (harg12 : arg12.IsWhole) (arg13 : Memref sig .tc .vmem S5120x256 .fp8e4m3) (harg13 : arg13.IsWhole)
  (x : Vec F S1024x5120 .fp8e4m3) (xs : Vec F S1024x1 .f32) (w : Vec F S5120x256 .fp8e4m3) (ws : Vec F S1x256 .f32)

/-- The four input blocks, read-only at every point. -/
abbrev ins : sProp 𝕄 :=
  iprop(owns (c : Thread nD τ) arg2 fullShare x ∗ owns (c : Thread nD τ) arg3 fullShare xs ∗ owns (c : Thread nD τ) arg4 fullShare w ∗ owns (c : Thread nD τ) arg5 fullShare ws)

set_option maxHeartbeats 2000000 in
/-- Steps 0..4: the block of `q`. -/
theorem triple_q (K : PUnit → sProp 𝕄) (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) :
    iprop(ins c arg2 arg3 arg4 arg5 x xs w ws ∗ (∃ d, owns (c : Thread nD τ) arg6 fullShare d)
        ∗ (iprop(ins c arg2 arg3 arg4 arg5 x xs w ws ∗ owns (c : Thread nD τ) arg6 fullShare (outQ x xs w ws)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%d5, %f5, -, H5⟩, Hk⟩
  subst hf0 hf1 hf2 hf3
  simp only [dif_pos h1, dif_pos h2, dif_neg h3, dif_neg h4, dif_neg h5, dif_neg h6]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H5
  ipureintro
  exact View.read_writes_eq_canon _ _ _ (cover_Q _ _)

set_option maxHeartbeats 2000000 in
/-- Step 5: the block of `k`. -/
theorem triple_k (K : PUnit → sProp 𝕄) (h1 : k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) :
    iprop(ins c arg2 arg3 arg4 arg5 x xs w ws ∗ (∃ d, owns (c : Thread nD τ) arg7 fullShare d)
        ∗ (iprop(ins c arg2 arg3 arg4 arg5 x xs w ws ∗ owns (c : Thread nD τ) arg7 fullShare (outK x xs w ws)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%d5, %f5, -, H5⟩, Hk⟩
  subst hf0 hf1 hf2 hf3
  simp only [dif_pos h1, dif_neg h2, dif_pos h3, dif_neg h4, dif_neg h5, dif_neg h6]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H5
  ipureintro
  exact View.read_writes_eq_canon _ _ _ (cover_K _)

set_option maxHeartbeats 2000000 in
/-- Step 6: the block of `v`. -/
theorem triple_v (K : PUnit → sProp 𝕄) (h1 : k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) :
    iprop(ins c arg2 arg3 arg4 arg5 x xs w ws ∗ (∃ d, owns (c : Thread nD τ) arg8 fullShare d)
        ∗ (iprop(ins c arg2 arg3 arg4 arg5 x xs w ws ∗ owns (c : Thread nD τ) arg8 fullShare (outK x xs w ws)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%d5, %f5, -, H5⟩, Hk⟩
  subst hf0 hf1 hf2 hf3
  simp only [dif_pos h1, dif_neg h2, dif_neg h3, dif_pos h4, dif_neg h5, dif_neg h6]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H5
  ipureintro
  exact View.read_writes_eq_canon _ _ _ (cover_K _)

set_option maxHeartbeats 2000000 in
/-- Steps 7..40: one slab of hidden values, and the running maximum. -/
theorem triple_h (K : PUnit → sProp 𝕄) (h1 : ¬ k0_cond1 i = 1#1) (h5 : k0_cond5 i = 1#1) (h6 : ¬ k0_cond6 i = 1#1) (H : Vec F S35x1024x128 .f32) (A : Vec F S1024x128 .f32) :
    iprop(ins c arg2 arg3 arg4 arg5 x xs w ws ∗ owns (c : Thread nD τ) arg11 fullShare H ∗ owns (c : Thread nD τ) arg12 fullShare A ∗ (∃ d, owns (c : Thread nD τ) arg13 fullShare d)
        ∗ (iprop(ins c arg2 arg3 arg4 arg5 x xs w ws ∗ owns (c : Thread nD τ) arg11 fullShare ((rH i h5).overlay H (slab i h5 x xs w ws)) ∗ owns (c : Thread nD τ) arg12 fullShare (amax i h5 x xs w ws A) ∗ (∃ d, owns (c : Thread nD τ) arg13 fullShare d)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%f11, %hf11, H11⟩, ⟨%f12, %hf12, H12⟩, ⟨%d13, %f13, -, H13⟩, Hk⟩
  subst hf0 hf1 hf2 hf3 hf11 hf12
  simp only [dif_neg h1, dif_pos h5, dif_neg h6]
  sl_exec
  sl_step
  have hv : triple_h.sl.v56 (F := F) c i arg2 harg2 arg3 harg3 arg4 harg4 arg5 harg5 arg6 harg6 arg7 harg7 arg8 harg8 arg9 harg9 arg10 harg10 arg11 harg11 arg12 harg12 arg13 harg13 h5 f2 f13 = View.ld (perm i h5 (arg4.view.read (Elt F) f2)) rW := load_perm (F := F) Variants.none c none i arg2 harg2 arg3 harg3 arg4 harg4 arg5 harg5 arg6 harg6 arg7 harg7 arg8 harg8 arg9 harg9 arg10 harg10 arg11 harg11 arg12 harg12 arg13 harg13 h5 f2 f13
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H11]
  · iexists _; isplitr
    swap; · iexact H11
    ipureintro
    rw [read_one, hv]; rfl
  isplitl [H12]
  · iexists _; isplitr
    swap; · iexact H12
    ipureintro
    rw [View.read_writes_eq_canon _ _ _ (cover_A _), hv]; rfl
  iexists _, _; isplitr
  swap; · iexact H13
  ipureintro; rfl

set_option maxHeartbeats 8000000 in
/-- Step 41: the last slab and the last maximum, then the scale and the codes of the 1024 rows. -/
theorem triple_l (K : PUnit → sProp 𝕄) (h1 : ¬ k0_cond1 i = 1#1) (h5 : k0_cond5 i = 1#1) (h6' : k0_cond6 i = 1#1 ∧ True) (H : Vec F S35x1024x128 .f32) (A : Vec F S1024x128 .f32) :
    iprop(ins c arg2 arg3 arg4 arg5 x xs w ws ∗ owns (c : Thread nD τ) arg11 fullShare H ∗ owns (c : Thread nD τ) arg12 fullShare A ∗ (∃ d, owns (c : Thread nD τ) arg13 fullShare d)
        ∗ (∃ d, owns (c : Thread nD τ) arg9 fullShare d) ∗ (∃ d, owns (c : Thread nD τ) arg10 fullShare d)
        ∗ (iprop(ins c arg2 arg3 arg4 arg5 x xs w ws ∗ owns (c : Thread nD τ) arg11 fullShare ((rH i h5).overlay H (slab i h5 x xs w ws)) ∗ owns (c : Thread nD τ) arg12 fullShare (amax i h5 x xs w ws A) ∗ (∃ d, owns (c : Thread nD τ) arg13 fullShare d)
            ∗ owns (c : Thread nD τ) arg9 fullShare (outC ((rH i h5).overlay H (slab i h5 x xs w ws)) (amax i h5 x xs w ws A)) ∗ owns (c : Thread nD τ) arg10 fullShare (outS (amax i h5 x xs w ws A))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%f11, %hf11, H11⟩, ⟨%f12, %hf12, H12⟩, ⟨%d13, %f13, -, H13⟩, ⟨%d9, %f9, -, H9⟩, ⟨%d10, %f10, -, H10⟩, Hk⟩
  subst hf0 hf1 hf2 hf3 hf11 hf12
  simp only [dif_neg h1, dif_pos h5]
  generalize hP : dite (k0_cond6 i = 1#1) _ _ = P6
  sl_exec
  have hv : triple_l.sl.v56 (F := F) c i arg2 harg2 arg3 harg3 arg4 harg4 arg5 harg5 arg6 harg6 arg7 harg7 arg8 harg8 arg9 harg9 arg10 harg10 arg11 harg11 arg12 harg12 arg13 harg13 h5 f2 f13 = View.ld (perm i h5 (arg4.view.read (Elt F) f2)) rW := load_perm (F := F) Variants.none c none i arg2 harg2 arg3 harg3 arg4 harg4 arg5 harg5 arg6 harg6 arg7 harg7 arg8 harg8 arg9 harg9 arg10 harg10 arg11 harg11 arg12 harg12 arg13 harg13 h5 f2 f13
  generalize hg11 : arg11.view.writes (Elt F) f11 _ = g11
  generalize hg12 : arg12.view.writes (Elt F) f12 _ = g12
  have e11 : arg11.view.read (Elt F) g11 = (rH i h5).overlay (arg11.view.read (Elt F) f11) (slab i h5 (arg2.view.read (Elt F) f0) (arg3.view.read (Elt F) f1) (arg4.view.read (Elt F) f2) (arg5.view.read (Elt F) f3)) := by
    rw [← hg11, read_one, hv]; rfl
  have e12 : arg12.view.read (Elt F) g12 = amax i h5 (arg2.view.read (Elt F) f0) (arg3.view.read (Elt F) f1) (arg4.view.read (Elt F) f2) (arg5.view.read (Elt F) f3) (arg12.view.read (Elt F) f12) := by
    rw [← hg12, View.read_writes_eq_canon _ _ _ (cover_A _), hv]; rfl
  clear hg11 hg12
  rw [← e11, ← e12, ← hP]
  simp only [dif_pos h6'.1]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H11]
  · iexists g11; isplitr
    · ipureintro; rfl
    iexact H11
  isplitl [H12]
  · iexists g12; isplitr
    · ipureintro; rfl
    iexact H12
  isplitl [H13]
  · iexists _, _; isplitr
    swap; · iexact H13
    ipureintro; rfl
  isplitl [H9]
  · iexists _; isplitr
    swap; · iexact H9
    ipureintro
    refine (View.read_writes_eq_canon _ _ _ ?_).trans ?_
    · intro y
      refine View.cover_of_tiled (s := S1024x4480) _ S1024x128.size ?_ y
      rfl
    · rfl
  iexists _; isplitr
  swap; · iexact H10
  ipureintro
  exact View.read_writes_eq_canon _ _ _ (cover_S _)

end Triples

end Cert.InKernel.Body
-- ==== Proof.InFrameP.lean ====
/-
  The input projection's run: what every buffer holds at every grid point, and the launch.

  Point `t` of the 168 is row block `t / 42` at step `t % 42`. The blocks of `q`, `k` and `v` are stored at the steps
  0..4, 5 and 6; the slabs of hidden values accumulate in a scratch over the steps 7..41 (`Good`), and with the running
  maximum they give the codes and the scale stored at step 41. From these the launch theorem of the pipeline gives every
  array's final contents (`run_main`) and the frame (`frame`).
-/
module

public import proofs.«01_k».proof.Proof.InTriplesP
public import Idealize.ShloMosaic.Lib.Pipeline.TableIdle
public import Idealize.ShloMosaic.Lib.Pointwise.Index
public import Idealize.ShloMosaic.Lib.Claim

@[expose] public section

set_option maxRecDepth 16384

noncomputable section

namespace Cert.InKernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InKernel Cert.InKernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem N_eq : cfg0.N = 168 := by decide +kernel

theorem cond1 : ∀ t : Fin cfg0.N, k0_cond1 (grid0.coords t) = 1#1 ↔ t.val % 42 < 7 := by decide +kernel
theorem cond2 : ∀ t : Fin cfg0.N, k0_cond2 (grid0.coords t) = 1#1 ↔ t.val % 42 < 5 := by decide +kernel
theorem cond3 : ∀ t : Fin cfg0.N, k0_cond3 (grid0.coords t) = 1#1 ↔ t.val % 42 = 5 := by decide +kernel
theorem cond4 : ∀ t : Fin cfg0.N, k0_cond4 (grid0.coords t) = 1#1 ↔ t.val % 42 = 6 := by decide +kernel
theorem cond5 : ∀ t : Fin cfg0.N, k0_cond5 (grid0.coords t) = 1#1 ↔ 7 ≤ t.val % 42 := by decide +kernel
theorem cond6 : ∀ t : Fin cfg0.N, k0_cond6 (grid0.coords t) = 1#1 ↔ t.val % 42 = 41 := by decide +kernel

theorem idle4 : ∀ t : Fin cfg0.N, cfg0.idle 4 (cfg0.grid.coords t) = decide (5 ≤ t.val % 42) := by decide +kernel
theorem idle5 : ∀ t : Fin cfg0.N, cfg0.idle 5 (cfg0.grid.coords t) = decide (t.val % 42 ≠ 5) := by decide +kernel
theorem idle6 : ∀ t : Fin cfg0.N, cfg0.idle 6 (cfg0.grid.coords t) = decide (t.val % 42 ≠ 6) := by decide +kernel
theorem idle7 : ∀ t : Fin cfg0.N, cfg0.idle 7 (cfg0.grid.coords t) = decide (t.val % 42 ≠ 41) := by decide +kernel
theorem idle8 : ∀ t : Fin cfg0.N, cfg0.idle 8 (cfg0.grid.coords t) = decide (t.val % 42 ≠ 41) := by decide +kernel

/-- The block of `q` is written back when the head pair changes: at the steps 0..3, and at the row block's last. -/
theorem flush4 : ∀ t : Fin cfg0.N, (cfg0.win 4).flush t = decide (t.val % 42 < 4 ∨ t.val % 42 = 41) := by
  have h : ∀ t : Fin cfg0.N, (cfg0.win 4).flushF t = decide (t.val % 42 < 4 ∨ t.val % 42 = 41) := by decide +kernel
  exact fun t => ((cfg0.win 4).flush_eq_flushF t).trans (h t)
theorem flush5 (t : Fin cfg0.N) : (cfg0.win 5).flush t = decide (t.val % 42 = 41) := by
  rw [Bool.eq_iff_iff, flush0_5, decide_eq_true_iff]
theorem flush6 (t : Fin cfg0.N) : (cfg0.win 6).flush t = decide (t.val % 42 = 41) := by
  rw [Bool.eq_iff_iff, flush0_6, decide_eq_true_iff]
theorem flush7 (t : Fin cfg0.N) : (cfg0.win 7).flush t = decide (t.val % 42 = 41) := by
  rw [Bool.eq_iff_iff, flush0_7, decide_eq_true_iff]
theorem flush8 (t : Fin cfg0.N) : (cfg0.win 8).flush t = decide (t.val % 42 = 41) := by
  rw [Bool.eq_iff_iff, flush0_8, decide_eq_true_iff]

/-- A block's buffer holds nothing stored until the step that stores it. -/
theorem fresh4 (n : ℕ) (h : n ≤ cfg0.N) : cfg0.fresh 4 n = decide (n % 42 < 5) := by
  refine cfg0.fresh_tab 4 (fun n => decide (n % 42 < 5)) rfl (fun t => ?_) n h
  rw [flush4, idle4, Bool.eq_iff_iff]
  simp only [decide_eq_true_iff, Bool.or_eq_true, Bool.and_eq_true]
  omega
theorem fresh5 (n : ℕ) (h : n ≤ cfg0.N) : cfg0.fresh 5 n = decide (n % 42 < 6) := by
  refine cfg0.fresh_tab 5 (fun n => decide (n % 42 < 6)) rfl (fun t => ?_) n h
  rw [flush5, idle5, Bool.eq_iff_iff]
  simp only [decide_eq_true_iff, Bool.or_eq_true, Bool.and_eq_true]
  omega
theorem fresh6 (n : ℕ) (h : n ≤ cfg0.N) : cfg0.fresh 6 n = decide (n % 42 < 7) := by
  refine cfg0.fresh_tab 6 (fun n => decide (n % 42 < 7)) rfl (fun t => ?_) n h
  rw [flush6, idle6, Bool.eq_iff_iff]
  simp only [decide_eq_true_iff, Bool.or_eq_true, Bool.and_eq_true]
  omega

/-- Step `j` of point `t`'s row block. -/
def at_ (t : Fin cfg0.N) (j : Fin 42) : Fin cfg0.N := ⟨42 * (t.val / 42) + j.val, by have := t.isLt; have := j.isLt; have := N_eq; omega⟩

/-- The point of row block `b` that stores slab `n` of the hidden values. -/
def hpt (b n : ℕ) : Fin cfg0.N := ⟨42 * min b 3 + (7 + min n 34), by have := N_eq; omega⟩

theorem hpt_mod (b n : ℕ) : (hpt b n).val % 42 = 7 + min n 34 := by unfold hpt; dsimp only; omega

theorem hpt_cond5 (b n : ℕ) : k0_cond5 (grid0.coords (hpt b n)) = 1#1 := (cond5 _).mpr (by rw [hpt_mod]; omega)

theorem eq_hpt (t : Fin cfg0.N) (h : 7 ≤ t.val % 42) : t = hpt (t.val / 42) (t.val % 42 - 7) := by
  have := t.isLt; have := N_eq
  refine Fin.ext ?_
  unfold hpt; dsimp only; omega

theorem off3_eq : ∀ t : Fin cfg0.N, 7 ≤ t.val % 42 → k0_off3 (grid0.coords t) = ![t.val % 42 - 7, 0, 0] := by decide +kernel

/-! ## What the scratches hold -/

/-- Slab `n` of row block `b`. -/
def slabAt (c : Dev nD) (b n : ℕ) : Vec F S1x1024x128 .f32 :=
  slab (grid0.coords (hpt b n)) (hpt_cond5 b n) (iblk m c 0 (hpt b n)) (iblk m c 1 (hpt b n)) (iblk m c 2 (hpt b n)) (iblk m c 3 (hpt b n))

/-- The 35 slabs of row block `b`, stacked. -/
def slabs (c : Dev nD) (b : ℕ) : Vec F S35x1024x128 .f32 :=
  fun y => slabAt m c b (y 0).val (Idealize.ShloMosaic.ix3 0 (y 1) (y 2))

/-- The running maximum of row block `b` once slab `n` is stored. -/
def amaxAt (c : Dev nD) (b : ℕ) : ℕ → Vec F S1024x128 .f32
  | 0 => amax (grid0.coords (hpt b 0)) (hpt_cond5 b 0) (iblk m c 0 (hpt b 0)) (iblk m c 1 (hpt b 0)) (iblk m c 2 (hpt b 0)) (iblk m c 3 (hpt b 0)) (View.canon [])
  | n + 1 => amax (grid0.coords (hpt b (n + 1))) (hpt_cond5 b (n + 1)) (iblk m c 0 (hpt b (n + 1))) (iblk m c 1 (hpt b (n + 1))) (iblk m c 2 (hpt b (n + 1))) (iblk m c 3 (hpt b (n + 1))) (amaxAt c b n)

/-- What is known of the scratches before point `n`: past step 7, the slabs stored so far and the running maximum. -/
def Good (c : Dev nD) (n : ℕ) (H : Vec F S35x1024x128 .f32) (A : Vec F S1024x128 .f32) : Prop :=
  8 ≤ n % 42 → A = amaxAt m c (n / 42) (n % 42 - 8) ∧ ∀ y : S35x1024x128.Idx, (y 0).val < n % 42 - 7 → H y = slabs m c (n / 42) y

/-- At the first slab the running maximum is the slab's magnitudes, whatever the scratch held. -/
theorem amax_first (t : Fin cfg0.N) (h : t.val % 42 = 7) (h5 : k0_cond5 (grid0.coords t) = 1#1) (x xs w ws) (A A' : Vec F S1024x128 .f32) :
    amax (grid0.coords t) h5 x xs w ws A = amax (grid0.coords t) h5 x xs w ws A' := by
  have hc : ∀ t : Fin cfg0.N, t.val % 42 = 7 → Scalar.cmpi .eq (BitVec.ofNat 32 (grid0.coords t 1).val) 7#32 = 1#1 := by decide +kernel
  unfold amax
  congr 3
  unfold k0_pay6
  dsimp only
  rw [hc t h]
  rfl

theorem mem_rH (t : Fin cfg0.N) (h : 7 ≤ t.val % 42) (h5 : k0_cond5 (grid0.coords t) = 1#1) (y : S35x1024x128.Idx) :
    y ∈ (rH (grid0.coords t) h5).set ↔ (y 0).val = t.val % 42 - 7 := by
  have h0 : (y 0).val < 35 := (y 0).isLt
  have h1 : (y 1).val < 1024 := (y 1).isLt
  have h2 : (y 2).val < 128 := (y 2).isLt
  rw [Rect.mem_set_unit]
  rw [off3_eq t h]
  constructor
  · intro k
    have k0 : t.val % 42 - 7 ≤ (y 0).val ∧ (y 0).val < t.val % 42 - 7 + 1 := k 0
    omega
  · intro k a
    fin_cases a
    · show t.val % 42 - 7 ≤ (y 0).val ∧ (y 0).val < t.val % 42 - 7 + 1; omega
    · show 0 ≤ (y 1).val ∧ (y 1).val < 0 + 1024; omega
    · show 0 ≤ (y 2).val ∧ (y 2).val < 0 + 128; omega

theorem slab_congr (c : Dev nD) (t t' : Fin cfg0.N) (e : t = t') (h5 : k0_cond5 (grid0.coords t) = 1#1) (h5' : k0_cond5 (grid0.coords t') = 1#1) :
    slab (grid0.coords t) h5 (iblk m c 0 t) (iblk m c 1 t) (iblk m c 2 t) (iblk m c 3 t) = slab (grid0.coords t') h5' (iblk m c 0 t') (iblk m c 1 t') (iblk m c 2 t') (iblk m c 3 t') := by
  subst e; rfl

theorem slab_hpt (c : Dev nD) (t : Fin cfg0.N) (h : 7 ≤ t.val % 42) (h5 : k0_cond5 (grid0.coords t) = 1#1) :
    slab (grid0.coords t) h5 (iblk m c 0 t) (iblk m c 1 t) (iblk m c 2 t) (iblk m c 3 t) = slabAt m c (t.val / 42) (t.val % 42 - 7) :=
  slab_congr m c t _ (eq_hpt t h) h5 _

theorem amax_congr (c : Dev nD) (t t' : Fin cfg0.N) (e : t = t') (h5 : k0_cond5 (grid0.coords t) = 1#1) (h5' : k0_cond5 (grid0.coords t') = 1#1) (A : Vec F S1024x128 .f32) :
    amax (grid0.coords t) h5 (iblk m c 0 t) (iblk m c 1 t) (iblk m c 2 t) (iblk m c 3 t) A = amax (grid0.coords t') h5' (iblk m c 0 t') (iblk m c 1 t') (iblk m c 2 t') (iblk m c 3 t') A := by
  subst e; rfl

/-- The slab a point stores, over the slabs before it. -/
theorem overlay_slab (c : Dev nD) (t : Fin cfg0.N) (h : 7 ≤ t.val % 42) (h5 : k0_cond5 (grid0.coords t) = 1#1) (H : Vec F S35x1024x128 .f32)
    (hH : ∀ y : S35x1024x128.Idx, (y 0).val < t.val % 42 - 7 → H y = slabs m c (t.val / 42) y) (y : S35x1024x128.Idx) (hy : (y 0).val < t.val % 42 - 6) :
    (rH (grid0.coords t) h5).overlay H (slab (grid0.coords t) h5 (iblk m c 0 t) (iblk m c 1 t) (iblk m c 2 t) (iblk m c 3 t)) y = slabs m c (t.val / 42) y := by
  by_cases hm : y ∈ (rH (grid0.coords t) h5).set
  · have e := (mem_rH t h h5 y).mp hm
    have ex : y = (rH (grid0.coords t) h5).emb (Idealize.ShloMosaic.ix3 0 (y 1) (y 2)) := by
      funext a
      refine Fin.ext ?_
      fin_cases a
      · show (y 0).val = k0_off3 (grid0.coords t) 0 + 1 * 0
        rw [off3_eq t h, e]; show t.val % 42 - 7 = t.val % 42 - 7 + 1 * 0; omega
      · show (y 1).val = k0_off3 (grid0.coords t) 1 + 1 * (y 1).val
        rw [off3_eq t h]; show (y 1).val = 0 + 1 * (y 1).val; omega
      · show (y 2).val = k0_off3 (grid0.coords t) 2 + 1 * (y 2).val
        rw [off3_eq t h]; show (y 2).val = 0 + 1 * (y 2).val; omega
    refine (congrArg _ ex).trans ?_
    rw [Rect.overlay_emb]
    unfold slabs
    rw [e]
    exact congrFun (slab_hpt m c t h h5) _
  · rw [Rect.overlay_of_not_mem _ _ _ hm]
    refine hH y ?_
    have hne : ¬ (y 0).val = t.val % 42 - 7 := fun k => hm ((mem_rH t h h5 y).mpr k)
    generalize (y 0).val = e at hne hy ⊢
    omega

/-- One more point keeps what is known of the scratches. -/
theorem good_step (c : Dev nD) (t : Fin cfg0.N) (h : 7 ≤ t.val % 42) (h5 : k0_cond5 (grid0.coords t) = 1#1) (H : Vec F S35x1024x128 .f32)
    (A : Vec F S1024x128 .f32) (hg : Good m c t.val H A) :
    amax (grid0.coords t) h5 (iblk m c 0 t) (iblk m c 1 t) (iblk m c 2 t) (iblk m c 3 t) A = amaxAt m c (t.val / 42) (t.val % 42 - 7)
    ∧ ∀ y : S35x1024x128.Idx, (y 0).val < t.val % 42 - 6 → (rH (grid0.coords t) h5).overlay H (slab (grid0.coords t) h5 (iblk m c 0 t) (iblk m c 1 t) (iblk m c 2 t) (iblk m c 3 t)) y = slabs m c (t.val / 42) y := by
  by_cases h7 : t.val % 42 = 7
  · refine ⟨?_, fun y hy => overlay_slab m c t h h5 H (fun z hz => absurd hz (by omega)) y hy⟩
    rw [amax_first t h7 h5 _ _ _ _ A (View.canon [])]
    have e0 : t = hpt (t.val / 42) 0 := by
      have := eq_hpt t h
      rw [h7] at this
      exact this
    rw [show t.val % 42 - 7 = 0 by omega]
    exact amax_congr m c t _ e0 h5 _ _
  · obtain ⟨hA, hH⟩ := hg (by omega)
    refine ⟨?_, fun y hy => overlay_slab m c t h h5 H hH y hy⟩
    subst hA
    obtain ⟨n, hn⟩ : ∃ n, t.val % 42 - 7 = n + 1 := ⟨t.val % 42 - 8, by omega⟩
    rw [hn, show t.val % 42 - 8 = n by omega]
    refine amax_congr m c t _ ?_ h5 _ _
    rw [← hn]
    exact eq_hpt t h

/-- The three scratches before point `n`, and the generator's register. -/
def scratch (c : Dev nD) (n : ℕ) : sProp 𝕄 :=
  iprop((∃ H A, ⌜Good m c n H A⌝ ∗ owns (c : Thread nD τ) (Memref.whole cc0_scratch0) fullShare H ∗ owns (c : Thread nD τ) (Memref.whole cc0_scratch1) fullShare A)
    ∗ (∃ d, owns (c : Thread nD τ) (Memref.whole cc0_scratch2) fullShare d) ∗ ∃ r, prngReg c r)

/-! ## The proof data -/

/-- What the body leaves in each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => let s := if t.val % 42 < 5 then t else at_ t 4; outQ (iblk m c 0 s) (iblk m c 1 s) (iblk m c 2 s) (iblk m c 3 s)
    | ⟨5, _⟩ => outK (iblk m c 0 (at_ t 5)) (iblk m c 1 (at_ t 5)) (iblk m c 2 (at_ t 5)) (iblk m c 3 (at_ t 5))
    | ⟨6, _⟩ => outK (iblk m c 0 (at_ t 6)) (iblk m c 1 (at_ t 6)) (iblk m c 2 (at_ t 6)) (iblk m c 3 (at_ t 6))
    | ⟨7, _⟩ => outC (slabs m c (t.val / 42)) (amaxAt m c (t.val / 42) 34)
    | ⟨8, _⟩ => outS (amaxAt m c (t.val / 42) 34)
  Φ t := scratch m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) (h : t.val % 42 < 5) : (dats m 0 c).after 4 t = outQ (iblk m c 0 t) (iblk m c 1 t) (iblk m c 2 t) (iblk m c 3 t) := by
  dsimp only [dats]; rw [if_pos h]
theorem after0_4' (c : Dev nD) (t : Fin cfg0.N) (h : ¬t.val % 42 < 5) : (dats m 0 c).after 4 t = outQ (iblk m c 0 (at_ t 4)) (iblk m c 1 (at_ t 4)) (iblk m c 2 (at_ t 4)) (iblk m c 3 (at_ t 4)) := by
  dsimp only [dats]; rw [if_neg h]
theorem after0_5 (c : Dev nD) (t : Fin cfg0.N) : (dats m 0 c).after 5 t = outK (iblk m c 0 (at_ t 5)) (iblk m c 1 (at_ t 5)) (iblk m c 2 (at_ t 5)) (iblk m c 3 (at_ t 5)) := by dsimp only [dats]
theorem after0_6 (c : Dev nD) (t : Fin cfg0.N) : (dats m 0 c).after 6 t = outK (iblk m c 0 (at_ t 6)) (iblk m c 1 (at_ t 6)) (iblk m c 2 (at_ t 6)) (iblk m c 3 (at_ t 6)) := by dsimp only [dats]
theorem after0_7 (c : Dev nD) (t : Fin cfg0.N) : (dats m 0 c).after 7 t = outC (slabs m c (t.val / 42)) (amaxAt m c (t.val / 42) 34) := by dsimp only [dats]
theorem after0_8 (c : Dev nD) (t : Fin cfg0.N) : (dats m 0 c).after 8 t = outS (amaxAt m c (t.val / 42) 34) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem at_congr (t t' : Fin cfg0.N) (j : Fin 42) (h : t.val / 42 = t'.val / 42) : at_ t j = at_ t' j := by
  unfold at_; exact Fin.ext (by dsimp only; rw [h])

theorem at_self (t : Fin cfg0.N) (j : Fin 42) (h : t.val % 42 = j.val) : at_ t j = t := by
  unfold at_; exact Fin.ext (by dsimp only; omega)

/-- The blocks of `q`, `k` and `v` are still what was stored when the row block's last step writes them back. -/
theorem before0_4 (c : Dev nD) (t : Fin cfg0.N) (h : t.val % 42 = 41) (d) : (dats m 0 c).before 4 t d = (dats m 0 c).after 4 t := by
  have hN := t.isLt
  rw [(dats m 0 c).before_out_traj 4 rfl (fun _ _ => rfl) ?_ t.val t rfl d, fresh4 _ (by omega)]
  · rw [decide_eq_false (by omega), if_neg (by decide), after0_4' m c _ (by dsimp only; omega), after0_4' m c t (by omega),
      at_congr ⟨t.val - 1, by omega⟩ t 4 (by dsimp only; omega)]
  · intro t h0 hi hf
    have hN := t.isLt
    rw [idle4, decide_eq_true_iff] at hi
    rw [after0_4' m c t (by omega)]
    by_cases h5 : t.val % 42 = 5
    · rw [after0_4 m c _ (by dsimp only; omega), show (⟨t.val - 1, by omega⟩ : Fin cfg0.N) = at_ t 4 by unfold at_; exact Fin.ext (by show t.val - 1 = 42 * (t.val / 42) + 4; omega)]
    · rw [after0_4' m c _ (by dsimp only; omega), at_congr ⟨t.val - 1, by omega⟩ t 4 (by dsimp only; omega)]
theorem before0_5 (c : Dev nD) (t : Fin cfg0.N) (h : t.val % 42 = 41) (d) : (dats m 0 c).before 5 t d = (dats m 0 c).after 5 t := by
  have hN := t.isLt
  rw [(dats m 0 c).before_out_traj 5 rfl (fun _ _ => rfl) ?_ t.val t rfl d, fresh5 _ (by omega)]
  · rw [decide_eq_false (by omega), if_neg (by decide), after0_5, after0_5, at_congr ⟨t.val - 1, by omega⟩ t 5 (by dsimp only; omega)]
  · intro t h0 hi hf
    have hN := t.isLt
    have hf' := hf
    rw [fresh5 _ (by omega), decide_eq_false_iff_not] at hf'
    rw [after0_5, after0_5, at_congr ⟨t.val - 1, by omega⟩ t 5 (by dsimp only; omega)]
theorem before0_6 (c : Dev nD) (t : Fin cfg0.N) (h : t.val % 42 = 41) (d) : (dats m 0 c).before 6 t d = (dats m 0 c).after 6 t := by
  have hN := t.isLt
  rw [(dats m 0 c).before_out_traj 6 rfl (fun _ _ => rfl) ?_ t.val t rfl d, fresh6 _ (by omega)]
  · rw [decide_eq_false (by omega), if_neg (by decide), after0_6, after0_6, at_congr ⟨t.val - 1, by omega⟩ t 6 (by dsimp only; omega)]
  · intro t h0 hi hf
    have hN := t.isLt
    have hf' := hf
    rw [fresh6 _ (by omega), decide_eq_false_iff_not] at hf'
    rw [after0_6, after0_6, at_congr ⟨t.val - 1, by omega⟩ t 6 (by dsimp only; omega)]

/-! ## The body obligation, at each kind of point -/

/-- Every window's hold on its buffer before point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body leaves, the outputs' buffers at `Q`. -/
def bodyPost (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ Q)

/-- An output left as it was found. -/
abbrev kept (c : Dev nD) (t : Fin cfg0.N) (w : Fin cfg0.W) : sProp 𝕄 :=
  iprop(∃ d, owns (c : Thread nD τ) ((cfg0.win w).stage (cfg0.slots t w)) fullShare ((dats m 0 c).before w t d))
/-- An output at what the proof data says. -/
abbrev left (c : Dev nD) (t : Fin cfg0.N) (w : Fin cfg0.W) : sProp 𝕄 :=
  owns (c : Thread nD τ) ((cfg0.win w).stage (cfg0.slots t w)) fullShare ((dats m 0 c).after w t)

theorem good_of_lt (c : Dev nD) (n : ℕ) (h : n % 42 < 8) (H A) : Good m c n H A := fun h' => absurd h' (by omega)

/-- A step that stores a head pair of `q`. -/
theorem sound_q (c : Dev nD) (t : Fin cfg0.N) (h : t.val % 42 < 5) :
    bodyPre m c t ⊢ wp frame (wpE (defs₀ (F := F)) Variants.none c none) Set.univ (bodyAt0 t)
      (fun _ => bodyPost m c t iprop(left m c t 4 ∗ kept m c t 5 ∗ kept m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left]
  rw [after0_4 m c t h]
  iintro ⟨⟨HS, HZ⟩, Ho, ⟨%d0, H0⟩, ⟨%d1, H1⟩, ⟨%d2, H2⟩, ⟨%d3, H3⟩, H4, H5, H6, H7, H8⟩
  iapply (triple_q c Set.univ (grid0.coords t) _ _ _ _ _ _ _ _ _ _ _ _ _ _ _ _ _ _ _ _ _ _ _ _ (iblk m c 0 t) (iblk m c 1 t) (iblk m c 2 t) (iblk m c 3 t) _ ((cond1 t).mpr (by omega)) ((cond2 t).mpr (by omega)) (fun e => absurd ((cond3 t).mp e) (by omega)) (fun e => absurd ((cond4 t).mp e) (by omega)) (fun e => absurd ((cond5 t).mp e) (by omega)) (fun e => absurd ((cond6 t).mp e) (by omega)))
  isplitl [H0 H1 H2 H3]
  · isplitl [H0]; · iexact H0
    isplitl [H1]; · iexact H1
    isplitl [H2]; · iexact H2
    iexact H3
  isplitl [H4]
  · icases H4 with ⟨%d, H4⟩; iexists _; iexact H4
  iintro ⟨⟨H0, H1, H2, H3⟩, H4⟩
  isplitl [HS HZ]
  · isplitl [HS]
    · icases HS with ⟨%H, %A, %hg, HS⟩
      iexists H; iexists A
      isplitr
      · ipureintro; exact good_of_lt m c _ (by omega) _ _
      · iexact HS
    · iexact HZ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The step that stores `k`. -/
theorem sound_k (c : Dev nD) (t : Fin cfg0.N) (h : t.val % 42 = 5) :
    bodyPre m c t ⊢ wp frame (wpE (defs₀ (F := F)) Variants.none c none) Set.univ (bodyAt0 t)
      (fun _ => bodyPost m c t iprop(kept m c t 4 ∗ left m c t 5 ∗ kept m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left]
  rw [after0_5, at_self t 5 h]
  iintro ⟨⟨HS, HZ⟩, Ho, ⟨%d0, H0⟩, ⟨%d1, H1⟩, ⟨%d2, H2⟩, ⟨%d3, H3⟩, H4, H5, H6, H7, H8⟩
  iapply (triple_k c Set.univ (grid0.coords t) _ _ _ _ _ _ _ _ _ _ _ _ _ _ _ _ _ _ _ _ _ _ _ _ (iblk m c 0 t) (iblk m c 1 t) (iblk m c 2 t) (iblk m c 3 t) _ ((cond1 t).mpr (by omega)) (fun e => absurd ((cond2 t).mp e) (by omega)) ((cond3 t).mpr (by omega)) (fun e => absurd ((cond4 t).mp e) (by omega)) (fun e => absurd ((cond5 t).mp e) (by omega)) (fun e => absurd ((cond6 t).mp e) (by omega)))
  isplitl [H0 H1 H2 H3]
  · isplitl [H0]; · iexact H0
    isplitl [H1]; · iexact H1
    isplitl [H2]; · iexact H2
    iexact H3
  isplitl [H5]
  · icases H5 with ⟨%d, H5⟩; iexists _; iexact H5
  iintro ⟨⟨H0, H1, H2, H3⟩, H5⟩
  isplitl [HS HZ]
  · isplitl [HS]
    · icases HS with ⟨%H, %A, %hg, HS⟩
      iexists H; iexists A
      isplitr
      · ipureintro; exact good_of_lt m c _ (by omega) _ _
      · iexact HS
    · iexact HZ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The step that stores `v`. -/
theorem sound_v (c : Dev nD) (t : Fin cfg0.N) (h : t.val % 42 = 6) :
    bodyPre m c t ⊢ wp frame (wpE (defs₀ (F := F)) Variants.none c none) Set.univ (bodyAt0 t)
      (fun _ => bodyPost m c t iprop(kept m c t 4 ∗ kept m c t 5 ∗ left m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left]
  rw [after0_6, at_self t 6 h]
  iintro ⟨⟨HS, HZ⟩, Ho, ⟨%d0, H0⟩, ⟨%d1, H1⟩, ⟨%d2, H2⟩, ⟨%d3, H3⟩, H4, H5, H6, H7, H8⟩
  iapply (triple_v c Set.univ (grid0.coords t) _ _ _ _ _ _ _ _ _ _ _ _ _ _ _ _ _ _ _ _ _ _ _ _ (iblk m c 0 t) (iblk m c 1 t) (iblk m c 2 t) (iblk m c 3 t) _ ((cond1 t).mpr (by omega)) (fun e => absurd ((cond2 t).mp e) (by omega)) (fun e => absurd ((cond3 t).mp e) (by omega)) ((cond4 t).mpr (by omega)) (fun e => absurd ((cond5 t).mp e) (by omega)) (fun e => absurd ((cond6 t).mp e) (by omega)))
  isplitl [H0 H1 H2 H3]
  · isplitl [H0]; · iexact H0
    isplitl [H1]; · iexact H1
    isplitl [H2]; · iexact H2
    iexact H3
  isplitl [H6]
  · icases H6 with ⟨%d, H6⟩; iexists _; iexact H6
  iintro ⟨⟨H0, H1, H2, H3⟩, H6⟩
  isplitl [HS HZ]
  · isplitl [HS]
    · icases HS with ⟨%H, %A, %hg, HS⟩
      iexists H; iexists A
      isplitr
      · ipureintro; exact good_of_lt m c _ (by omega) _ _
      · iexact HS
    · iexact HZ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A step that stores a slab of hidden values. -/
theorem sound_h (c : Dev nD) (t : Fin cfg0.N) (h : 7 ≤ t.val % 42 ∧ t.val % 42 < 41) :
    bodyPre m c t ⊢ wp frame (wpE (defs₀ (F := F)) Variants.none c none) Set.univ (bodyAt0 t)
      (fun _ => bodyPost m c t iprop(kept m c t 4 ∗ kept m c t 5 ∗ kept m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  iintro ⟨⟨⟨%H, %A, %hg, HH, HA⟩, HW, HR⟩, Ho, ⟨%d0, H0⟩, ⟨%d1, H1⟩, ⟨%d2, H2⟩, ⟨%d3, H3⟩, H4, H5, H6, H7, H8⟩
  have h5 : k0_cond5 (grid0.coords t) = 1#1 := (cond5 t).mpr (by omega)
  obtain ⟨gA, gH⟩ := good_step m c t (by omega) h5 H A hg
  iapply (triple_h c Set.univ (grid0.coords t) _ _ _ _ _ _ _ _ _ _ _ _ _ _ _ _ _ _ _ _ _ _ _ _ (iblk m c 0 t) (iblk m c 1 t) (iblk m c 2 t) (iblk m c 3 t) _ (fun e => absurd ((cond1 t).mp e) (by omega)) h5 (fun e => absurd ((cond6 t).mp e) (by omega)) H A)
  isplitl [H0 H1 H2 H3]
  · isplitl [H0]; · iexact H0
    isplitl [H1]; · iexact H1
    isplitl [H2]; · iexact H2
    iexact H3
  isplitl [HH]; · iexact HH
  isplitl [HA]; · iexact HA
  isplitl [HW]; · iexact HW
  iintro ⟨⟨H0, H1, H2, H3⟩, HH, HA, HW⟩
  isplitl [HH HA HW HR]
  · isplitl [HH HA]
    · iexists _; iexists _
      isplitr
      swap
      · isplitl [HH]; · iexact HH
        iexact HA
      · ipureintro
        intro _
        rw [show (t.val + 1) / 42 = t.val / 42 by omega, show (t.val + 1) % 42 - 8 = t.val % 42 - 7 by omega, show (t.val + 1) % 42 - 7 = t.val % 42 - 6 by omega]
        exact ⟨gA, gH⟩
    · isplitl [HW]; · iexact HW
      iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The row block's last step: its slab, then the codes and the scale. -/
theorem sound_l (c : Dev nD) (t : Fin cfg0.N) (h : t.val % 42 = 41) :
    bodyPre m c t ⊢ wp frame (wpE (defs₀ (F := F)) Variants.none c none) Set.univ (bodyAt0 t)
      (fun _ => bodyPost m c t iprop(left m c t 4 ∗ left m c t 5 ∗ left m c t 6 ∗ left m c t 7 ∗ left m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left, before0_4 m c t h, before0_5 m c t h, before0_6 m c t h]
  rw [after0_7, after0_8]
  iintro ⟨⟨⟨%H, %A, %hg, HH, HA⟩, HW, HR⟩, Ho, ⟨%d0, H0⟩, ⟨%d1, H1⟩, ⟨%d2, H2⟩, ⟨%d3, H3⟩, H4, H5, H6, H7, H8⟩
  have h5 : k0_cond5 (grid0.coords t) = 1#1 := (cond5 t).mpr (by omega)
  obtain ⟨gA, gH⟩ := good_step m c t (by omega) h5 H A hg
  have gH' : (rH (grid0.coords t) h5).overlay H (slab (grid0.coords t) h5 (iblk m c 0 t) (iblk m c 1 t) (iblk m c 2 t) (iblk m c 3 t)) = slabs m c (t.val / 42) :=
    funext fun y => gH y (by have : (y 0).val < 35 := (y 0).isLt; generalize (y 0).val = e at this ⊢; omega)
  have gA' : amax (grid0.coords t) h5 (iblk m c 0 t) (iblk m c 1 t) (iblk m c 2 t) (iblk m c 3 t) A = amaxAt m c (t.val / 42) 34 := by rw [gA, h]
  iapply (triple_l c Set.univ (grid0.coords t) _ _ _ _ _ _ _ _ _ _ _ _ _ _ _ _ _ _ _ _ _ _ _ _ (iblk m c 0 t) (iblk m c 1 t) (iblk m c 2 t) (iblk m c 3 t) _ (fun e => absurd ((cond1 t).mp e) (by omega)) h5 ⟨(cond6 t).mpr (by omega), trivial⟩ H A)
  isplitl [H0 H1 H2 H3]
  · isplitl [H0]; · iexact H0
    isplitl [H1]; · iexact H1
    isplitl [H2]; · iexact H2
    iexact H3
  isplitl [HH]; · iexact HH
  isplitl [HA]; · iexact HA
  isplitl [HW]; · iexact HW
  isplitl [H7]
  · icases H7 with ⟨%d, H7⟩; iexists _; iexact H7
  isplitl [H8]
  · icases H8 with ⟨%d, H8⟩; iexists _; iexact H8
  iintro ⟨⟨H0, H1, H2, H3⟩, HH, HA, HW, H7, H8⟩
  rw [gH', gA']
  isplitl [HH HA HW HR]
  · isplitl [HH HA]
    · iexists _; iexists _
      isplitr
      swap
      · isplitl [HH]; · iexact HH
        iexact HA
      · ipureintro
        exact good_of_lt m c _ (by omega) _ _
    · isplitl [HW]; · iexact HW
      iexact HR
  isplitl [Ho]; · iexact Ho
  isplitl [H0]; · iexact H0
  isplitl [H1]; · iexact H1
  isplitl [H2]; · iexact H2
  isplitl [H3]; · iexact H3
  isplitl [H4]; · icases H4 with ⟨%d, H4⟩; iexact H4
  isplitl [H5]; · icases H5 with ⟨%d, H5⟩; iexact H5
  isplitl [H6]; · icases H6 with ⟨%d, H6⟩; iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem idle_in (t : Fin cfg0.N) : cfg0.idle 0 (cfg0.grid.coords t) = false ∧ cfg0.idle 1 (cfg0.grid.coords t) = false
    ∧ cfg0.idle 2 (cfg0.grid.coords t) = false ∧ cfg0.idle 3 (cfg0.grid.coords t) = false := ⟨rfl, rfl, rfl, rfl⟩

theorem body_obligation (c : Dev nD) : BodyObligation (dats (F := F) m 0 c) (defs₀ (F := F)) Variants.none () Set.univ := fun t => by
  obtain ⟨i0, i1, i2, i3⟩ := idle_in t
  have cases : t.val % 42 < 5 ∨ t.val % 42 = 5 ∨ t.val % 42 = 6 ∨ (7 ≤ t.val % 42 ∧ t.val % 42 < 41) ∨ t.val % 42 = 41 := by omega
  rw [bigSep_W0, bigSep_W0, defs₀_row]
  simp only [i0, i1, i2, i3]
  rcases cases with h | h | h | h | h
  · have j4 : idle0 4 (grid0.coords t) = false := (idle4 t).trans (by rw [decide_eq_false_iff_not]; omega)
    have j5 : idle0 5 (grid0.coords t) = true := (idle5 t).trans (by rw [decide_eq_true_iff]; omega)
    have f5 : (cfg0.win 5).flush t = false := by rw [flush5, decide_eq_false_iff_not]; omega
    have j6 : idle0 6 (grid0.coords t) = true := (idle6 t).trans (by rw [decide_eq_true_iff]; omega)
    have f6 : (cfg0.win 6).flush t = false := by rw [flush6, decide_eq_false_iff_not]; omega
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f5, f6, f7, f8]
    exact triple_restated (sound_q m c t h) rfl .rfl fun _ => .rfl
  · have j4 : idle0 4 (grid0.coords t) = true := (idle4 t).trans (by rw [decide_eq_true_iff]; omega)
    have f4 : (cfg0.win 4).flush t = false := by rw [flush4, decide_eq_false_iff_not]; omega
    have j5 : idle0 5 (grid0.coords t) = false := (idle5 t).trans (by rw [decide_eq_false_iff_not]; omega)
    have j6 : idle0 6 (grid0.coords t) = true := (idle6 t).trans (by rw [decide_eq_true_iff]; omega)
    have f6 : (cfg0.win 6).flush t = false := by rw [flush6, decide_eq_false_iff_not]; omega
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f4, f6, f7, f8]
    exact triple_restated (sound_k m c t h) rfl .rfl fun _ => .rfl
  · have j4 : idle0 4 (grid0.coords t) = true := (idle4 t).trans (by rw [decide_eq_true_iff]; omega)
    have f4 : (cfg0.win 4).flush t = false := by rw [flush4, decide_eq_false_iff_not]; omega
    have j5 : idle0 5 (grid0.coords t) = true := (idle5 t).trans (by rw [decide_eq_true_iff]; omega)
    have f5 : (cfg0.win 5).flush t = false := by rw [flush5, decide_eq_false_iff_not]; omega
    have j6 : idle0 6 (grid0.coords t) = false := (idle6 t).trans (by rw [decide_eq_false_iff_not]; omega)
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f4, f5, f7, f8]
    exact triple_restated (sound_v m c t h) rfl .rfl fun _ => .rfl
  · have j4 : idle0 4 (grid0.coords t) = true := (idle4 t).trans (by rw [decide_eq_true_iff]; omega)
    have f4 : (cfg0.win 4).flush t = false := by rw [flush4, decide_eq_false_iff_not]; omega
    have j5 : idle0 5 (grid0.coords t) = true := (idle5 t).trans (by rw [decide_eq_true_iff]; omega)
    have f5 : (cfg0.win 5).flush t = false := by rw [flush5, decide_eq_false_iff_not]; omega
    have j6 : idle0 6 (grid0.coords t) = true := (idle6 t).trans (by rw [decide_eq_true_iff]; omega)
    have f6 : (cfg0.win 6).flush t = false := by rw [flush6, decide_eq_false_iff_not]; omega
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f4, f5, f6, f7, f8]
    exact triple_restated (sound_h m c t h) rfl .rfl fun _ => .rfl
  · have j4 : idle0 4 (grid0.coords t) = true := (idle4 t).trans (by rw [decide_eq_true_iff]; omega)
    have f4 : (cfg0.win 4).flush t = true := by rw [flush4, decide_eq_true_iff]; omega
    have j5 : idle0 5 (grid0.coords t) = true := (idle5 t).trans (by rw [decide_eq_true_iff]; omega)
    have f5 : (cfg0.win 5).flush t = true := by rw [flush5, decide_eq_true_iff]; omega
    have j6 : idle0 6 (grid0.coords t) = true := (idle6 t).trans (by rw [decide_eq_true_iff]; omega)
    have f6 : (cfg0.win 6).flush t = true := by rw [flush6, decide_eq_true_iff]; omega
    have j7 : idle0 7 (grid0.coords t) = false := (idle7 t).trans (by rw [decide_eq_false_iff_not]; omega)
    have j8 : idle0 8 (grid0.coords t) = false := (idle8 t).trans (by rw [decide_eq_false_iff_not]; omega)
    simp only [j4, j5, j6, j7, j8, f4, f5, f6]
    exact triple_restated (sound_l m c t h) rfl .rfl fun _ => .rfl

/-! ## The run and the frame -/

theorem scratch_in (c : Dev nD) : (Pipeline.ΦA spec0 c : sProp 𝕄) ⊢ (dats m 0 c).Φ 0 := by
  rw [show (dats m 0 c).Φ 0 = scratch m c 0 from rfl]
  unfold Pipeline.ΦA scratch
  rw [scopedRest0_eq]
  iintro ⟨⟨⟨%H, HH⟩, ⟨%A, HA⟩, ⟨%W, HW⟩⟩, HR⟩
  isplitl [HH HA]
  · iexists H; iexists A
    isplitr
    · ipureintro; exact good_of_lt m c _ (by omega) _ _
    · isplitl [HH]
      · rw [owns_whole]; iexact HH
      · rw [owns_whole]; iexact HA
  isplitl [HW]
  · iexists W; rw [owns_whole]; iexact HW
  iexact HR

theorem scratch_out (c : Dev nD) : (dats m 0 c).Φ (Fin.last cfg0.N) ⊢ (Pipeline.ΦA spec0 c : sProp 𝕄) := by
  rw [show (dats m 0 c).Φ (Fin.last cfg0.N) = scratch m c cfg0.N from rfl]
  unfold Pipeline.ΦA scratch
  rw [scopedRest0_eq]
  simp only [owns_whole]
  iintro ⟨⟨%H, %A, %hg, HH, HA⟩, ⟨%W, HW⟩, HR⟩
  isplitl [HH HA HW]
  · isplitl [HH]
    · iexists _; iexact HH
    isplitl [HA]
    · iexists _; iexact HA
    iexists _; iexact HW
  iexact HR

set_option backward.isDefEq.respectTransparency.types false in
set_option maxHeartbeats 800000 in
/-- The launch: every array of the pipeline ends at what the proof data says, the transposition after the region runs on
    those, and every semaphore counter ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := scratch_in m) (hout := scratch_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution ends, with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InKernel.Body
-- ==== Proof.InTriples.lean ====
/-
  One grid point of the input projection, as a triple over its memrefs.

  The grid is (4 blocks of 1024 rows) x (42 steps). At steps 0..4 the body stores one block of `q`, at step 5 the block of
  `k`, at step 6 the block of `v`; at the steps 7..41 it rearranges the staged weights into a scratch (`perm`), stores one
  slab of hidden values into a second scratch (`slab`), and updates the running lane maximum in a third (`amax`); at
  step 41 it also stores the codes and the scale of the 1024 rows. Each case is one triple below: what is stored is
  named as a function of what the memrefs hold.
-/
module

public import proofs.«01_k».proof.Proof.Gen.InKernelIdeal.Loops
public import proofs.«01_k».proof.Proof.Gen.InKernelIdeal.Frame

@[expose] public section

set_option maxRecDepth 16384

noncomputable section

namespace Cert.InKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InKernelIdeal Cert.InKernelIdeal.Gen

variable {F : FTy → Type} [FloatOps F]

local notation "𝕄" => MT nD τ sig Unit (Elt F) ℕ (UR sig nD τ) ℕ

/-! ## The rectangles the body reads and stores -/

abbrev rX : Rect S1024x5120 := Rect.unit (s := S1024x5120) ![0, 0] S1024x5120.size inb_S1024x5120_S1024x5120_0_0
abbrev rS : Rect S1024x1 := Rect.unit (s := S1024x1) ![0, 0] S1024x1.size inb_S1024x1_S1024x1_0_0
abbrev rW : Rect S5120x256 := Rect.unit (s := S5120x256) ![0, 0] S5120x256.size inb_S5120x256_S5120x256_0_0
abbrev rC : Rect S1x256 := Rect.unit (s := S1x256) ![0, 0] S1x256.size inb_S1x256_S1x256_0_0
abbrev rC0 : Rect S1x256 := Rect.unit (s := S1x256) ![0, 0] S1x128.size inb_S1x256_S1x128_0_0
abbrev rC1 : Rect S1x256 := Rect.unit (s := S1x256) ![0, 128] S1x128.size inb_S1x256_S1x128_0_128
abbrev rQ0 : Rect S2x1024x128 := Rect.unit (s := S2x1024x128) ![0, 0, 0] S1x1024x128.size inb_S2x1024x128_S1x1024x128_0_0_0
abbrev rQ1 : Rect S2x1024x128 := Rect.unit (s := S2x1024x128) ![1, 0, 0] S1x1024x128.size inb_S2x1024x128_S1x1024x128_1_0_0
abbrev rK : Rect S1024x256 := Rect.unit (s := S1024x256) ![0, 0] S1024x256.size inb_S1024x256_S1024x256_0_0
abbrev rA : Rect S1024x128 := Rect.unit (s := S1024x128) ![0, 0] S1024x128.size inb_S1024x128_S1024x128_0_0
/-- The rows `256 k ..< 256 k + 256` of the left and of the right half of the weights: what trip `k` rearranges. -/
abbrev rL (i : grid0.Coords) (h5 : k0_cond5 i = 1#1) (k : Fin k0_t1_loop.trips) : Rect S5120x256 := Rect.unit (s := S5120x256) (k0_off1 k) S256x128.size (k0_off1_inb i k h5)
abbrev rR (i : grid0.Coords) (h5 : k0_cond5 i = 1#1) (k : Fin k0_t1_loop.trips) : Rect S5120x256 := Rect.unit (s := S5120x256) (k0_off2 k) S256x128.size (k0_off2_inb i k h5)
/-- The slab of hidden values the point stores. -/
abbrev rH (i : grid0.Coords) (h5 : k0_cond5 i = 1#1) : Rect S35x1024x128 := Rect.unit (s := S35x1024x128) (k0_off3 i) S1x1024x128.size (k0_off3_inb i h5)

/-- The 35 slabs of hidden values, and the 35 column blocks of the codes. -/
abbrev rT0 : Rect S35x1024x128 := Rect.unit (s := S35x1024x128) ![0, 0, 0] S1x1024x128.size inb_S35x1024x128_S1x1024x128_0_0_0
abbrev rU0 : Rect S1024x4480 := Rect.unit (s := S1024x4480) ![0, 0] S1024x128.size inb_S1024x4480_S1024x128_0_0
abbrev rT1 : Rect S35x1024x128 := Rect.unit (s := S35x1024x128) ![1, 0, 0] S1x1024x128.size inb_S35x1024x128_S1x1024x128_1_0_0
abbrev rU1 : Rect S1024x4480 := Rect.unit (s := S1024x4480) ![0, 128] S1024x128.size inb_S1024x4480_S1024x128_0_128
abbrev rT2 : Rect S35x1024x128 := Rect.unit (s := S35x1024x128) ![2, 0, 0] S1x1024x128.size inb_S35x1024x128_S1x1024x128_2_0_0
abbrev rU2 : Rect S1024x4480 := Rect.unit (s := S1024x4480) ![0, 256] S1024x128.size inb_S1024x4480_S1024x128_0_256
abbrev rT3 : Rect S35x1024x128 := Rect.unit (s := S35x1024x128) ![3, 0, 0] S1x1024x128.size inb_S35x1024x128_S1x1024x128_3_0_0
abbrev rU3 : Rect S1024x4480 := Rect.unit (s := S1024x4480) ![0, 384] S1024x128.size inb_S1024x4480_S1024x128_0_384
abbrev rT4 : Rect S35x1024x128 := Rect.unit (s := S35x1024x128) ![4, 0, 0] S1x1024x128.size inb_S35x1024x128_S1x1024x128_4_0_0
abbrev rU4 : Rect S1024x4480 := Rect.unit (s := S1024x4480) ![0, 512] S1024x128.size inb_S1024x4480_S1024x128_0_512
abbrev rT5 : Rect S35x1024x128 := Rect.unit (s := S35x1024x128) ![5, 0, 0] S1x1024x128.size inb_S35x1024x128_S1x1024x128_5_0_0
abbrev rU5 : Rect S1024x4480 := Rect.unit (s := S1024x4480) ![0, 640] S1024x128.size inb_S1024x4480_S1024x128_0_640
abbrev rT6 : Rect S35x1024x128 := Rect.unit (s := S35x1024x128) ![6, 0, 0] S1x1024x128.size inb_S35x1024x128_S1x1024x128_6_0_0
abbrev rU6 : Rect S1024x4480 := Rect.unit (s := S1024x4480) ![0, 768] S1024x128.size inb_S1024x4480_S1024x128_0_768
abbrev rT7 : Rect S35x1024x128 := Rect.unit (s := S35x1024x128) ![7, 0, 0] S1x1024x128.size inb_S35x1024x128_S1x1024x128_7_0_0
abbrev rU7 : Rect S1024x4480 := Rect.unit (s := S1024x4480) ![0, 896] S1024x128.size inb_S1024x4480_S1024x128_0_896
abbrev rT8 : Rect S35x1024x128 := Rect.unit (s := S35x1024x128) ![8, 0, 0] S1x1024x128.size inb_S35x1024x128_S1x1024x128_8_0_0
abbrev rU8 : Rect S1024x4480 := Rect.unit (s := S1024x4480) ![0, 1024] S1024x128.size inb_S1024x4480_S1024x128_0_1024
abbrev rT9 : Rect S35x1024x128 := Rect.unit (s := S35x1024x128) ![9, 0, 0] S1x1024x128.size inb_S35x1024x128_S1x1024x128_9_0_0
abbrev rU9 : Rect S1024x4480 := Rect.unit (s := S1024x4480) ![0, 1152] S1024x128.size inb_S1024x4480_S1024x128_0_1152
abbrev rT10 : Rect S35x1024x128 := Rect.unit (s := S35x1024x128) ![10, 0, 0] S1x1024x128.size inb_S35x1024x128_S1x1024x128_10_0_0
abbrev rU10 : Rect S1024x4480 := Rect.unit (s := S1024x4480) ![0, 1280] S1024x128.size inb_S1024x4480_S1024x128_0_1280
abbrev rT11 : Rect S35x1024x128 := Rect.unit (s := S35x1024x128) ![11, 0, 0] S1x1024x128.size inb_S35x1024x128_S1x1024x128_11_0_0
abbrev rU11 : Rect S1024x4480 := Rect.unit (s := S1024x4480) ![0, 1408] S1024x128.size inb_S1024x4480_S1024x128_0_1408
abbrev rT12 : Rect S35x1024x128 := Rect.unit (s := S35x1024x128) ![12, 0, 0] S1x1024x128.size inb_S35x1024x128_S1x1024x128_12_0_0
abbrev rU12 : Rect S1024x4480 := Rect.unit (s := S1024x4480) ![0, 1536] S1024x128.size inb_S1024x4480_S1024x128_0_1536
abbrev rT13 : Rect S35x1024x128 := Rect.unit (s := S35x1024x128) ![13, 0, 0] S1x1024x128.size inb_S35x1024x128_S1x1024x128_13_0_0
abbrev rU13 : Rect S1024x4480 := Rect.unit (s := S1024x4480) ![0, 1664] S1024x128.size inb_S1024x4480_S1024x128_0_1664
abbrev rT14 : Rect S35x1024x128 := Rect.unit (s := S35x1024x128) ![14, 0, 0] S1x1024x128.size inb_S35x1024x128_S1x1024x128_14_0_0
abbrev rU14 : Rect S1024x4480 := Rect.unit (s := S1024x4480) ![0, 1792] S1024x128.size inb_S1024x4480_S1024x128_0_1792
abbrev rT15 : Rect S35x1024x128 := Rect.unit (s := S35x1024x128) ![15, 0, 0] S1x1024x128.size inb_S35x1024x128_S1x1024x128_15_0_0
abbrev rU15 : Rect S1024x4480 := Rect.unit (s := S1024x4480) ![0, 1920] S1024x128.size inb_S1024x4480_S1024x128_0_1920
abbrev rT16 : Rect S35x1024x128 := Rect.unit (s := S35x1024x128) ![16, 0, 0] S1x1024x128.size inb_S35x1024x128_S1x1024x128_16_0_0
abbrev rU16 : Rect S1024x4480 := Rect.unit (s := S1024x4480) ![0, 2048] S1024x128.size inb_S1024x4480_S1024x128_0_2048
abbrev rT17 : Rect S35x1024x128 := Rect.unit (s := S35x1024x128) ![17, 0, 0] S1x1024x128.size inb_S35x1024x128_S1x1024x128_17_0_0
abbrev rU17 : Rect S1024x4480 := Rect.unit (s := S1024x4480) ![0, 2176] S1024x128.size inb_S1024x4480_S1024x128_0_2176
abbrev rT18 : Rect S35x1024x128 := Rect.unit (s := S35x1024x128) ![18, 0, 0] S1x1024x128.size inb_S35x1024x128_S1x1024x128_18_0_0
abbrev rU18 : Rect S1024x4480 := Rect.unit (s := S1024x4480) ![0, 2304] S1024x128.size inb_S1024x4480_S1024x128_0_2304
abbrev rT19 : Rect S35x1024x128 := Rect.unit (s := S35x1024x128) ![19, 0, 0] S1x1024x128.size inb_S35x1024x128_S1x1024x128_19_0_0
abbrev rU19 : Rect S1024x4480 := Rect.unit (s := S1024x4480) ![0, 2432] S1024x128.size inb_S1024x4480_S1024x128_0_2432
abbrev rT20 : Rect S35x1024x128 := Rect.unit (s := S35x1024x128) ![20, 0, 0] S1x1024x128.size inb_S35x1024x128_S1x1024x128_20_0_0
abbrev rU20 : Rect S1024x4480 := Rect.unit (s := S1024x4480) ![0, 2560] S1024x128.size inb_S1024x4480_S1024x128_0_2560
abbrev rT21 : Rect S35x1024x128 := Rect.unit (s := S35x1024x128) ![21, 0, 0] S1x1024x128.size inb_S35x1024x128_S1x1024x128_21_0_0
abbrev rU21 : Rect S1024x4480 := Rect.unit (s := S1024x4480) ![0, 2688] S1024x128.size inb_S1024x4480_S1024x128_0_2688
abbrev rT22 : Rect S35x1024x128 := Rect.unit (s := S35x1024x128) ![22, 0, 0] S1x1024x128.size inb_S35x1024x128_S1x1024x128_22_0_0
abbrev rU22 : Rect S1024x4480 := Rect.unit (s := S1024x4480) ![0, 2816] S1024x128.size inb_S1024x4480_S1024x128_0_2816
abbrev rT23 : Rect S35x1024x128 := Rect.unit (s := S35x1024x128) ![23, 0, 0] S1x1024x128.size inb_S35x1024x128_S1x1024x128_23_0_0
abbrev rU23 : Rect S1024x4480 := Rect.unit (s := S1024x4480) ![0, 2944] S1024x128.size inb_S1024x4480_S1024x128_0_2944
abbrev rT24 : Rect S35x1024x128 := Rect.unit (s := S35x1024x128) ![24, 0, 0] S1x1024x128.size inb_S35x1024x128_S1x1024x128_24_0_0
abbrev rU24 : Rect S1024x4480 := Rect.unit (s := S1024x4480) ![0, 3072] S1024x128.size inb_S1024x4480_S1024x128_0_3072
abbrev rT25 : Rect S35x1024x128 := Rect.unit (s := S35x1024x128) ![25, 0, 0] S1x1024x128.size inb_S35x1024x128_S1x1024x128_25_0_0
abbrev rU25 : Rect S1024x4480 := Rect.unit (s := S1024x4480) ![0, 3200] S1024x128.size inb_S1024x4480_S1024x128_0_3200
abbrev rT26 : Rect S35x1024x128 := Rect.unit (s := S35x1024x128) ![26, 0, 0] S1x1024x128.size inb_S35x1024x128_S1x1024x128_26_0_0
abbrev rU26 : Rect S1024x4480 := Rect.unit (s := S1024x4480) ![0, 3328] S1024x128.size inb_S1024x4480_S1024x128_0_3328
abbrev rT27 : Rect S35x1024x128 := Rect.unit (s := S35x1024x128) ![27, 0, 0] S1x1024x128.size inb_S35x1024x128_S1x1024x128_27_0_0
abbrev rU27 : Rect S1024x4480 := Rect.unit (s := S1024x4480) ![0, 3456] S1024x128.size inb_S1024x4480_S1024x128_0_3456
abbrev rT28 : Rect S35x1024x128 := Rect.unit (s := S35x1024x128) ![28, 0, 0] S1x1024x128.size inb_S35x1024x128_S1x1024x128_28_0_0
abbrev rU28 : Rect S1024x4480 := Rect.unit (s := S1024x4480) ![0, 3584] S1024x128.size inb_S1024x4480_S1024x128_0_3584
abbrev rT29 : Rect S35x1024x128 := Rect.unit (s := S35x1024x128) ![29, 0, 0] S1x1024x128.size inb_S35x1024x128_S1x1024x128_29_0_0
abbrev rU29 : Rect S1024x4480 := Rect.unit (s := S1024x4480) ![0, 3712] S1024x128.size inb_S1024x4480_S1024x128_0_3712
abbrev rT30 : Rect S35x1024x128 := Rect.unit (s := S35x1024x128) ![30, 0, 0] S1x1024x128.size inb_S35x1024x128_S1x1024x128_30_0_0
abbrev rU30 : Rect S1024x4480 := Rect.unit (s := S1024x4480) ![0, 3840] S1024x128.size inb_S1024x4480_S1024x128_0_3840
abbrev rT31 : Rect S35x1024x128 := Rect.unit (s := S35x1024x128) ![31, 0, 0] S1x1024x128.size inb_S35x1024x128_S1x1024x128_31_0_0
abbrev rU31 : Rect S1024x4480 := Rect.unit (s := S1024x4480) ![0, 3968] S1024x128.size inb_S1024x4480_S1024x128_0_3968
abbrev rT32 : Rect S35x1024x128 := Rect.unit (s := S35x1024x128) ![32, 0, 0] S1x1024x128.size inb_S35x1024x128_S1x1024x128_32_0_0
abbrev rU32 : Rect S1024x4480 := Rect.unit (s := S1024x4480) ![0, 4096] S1024x128.size inb_S1024x4480_S1024x128_0_4096
abbrev rT33 : Rect S35x1024x128 := Rect.unit (s := S35x1024x128) ![33, 0, 0] S1x1024x128.size inb_S35x1024x128_S1x1024x128_33_0_0
abbrev rU33 : Rect S1024x4480 := Rect.unit (s := S1024x4480) ![0, 4224] S1024x128.size inb_S1024x4480_S1024x128_0_4224
abbrev rT34 : Rect S35x1024x128 := Rect.unit (s := S35x1024x128) ![34, 0, 0] S1x1024x128.size inb_S35x1024x128_S1x1024x128_34_0_0
abbrev rU34 : Rect S1024x4480 := Rect.unit (s := S1024x4480) ![0, 4352] S1024x128.size inb_S1024x4480_S1024x128_0_4352

/-! ## The weights rearranged -/

/-- What trip `k` stores of the weights `w`: first the left half of its rows, then the right half (last first). -/
def tripPieces (i : grid0.Coords) (h5 : k0_cond5 i = 1#1) (w : Vec F S5120x256 .fp8e4m3) (k : Fin k0_t1_loop.trips) :
    List (View.Piece (Elt F) S5120x256 .fp8e4m3) :=
  [⟨rR i h5 k, k0_pay14 (k0_pay12 (View.ld w (rL i h5 k)) (View.ld w (rR i h5 k)))⟩,
   ⟨rL i h5 k, k0_pay13 (k0_pay11 (View.ld w (rL i h5 k)) (View.ld w (rR i h5 k)))⟩]

/-- What the trips before `k` store, last first. -/
def pieces (i : grid0.Coords) (h5 : k0_cond5 i = 1#1) (w : Vec F S5120x256 .fp8e4m3) : ℕ → List (View.Piece (Elt F) S5120x256 .fp8e4m3)
  | 0 => []
  | k + 1 => (if h : k < k0_t1_loop.trips then tripPieces i h5 w ⟨k, h⟩ else []) ++ pieces i h5 w k

/-- The rearranged weights: what the 20 trips leave in the scratch. -/
def perm (i : grid0.Coords) (h5 : k0_cond5 i = 1#1) (w : Vec F S5120x256 .fp8e4m3) : Vec F S5120x256 .fp8e4m3 :=
  View.canon (pieces i h5 w k0_t1_loop.trips)

theorem trips_eq : k0_t1_loop.trips = 20 := by decide +kernel

theorem off1_eq (k : Fin k0_t1_loop.trips) : k0_off1 k = ![256 * k.val, 0] := by revert k; decide +kernel

theorem off2_eq (k : Fin k0_t1_loop.trips) : k0_off2 k = ![256 * k.val, 128] := by revert k; decide +kernel

theorem mem_pieces (i : grid0.Coords) (h5 : k0_cond5 i = 1#1) (w : Vec F S5120x256 .fp8e4m3) (k : Fin k0_t1_loop.trips)
    (p : View.Piece (Elt F) S5120x256 .fp8e4m3) (hp : p ∈ tripPieces i h5 w k) :
    ∀ n, k.val < n → p ∈ pieces i h5 w n
  | n + 1, h => by
    rw [pieces]
    by_cases hk : k.val = n
    · refine List.mem_append_left _ ?_
      subst hk
      rw [dif_pos k.isLt]; exact hp
    · exact List.mem_append_right _ (mem_pieces i h5 w k p hp n (by omega))

/-- The 40 pieces cover the scratch: a row lies in the trip of its 256 rows, in the half of its lane. -/
theorem cover_pieces (i : grid0.Coords) (h5 : k0_cond5 i = 1#1) (w : Vec F S5120x256 .fp8e4m3) (y : S5120x256.Idx) :
    ∃ p ∈ pieces i h5 w k0_t1_loop.trips, y ∈ p.1.set := by
  have h0 : (y 0).val < 5120 := (y 0).isLt
  have h1 : (y 1).val < 256 := (y 1).isLt
  have hk : (y 0).val / 256 < k0_t1_loop.trips := by rw [trips_eq]; omega
  by_cases hl : (y 1).val < 128
  · refine ⟨⟨rL i h5 ⟨_, hk⟩, _⟩, mem_pieces i h5 w ⟨_, hk⟩ _ (List.mem_cons_of_mem _ List.mem_cons_self) _ hk, ?_⟩
    refine (Rect.mem_set_unit (inb := k0_off1_inb i ⟨_, hk⟩ h5)).mpr fun a => ?_
    rw [off1_eq]
    fin_cases a
    · show 256 * ((y 0).val / 256) ≤ (y 0).val ∧ (y 0).val < 256 * ((y 0).val / 256) + 256; omega
    · show 0 ≤ (y 1).val ∧ (y 1).val < 0 + 128; omega
  · refine ⟨⟨rR i h5 ⟨_, hk⟩, _⟩, mem_pieces i h5 w ⟨_, hk⟩ _ List.mem_cons_self _ hk, ?_⟩
    refine (Rect.mem_set_unit (inb := k0_off2_inb i ⟨_, hk⟩ h5)).mpr fun a => ?_
    rw [off2_eq]
    fin_cases a
    · show 256 * ((y 0).val / 256) ≤ (y 0).val ∧ (y 0).val < 256 * ((y 0).val / 256) + 256; omega
    · show 128 ≤ (y 1).val ∧ (y 1).val < 128 + 128; omega

/-- What one store leaves, read back. -/
theorem read_one {κ : Kind} {sp : Space} {s : Shape} {e : EltTy} (v : View sig κ sp s e) (f : v.ty.Contents (Elt F)) (r : Rect s) (p : r.shape.Idx → Elt F e) :
    v.read (Elt F) (v.writes (Elt F) f [⟨r, p⟩]) = r.overlay (v.read (Elt F) f) p := by
  funext y
  by_cases h : y ∈ r.set
  · obtain ⟨x, rfl⟩ : ∃ x, r.emb x = y := r.exists_idx_of_mem h
    rw [View.read_writes_cons_emb, r.overlay_emb]
  · rw [View.read_writes_cons_miss _ _ _ _ _ h, r.overlay_of_not_mem _ _ h]; rfl

section Trip

variable (𝒱 : Variants) (c : Dev nD) (bd : Option 𝒱.V) (i : grid0.Coords) (arg2 : Memref sig .tc .vmem S1024x5120 .fp8e4m3) (harg2 : arg2.IsWhole) (arg3 : Memref sig .tc .vmem S1024x1 .f32) (harg3 : arg3.IsWhole) (arg4 : Memref sig .tc .vmem S5120x256 .fp8e4m3) (harg4 : arg4.IsWhole) (arg5 : Memref sig .tc .vmem S1x256 .f32) (harg5 : arg5.IsWhole) (arg6 : Memref sig .tc .vmem S2x1024x128 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x4480 .fp8e4m3) (harg9 : arg9.IsWhole) (arg10 : Memref sig .tc .vmem S1024x1 .f32) (harg10 : arg10.IsWhole) (arg11 : Memref sig .tc .vmem S35x1024x128 .f32) (harg11 : arg11.IsWhole) (arg12 : Memref sig .tc .vmem S1024x128 .f32) (harg12 : arg12.IsWhole) (arg13 : Memref sig .tc .vmem S5120x256 .fp8e4m3) (harg13 : arg13.IsWhole) (k0_h5 : k0_cond5 i = 1#1) (X : BufTy.Contents (Elt F) arg4.view.ty)

/-- The pieces the loop's run names are the pieces above. -/
theorem loop_pieces : ∀ k, k ≤ k0_t1_loop.trips →
    pb_k0_t1 (F := F) 𝒱 c bd i arg2 harg2 arg3 harg3 arg4 harg4 arg5 harg5 arg6 harg6 arg7 harg7 arg8 harg8 arg9 harg9 arg10 harg10 arg11 harg11 arg12 harg12 arg13 harg13 k0_h5 X k = pieces i k0_h5 (arg4.view.read (Elt F) X) k
  | 0, _ => rfl
  | k + 1, h => by
    have hk : k < k0_t1_loop.trips := h
    have e := pb_k0_t1_succ (F := F) 𝒱 c bd i arg2 harg2 arg3 harg3 arg4 harg4 arg5 harg5 arg6 harg6 arg7 harg7 arg8 harg8 arg9 harg9 arg10 harg10 arg11 harg11 arg12 harg12 arg13 harg13 k0_h5 X ⟨k, hk⟩
    dsimp only at e
    rw [e, loop_pieces k (Nat.le_of_lt hk), pieces, dif_pos hk]
    congr 1
    unfold tripL_k0_t1 trip_k0_t1
    rfl

/-- The rearranged weights as the product loads them. -/
theorem load_perm (f : BufTy.Contents (Elt F) arg13.view.ty) :
    View.readAt (Elt F) arg13.view rW.toLoadRect (arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h5 X k0_t1_loop.trips))
      = View.ld (perm i k0_h5 (arg4.view.read (Elt F) X)) rW := by
  rw [View.readAt_eq_ld, loop_pieces (F := F) 𝒱 c bd i arg2 harg2 arg3 harg3 arg4 harg4 arg5 harg5 arg6 harg6 arg7 harg7 arg8 harg8 arg9 harg9 arg10 harg10 arg11 harg11 arg12 harg12 arg13 harg13 k0_h5 X _ (Nat.le_refl _), View.read_writes_eq_canon _ _ _ (cover_pieces i k0_h5 _)]
  rfl

end Trip

/-! ## What a point stores -/

/-- The slab of hidden values: one block of 128 lanes of `silu (gate) * up`. -/
def slab (i : grid0.Coords) (h5 : k0_cond5 i = 1#1) (x : Vec F S1024x5120 .fp8e4m3) (xs : Vec F S1024x1 .f32) (w : Vec F S5120x256 .fp8e4m3) (ws : Vec F S1x256 .f32) : Vec F S1x1024x128 .f32 :=
  k0_pay5 (k0_pay15 (View.ld ws rC1)) k0_pay16 k0_pay17 (k0_pay18 (View.ld ws rC0)) k0_pay19 k0_pay20 (View.ld (perm i h5 w) rW) (View.ld x rX) (View.ld xs rS)

/-- The running maximum of the slabs' magnitudes, from the one before. -/
def amax (i : grid0.Coords) (h5 : k0_cond5 i = 1#1) (x : Vec F S1024x5120 .fp8e4m3) (xs : Vec F S1024x1 .f32) (w : Vec F S5120x256 .fp8e4m3) (ws : Vec F S1x256 .f32) (A : Vec F S1024x128 .f32) : Vec F S1024x128 .f32 :=
  View.canon [⟨rA, k0_pay6 i (k0_pay15 (View.ld ws rC1)) k0_pay16 k0_pay17 (k0_pay18 (View.ld ws rC0)) k0_pay19 k0_pay20 (View.ld (perm i h5 w) rW) (View.ld x rX) (View.ld xs rS) (View.ld A rA)⟩]

/-- A block of `q`: two heads of 128 lanes. -/
def outQ (x : Vec F S1024x5120 .fp8e4m3) (xs : Vec F S1024x1 .f32) (w : Vec F S5120x256 .fp8e4m3) (ws : Vec F S1x256 .f32) : Vec F S2x1024x128 .bf16 :=
  View.canon [⟨rQ1, k0_pay3 (View.ld w rW) (View.ld x rX) (View.ld xs rS) (View.ld ws rC)⟩, ⟨rQ0, k0_pay2 (View.ld w rW) (View.ld x rX) (View.ld xs rS) (View.ld ws rC)⟩]

/-- A block of `k` or of `v`. -/
def outK (x : Vec F S1024x5120 .fp8e4m3) (xs : Vec F S1024x1 .f32) (w : Vec F S5120x256 .fp8e4m3) (ws : Vec F S1x256 .f32) : Vec F S1024x256 .bf16 :=
  View.canon [⟨rK, k0_pay1 (View.ld w rW) (View.ld x rX) (View.ld xs rS) (View.ld ws rC)⟩]

/-- The scale of the 1024 rows, from the lane maxima. -/
def outS (A : Vec F S1024x128 .f32) : Vec F S1024x1 .f32 := View.canon [⟨rS, k0_pay22 (View.ld A rA)⟩]

/-- The codes of one slab: the slab over the scale, clipped. -/
def code (A : Vec F S1024x128 .f32) (v : Vec F S1x1024x128 .f32) : FVec F S1024x128 .fp8e4m3 := k0_pay30 (k0_pay24 (k0_pay23 (View.ld A rA))) v

/-- The codes of the 35 slabs, side by side. -/
def outC (H : Vec F S35x1024x128 .f32) (A : Vec F S1024x128 .f32) : Vec F S1024x4480 .fp8e4m3 :=
  View.canon [⟨rU34, code A (View.ld H rT34)⟩, ⟨rU33, code A (View.ld H rT33)⟩, ⟨rU32, code A (View.ld H rT32)⟩, ⟨rU31, code A (View.ld H rT31)⟩, ⟨rU30, code A (View.ld H rT30)⟩, ⟨rU29, code A (View.ld H rT29)⟩, ⟨rU28, code A (View.ld H rT28)⟩, ⟨rU27, code A (View.ld H rT27)⟩, ⟨rU26, code A (View.ld H rT26)⟩, ⟨rU25, code A (View.ld H rT25)⟩, ⟨rU24, code A (View.ld H rT24)⟩, ⟨rU23, code A (View.ld H rT23)⟩, ⟨rU22, code A (View.ld H rT22)⟩, ⟨rU21, code A (View.ld H rT21)⟩, ⟨rU20, code A (View.ld H rT20)⟩, ⟨rU19, code A (View.ld H rT19)⟩, ⟨rU18, code A (View.ld H rT18)⟩, ⟨rU17, code A (View.ld H rT17)⟩, ⟨rU16, code A (View.ld H rT16)⟩, ⟨rU15, code A (View.ld H rT15)⟩, ⟨rU14, code A (View.ld H rT14)⟩, ⟨rU13, code A (View.ld H rT13)⟩, ⟨rU12, code A (View.ld H rT12)⟩, ⟨rU11, code A (View.ld H rT11)⟩, ⟨rU10, code A (View.ld H rT10)⟩, ⟨rU9, code A (View.ld H rT9)⟩, ⟨rU8, code A (View.ld H rT8)⟩, ⟨rU7, code A (View.ld H rT7)⟩, ⟨rU6, code A (View.ld H rT6)⟩, ⟨rU5, code A (View.ld H rT5)⟩, ⟨rU4, code A (View.ld H rT4)⟩, ⟨rU3, code A (View.ld H rT3)⟩, ⟨rU2, code A (View.ld H rT2)⟩, ⟨rU1, code A (View.ld H rT1)⟩, ⟨rU0, code A (View.ld H rT0)⟩]

theorem cover_S (p) (y : S1024x1.Idx) : ∃ pc ∈ ([⟨rS, p⟩] : List (View.Piece (Elt F) S1024x1 .f32)), y ∈ pc.1.set :=
  View.cover_of_tiled [⟨rS, p⟩] S1024x1.size (by rfl) y

theorem cover_Q (p q) (y : S2x1024x128.Idx) : ∃ pc ∈ ([⟨rQ1, p⟩, ⟨rQ0, q⟩] : List (View.Piece (Elt F) S2x1024x128 .bf16)), y ∈ pc.1.set :=
  View.cover_of_tiled [⟨rQ1, p⟩, ⟨rQ0, q⟩] S1x1024x128.size (by rfl) y

theorem cover_K (p) (y : S1024x256.Idx) : ∃ pc ∈ ([⟨rK, p⟩] : List (View.Piece (Elt F) S1024x256 .bf16)), y ∈ pc.1.set :=
  View.cover_of_tiled [⟨rK, p⟩] S1024x256.size (by rfl) y

theorem cover_A (p) (y : S1024x128.Idx) : ∃ pc ∈ ([⟨rA, p⟩] : List (View.Piece (Elt F) S1024x128 .f32)), y ∈ pc.1.set :=
  View.cover_of_tiled [⟨rA, p⟩] S1024x128.size (by rfl) y

/-! ## The triples -/

section Triples

variable (c : Dev nD) (E : Set ℕ) (i : grid0.Coords) (arg2 : Memref sig .tc .vmem S1024x5120 .fp8e4m3) (harg2 : arg2.IsWhole) (arg3 : Memref sig .tc .vmem S1024x1 .f32) (harg3 : arg3.IsWhole) (arg4 : Memref sig .tc .vmem S5120x256 .fp8e4m3) (harg4 : arg4.IsWhole) (arg5 : Memref sig .tc .vmem S1x256 .f32) (harg5 : arg5.IsWhole) (arg6 : Memref sig .tc .vmem S2x1024x128 .bf16) (harg6 : arg6.IsWhole) (arg7 : Memref sig .tc .vmem S1024x256 .bf16) (harg7 : arg7.IsWhole) (arg8 : Memref sig .tc .vmem S1024x256 .bf16) (harg8 : arg8.IsWhole) (arg9 : Memref sig .tc .vmem S1024x4480 .fp8e4m3) (harg9 : arg9.IsWhole) (arg10 : Memref sig .tc .vmem S1024x1 .f32) (harg10 : arg10.IsWhole) (arg11 : Memref sig .tc .vmem S35x1024x128 .f32) (harg11 : arg11.IsWhole) (arg12 : Memref sig .tc .vmem S1024x128 .f32) (harg12 : arg12.IsWhole) (arg13 : Memref sig .tc .vmem S5120x256 .fp8e4m3) (harg13 : arg13.IsWhole)
  (x : Vec F S1024x5120 .fp8e4m3) (xs : Vec F S1024x1 .f32) (w : Vec F S5120x256 .fp8e4m3) (ws : Vec F S1x256 .f32)

/-- The four input blocks, read-only at every point. -/
abbrev ins : sProp 𝕄 :=
  iprop(owns (c : Thread nD τ) arg2 fullShare x ∗ owns (c : Thread nD τ) arg3 fullShare xs ∗ owns (c : Thread nD τ) arg4 fullShare w ∗ owns (c : Thread nD τ) arg5 fullShare ws)

set_option maxHeartbeats 2000000 in
/-- Steps 0..4: the block of `q`. -/
theorem triple_q (K : PUnit → sProp 𝕄) (h1 : k0_cond1 i = 1#1) (h2 : k0_cond2 i = 1#1) (h3 : ¬ k0_cond3 i = 1#1) (h4 : ¬ k0_cond4 i = 1#1) (h5 : ¬ k0_cond5 i = 1#1) (h6 : ¬ k0_cond6 i = 1#1) :
    iprop(ins c arg2 arg3 arg4 arg5 x xs w ws ∗ (∃ d, owns (c : Thread nD τ) arg6 fullShare d)
        ∗ (iprop(ins c arg2 arg3 arg4 arg5 x xs w ws ∗ owns (c : Thread nD τ) arg6 fullShare (outQ x xs w ws)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%d5, %f5, -, H5⟩, Hk⟩
  subst hf0 hf1 hf2 hf3
  simp only [dif_pos h1, dif_pos h2, dif_neg h3, dif_neg h4, dif_neg h5, dif_neg h6]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H5
  ipureintro
  exact View.read_writes_eq_canon _ _ _ (cover_Q _ _)

set_option maxHeartbeats 2000000 in
/-- Step 5: the block of `k`. -/
theorem triple_k (K : PUnit → sProp 𝕄) (h1 : k0_cond1 i = 1#1) (h2 : ¬ k0_cond2 i = 1#1) (h3 : k0_cond3 i = 1#1) (h4 : ¬ k0_cond4 i = 1#1) (h5 : ¬ k0_cond5 i = 1#1) (h6 : ¬ k0_cond6 i = 1#1) :
    iprop(ins c arg2 arg3 arg4 arg5 x xs w ws ∗ (∃ d, owns (c : Thread nD τ) arg7 fullShare d)
        ∗ (iprop(ins c arg2 arg3 arg4 arg5 x xs w ws ∗ owns (c : Thread nD τ) arg7 fullShare (outK x xs w ws)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%d5, %f5, -, H5⟩, Hk⟩
  subst hf0 hf1 hf2 hf3
  simp only [dif_pos h1, dif_neg h2, dif_pos h3, dif_neg h4, dif_neg h5, dif_neg h6]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H5
  ipureintro
  exact View.read_writes_eq_canon _ _ _ (cover_K _)

set_option maxHeartbeats 2000000 in
/-- Step 6: the block of `v`. -/
theorem triple_v (K : PUnit → sProp 𝕄) (h1 : k0_cond1 i = 1#1) (h2 : ¬ k0_cond2 i = 1#1) (h3 : ¬ k0_cond3 i = 1#1) (h4 : k0_cond4 i = 1#1) (h5 : ¬ k0_cond5 i = 1#1) (h6 : ¬ k0_cond6 i = 1#1) :
    iprop(ins c arg2 arg3 arg4 arg5 x xs w ws ∗ (∃ d, owns (c : Thread nD τ) arg8 fullShare d)
        ∗ (iprop(ins c arg2 arg3 arg4 arg5 x xs w ws ∗ owns (c : Thread nD τ) arg8 fullShare (outK x xs w ws)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%d5, %f5, -, H5⟩, Hk⟩
  subst hf0 hf1 hf2 hf3
  simp only [dif_pos h1, dif_neg h2, dif_neg h3, dif_pos h4, dif_neg h5, dif_neg h6]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  iexists _; isplitr
  swap; · iexact H5
  ipureintro
  exact View.read_writes_eq_canon _ _ _ (cover_K _)

set_option maxHeartbeats 2000000 in
/-- Steps 7..40: one slab of hidden values, and the running maximum. -/
theorem triple_h (K : PUnit → sProp 𝕄) (h1 : ¬ k0_cond1 i = 1#1) (h5 : k0_cond5 i = 1#1) (h6 : ¬ k0_cond6 i = 1#1) (H : Vec F S35x1024x128 .f32) (A : Vec F S1024x128 .f32) :
    iprop(ins c arg2 arg3 arg4 arg5 x xs w ws ∗ owns (c : Thread nD τ) arg11 fullShare H ∗ owns (c : Thread nD τ) arg12 fullShare A ∗ (∃ d, owns (c : Thread nD τ) arg13 fullShare d)
        ∗ (iprop(ins c arg2 arg3 arg4 arg5 x xs w ws ∗ owns (c : Thread nD τ) arg11 fullShare ((rH i h5).overlay H (slab i h5 x xs w ws)) ∗ owns (c : Thread nD τ) arg12 fullShare (amax i h5 x xs w ws A) ∗ (∃ d, owns (c : Thread nD τ) arg13 fullShare d)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%f11, %hf11, H11⟩, ⟨%f12, %hf12, H12⟩, ⟨%d13, %f13, -, H13⟩, Hk⟩
  subst hf0 hf1 hf2 hf3 hf11 hf12
  simp only [dif_neg h1, dif_pos h5, dif_neg h6]
  sl_exec
  sl_step
  have hv : triple_h.sl.v56 (F := F) c i arg2 harg2 arg3 harg3 arg4 harg4 arg5 harg5 arg6 harg6 arg7 harg7 arg8 harg8 arg9 harg9 arg10 harg10 arg11 harg11 arg12 harg12 arg13 harg13 h5 f2 f13 = View.ld (perm i h5 (arg4.view.read (Elt F) f2)) rW := load_perm (F := F) Variants.none c none i arg2 harg2 arg3 harg3 arg4 harg4 arg5 harg5 arg6 harg6 arg7 harg7 arg8 harg8 arg9 harg9 arg10 harg10 arg11 harg11 arg12 harg12 arg13 harg13 h5 f2 f13
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H11]
  · iexists _; isplitr
    swap; · iexact H11
    ipureintro
    rw [read_one, hv]; rfl
  isplitl [H12]
  · iexists _; isplitr
    swap; · iexact H12
    ipureintro
    rw [View.read_writes_eq_canon _ _ _ (cover_A _), hv]; rfl
  iexists _, _; isplitr
  swap; · iexact H13
  ipureintro; rfl

set_option maxHeartbeats 8000000 in
/-- Step 41: the last slab and the last maximum, then the scale and the codes of the 1024 rows. -/
theorem triple_l (K : PUnit → sProp 𝕄) (h1 : ¬ k0_cond1 i = 1#1) (h5 : k0_cond5 i = 1#1) (h6' : k0_cond6 i = 1#1 ∧ True) (H : Vec F S35x1024x128 .f32) (A : Vec F S1024x128 .f32) :
    iprop(ins c arg2 arg3 arg4 arg5 x xs w ws ∗ owns (c : Thread nD τ) arg11 fullShare H ∗ owns (c : Thread nD τ) arg12 fullShare A ∗ (∃ d, owns (c : Thread nD τ) arg13 fullShare d)
        ∗ (∃ d, owns (c : Thread nD τ) arg9 fullShare d) ∗ (∃ d, owns (c : Thread nD τ) arg10 fullShare d)
        ∗ (iprop(ins c arg2 arg3 arg4 arg5 x xs w ws ∗ owns (c : Thread nD τ) arg11 fullShare ((rH i h5).overlay H (slab i h5 x xs w ws)) ∗ owns (c : Thread nD τ) arg12 fullShare (amax i h5 x xs w ws A) ∗ (∃ d, owns (c : Thread nD τ) arg13 fullShare d)
            ∗ owns (c : Thread nD τ) arg9 fullShare (outC ((rH i h5).overlay H (slab i h5 x xs w ws)) (amax i h5 x xs w ws A)) ∗ owns (c : Thread nD τ) arg10 fullShare (outS (amax i h5 x xs w ws A))) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  unfold ins owns
  iintro ⟨⟨⟨%f0, %hf0, H0⟩, ⟨%f1, %hf1, H1⟩, ⟨%f2, %hf2, H2⟩, ⟨%f3, %hf3, H3⟩⟩, ⟨%f11, %hf11, H11⟩, ⟨%f12, %hf12, H12⟩, ⟨%d13, %f13, -, H13⟩, ⟨%d9, %f9, -, H9⟩, ⟨%d10, %f10, -, H10⟩, Hk⟩
  subst hf0 hf1 hf2 hf3 hf11 hf12
  simp only [dif_neg h1, dif_pos h5]
  generalize hP : dite (k0_cond6 i = 1#1) _ _ = P6
  sl_exec
  have hv : triple_l.sl.v56 (F := F) c i arg2 harg2 arg3 harg3 arg4 harg4 arg5 harg5 arg6 harg6 arg7 harg7 arg8 harg8 arg9 harg9 arg10 harg10 arg11 harg11 arg12 harg12 arg13 harg13 h5 f2 f13 = View.ld (perm i h5 (arg4.view.read (Elt F) f2)) rW := load_perm (F := F) Variants.none c none i arg2 harg2 arg3 harg3 arg4 harg4 arg5 harg5 arg6 harg6 arg7 harg7 arg8 harg8 arg9 harg9 arg10 harg10 arg11 harg11 arg12 harg12 arg13 harg13 h5 f2 f13
  generalize hg11 : arg11.view.writes (Elt F) f11 _ = g11
  generalize hg12 : arg12.view.writes (Elt F) f12 _ = g12
  have e11 : arg11.view.read (Elt F) g11 = (rH i h5).overlay (arg11.view.read (Elt F) f11) (slab i h5 (arg2.view.read (Elt F) f0) (arg3.view.read (Elt F) f1) (arg4.view.read (Elt F) f2) (arg5.view.read (Elt F) f3)) := by
    rw [← hg11, read_one, hv]; rfl
  have e12 : arg12.view.read (Elt F) g12 = amax i h5 (arg2.view.read (Elt F) f0) (arg3.view.read (Elt F) f1) (arg4.view.read (Elt F) f2) (arg5.view.read (Elt F) f3) (arg12.view.read (Elt F) f12) := by
    rw [← hg12, View.read_writes_eq_canon _ _ _ (cover_A _), hv]; rfl
  clear hg11 hg12
  rw [← e11, ← e12, ← hP]
  simp only [dif_pos h6'.1]
  sl_exec
  sl_step
  iapply Hk
  isplitl [H0 H1 H2 H3]
  · isplitl [H0]
    · iexists f0; isplitr; · ipureintro; rfl
      iexact H0
    isplitl [H1]
    · iexists f1; isplitr; · ipureintro; rfl
      iexact H1
    isplitl [H2]
    · iexists f2; isplitr; · ipureintro; rfl
      iexact H2
    iexists f3; isplitr; · ipureintro; rfl
    iexact H3
  isplitl [H11]
  · iexists g11; isplitr
    · ipureintro; rfl
    iexact H11
  isplitl [H12]
  · iexists g12; isplitr
    · ipureintro; rfl
    iexact H12
  isplitl [H13]
  · iexists _, _; isplitr
    swap; · iexact H13
    ipureintro; rfl
  isplitl [H9]
  · iexists _; isplitr
    swap; · iexact H9
    ipureintro
    refine (View.read_writes_eq_canon _ _ _ ?_).trans ?_
    · intro y
      refine View.cover_of_tiled (s := S1024x4480) _ S1024x128.size ?_ y
      rfl
    · rfl
  iexists _; isplitr
  swap; · iexact H10
  ipureintro
  exact View.read_writes_eq_canon _ _ _ (cover_S _)

end Triples

end Cert.InKernelIdeal.Body
-- ==== Proof.InLanes.lean ====
/-
  The lane permutation that separates gate from up columns.

  The 256 weight columns of a step alternate gate, up, gate, up. Two gathers, two selections and a rotation of the two
  halves of 128 lanes put the gate columns (0, 2, 4, …) in the left half and the up columns (1, 3, 5, …) in the right
  half, of the weights (`gate_at`, `up_at`) and of their scales (`wgate_at`, `wup_at`).
-/
module

public import proofs.«01_k».proof.Proof.InTriples
public import Idealize.ShloMosaic.Lib.Pipeline.ValueKit
public import Idealize.ShloMosaic.Lib.Tactic
public import Idealize.ShloMosaic.Lib.KernelVsHost

@[expose] public section

set_option maxRecDepth 16384

noncomputable section

namespace Cert.InKernelIdeal.Lanes

open Cert.InKernelIdeal Cert.InKernelIdeal.Gen Cert.InKernelIdeal.Body Idealize.ShloMosaic Idealize.ShloMosaic.TcCoe

/-- The lane words of the two gathers, of the lane's own word. -/
def rawA (x : BitVec 32) : BitVec 32 := Scalar.select (IntOp.cmpi .slt x 64#32) (IntOp.muli 2#32 x) (IntOp.subi (IntOp.muli 2#32 x) 127#32)
def rawB (x : BitVec 32) : BitVec 32 := Scalar.select (IntOp.cmpi .slt x 64#32) (IntOp.addi (IntOp.muli 2#32 x) 1#32) (IntOp.subi (IntOp.muli 2#32 x) 128#32)
def wrap (x : BitVec 32) : BitVec 32 := Scalar.select (IntOp.cmpi .slt x 0#32) (IntOp.addi x 128#32) x

theorem wordA_val : ∀ l : Fin 128, (wrap (rawA (BitVec.ofNat 32 l.val))).toNat % 128 = if l.val < 64 then 2 * l.val else 2 * l.val - 127 := by decide +kernel
theorem wordB_val : ∀ l : Fin 128, (wrap (rawB (BitVec.ofNat 32 l.val))).toNat % 128 = if l.val < 64 then 2 * l.val + 1 else 2 * l.val - 128 := by decide +kernel
theorem low_val : ∀ l : Fin 128, IntOp.cmpi .slt (BitVec.ofNat 32 l.val) 64#32 = if l.val < 64 then 1#1 else 0#1 := by decide +kernel

theorem lane_at (r : Fin 256) (l : Fin 128) : iota .tc S256x128 32 [1] iota_S256x128_d1_w32 (ix2 r l) = BitVec.ofNat 32 l.val := by pointwise
theorem lane8_at (r : Fin 8) (l : Fin 128) : iota .tc S8x128 32 [1] iota_S8x128_d1_w32 (ix2 r l) = BitVec.ofNat 32 l.val := by pointwise

/-- Which column of a half the two gathers read. -/
def laneA (l : Fin 128) : Fin 128 := ⟨if l.val < 64 then 2 * l.val else 2 * l.val - 127, by split <;> omega⟩
def laneB (l : Fin 128) : Fin 128 := ⟨if l.val < 64 then 2 * l.val + 1 else 2 * l.val - 128, by split <;> omega⟩

/-- A gather along the lanes of n rows. -/
theorem gather_at {n : ℕ} (x : (⟨2, ![n, 128]⟩ : Shape).Idx → EReal) (idx : IVec ⟨2, ![n, 128]⟩ 32) (r : Fin n) (l k : Fin 128)
    (h : (idx (ix2 r l)).toNat % 128 = k.val) : dynamicGather 1 x idx (ix2 r l) = x (ix2 r k) := by
  rw [dynamicGather_apply]
  refine congrArg x (funext fun d => ?_)
  match d with
  | 0 => rfl
  | 1 => exact Fin.ext h

/-- The rotation by 64 lanes of n rows. -/
theorem rotate_at {n : ℕ} (x : (⟨2, ![n, 128]⟩ : Shape).Idx → EReal) (hx) (r : Fin n) (l : Fin 128) :
    dynamicRotate 1 64#32 none x hx (ix2 r l) = x (ix2 r ⟨(l.val + 64) % 128, Nat.mod_lt _ (by omega)⟩) := by
  refine dynamicRotate_apply _ _ _ _ _ _ fun b => ?_
  match b with
  | 0 => rfl
  | 1 => show (l.val + 64) % 128 = (l.val + 128 - 64) % 128; omega

theorem pay8_at (r : Fin 256) (l : Fin 128) : k0_pay8 (ix2 r l) = if l.val < 64 then 1#1 else 0#1 := by
  rw [← low_val, ← lane_at r l]; rfl
theorem pay16_at (r : Fin 8) (l : Fin 128) : k0_pay16 (ix2 r l) = if l.val < 64 then 1#1 else 0#1 := by
  rw [← low_val, ← lane8_at r l]; rfl

theorem pay9_at (a : Vec Ideal S256x128 .fp8e4m3) (r : Fin 256) (l : Fin 128) : k0_pay9 (F := Ideal) a (ix2 r l) = a (ix2 r (laneA l)) := by
  unfold k0_pay9
  rw [shapeCast_comp, shapeCast_self]
  refine gather_at _ _ r l (laneA l) ?_
  have e := wordA_val l
  rw [← lane_at r l] at e
  exact e
theorem pay10_at (b : Vec Ideal S256x128 .fp8e4m3) (r : Fin 256) (l : Fin 128) : k0_pay10 (F := Ideal) b (ix2 r l) = b (ix2 r (laneB l)) := by
  unfold k0_pay10
  rw [shapeCast_comp, shapeCast_self]
  refine gather_at _ _ r l (laneB l) ?_
  have e := wordB_val l
  rw [← lane_at r l] at e
  exact e

/-- The rearranged left half. -/
theorem gate_at (a b : Vec Ideal S256x128 .fp8e4m3) (r : Fin 256) (l : Fin 128) :
    k0_pay13 (k0_pay11 (F := Ideal) a b) (ix2 r l) = if l.val < 64 then a (ix2 r (laneA l)) else b (ix2 r (laneB l)) := by
  have e : ∀ v : FVec Ideal S256x128 .f32, k0_pay13 (F := Ideal) v (ix2 r l) = v (ix2 r l) := fun v => by
    unfold k0_pay13
    rw [shapeCast_self]
    rfl
  have e' : k0_pay11 (F := Ideal) a b (ix2 r l) = Scalar.select (k0_pay8 (ix2 r l)) (k0_pay9 (F := Ideal) a (ix2 r l)) (k0_pay10 (F := Ideal) b (ix2 r l)) := rfl
  rw [e, e', pay8_at, pay9_at, pay10_at]
  by_cases h : l.val < 64
  · rw [if_pos h, if_pos h]; rfl
  · rw [if_neg h, if_neg h]; rfl

/-- The rearranged right half. -/
theorem up_at (a b : Vec Ideal S256x128 .fp8e4m3) (r : Fin 256) (l : Fin 128) :
    k0_pay14 (k0_pay12 (F := Ideal) a b) (ix2 r l)
      = if l.val < 64 then a (ix2 r (laneA ⟨(l.val + 64) % 128, Nat.mod_lt _ (by omega)⟩)) else b (ix2 r (laneB ⟨(l.val + 64) % 128, Nat.mod_lt _ (by omega)⟩)) := by
  have e : ∀ v : FVec Ideal S256x128 .f32, k0_pay14 (F := Ideal) v (ix2 r l) = v (ix2 r ⟨(l.val + 64) % 128, Nat.mod_lt _ (by omega)⟩) := fun v => by
    unfold k0_pay14
    rw [shapeCast_self]
    exact rotate_at v rotates_S256x128_d1 r l
  have e' : ∀ l, k0_pay12 (F := Ideal) a b (ix2 r l) = Scalar.select (k0_pay8 (ix2 r l)) (k0_pay10 (F := Ideal) b (ix2 r l)) (k0_pay9 (F := Ideal) a (ix2 r l)) := fun _ => rfl
  rw [e, e', pay8_at, pay9_at, pay10_at]
  by_cases h : l.val < 64
  · rw [if_pos h, if_neg (by show ¬(l.val + 64) % 128 < 64; omega)]; rfl
  · rw [if_neg h, if_pos (by show (l.val + 64) % 128 < 64; omega)]; rfl

end Cert.InKernelIdeal.Lanes

end
-- ==== Proof.InDefs.lean ====
/-
  The input projection, entry by entry.

  `proj` is the projection of the quantised rows by the quantised weights: the sum of products, times the row's scale, times
  the column's scale. Its 10752 columns are ten heads of `q` (128 columns each), `k` and `v` (256 columns each), and the
  4480 pairs of a gate and an up column; `hidden` is the gated unit of a pair, and `codes` and `scales` quantise its rows
  (Quant.lean).
-/
module

public import proofs.«01_k».proof.Proof.Quant

@[expose] public section

noncomputable section

namespace Cert.In

open Idealize.ShloMosaic

/-- The gated unit of two numbers: gate × logistic(gate) × up. -/
def glu (g u : EReal) : EReal := g * FloatOps.logistic (F := Ideal) (φ := .f32) g * u

variable (x : Vec Ideal ⟨2, ![4096, 5120]⟩ .fp8e4m3) (xs : Vec Ideal ⟨2, ![4096, 1]⟩ .f32) (w : Vec Ideal ⟨2, ![5120, 10752]⟩ .fp8e4m3)
  (ws : Vec Ideal ⟨2, ![1, 10752]⟩ .f32)

/-- The projection at row r and column c. -/
def proj (r : Fin 4096) (c : Fin 10752) : EReal := ((∑ k : Fin 5120, x (ix2 r k) * w (ix2 k c)) * xs (ix2 r 0) * ws (ix2 0 c) : EReal)

/-- The hidden value j of row r. -/
def hidden (r : Fin 4096) (j : Fin 4480) : EReal :=
  glu (proj x xs w ws r ⟨1792 + 2 * j.val, by omega⟩) (proj x xs w ws r ⟨1792 + 2 * j.val + 1, by omega⟩)

/-- Head h of `q` is columns 128h .. 128h + 127: row, head, lane. -/
def q : Vec Ideal ⟨3, ![4096, 10, 128]⟩ .bf16 := fun i =>
  proj x xs w ws (i 0) ⟨128 * (i 1).val + (i 2).val, by have h : (i 1).val < 10 := (i 1).isLt; have h' : (i 2).val < 128 := (i 2).isLt; omega⟩

/-- `q` head by head: head, row, lane. -/
def heads : Vec Ideal ⟨3, ![10, 4096, 128]⟩ .bf16 := fun i =>
  proj x xs w ws (i 1) ⟨128 * (i 0).val + (i 2).val, by have h : (i 0).val < 10 := (i 0).isLt; have h' : (i 2).val < 128 := (i 2).isLt; omega⟩

/-- `k` is columns 1280 .. 1535. -/
def k : Vec Ideal ⟨2, ![4096, 256]⟩ .bf16 := fun i => proj x xs w ws (i 0) ⟨1280 + (i 1).val, by have h : (i 1).val < 256 := (i 1).isLt; omega⟩

/-- `v` is columns 1536 .. 1791. -/
def v : Vec Ideal ⟨2, ![4096, 256]⟩ .bf16 := fun i => proj x xs w ws (i 0) ⟨1536 + (i 1).val, by have h : (i 1).val < 256 := (i 1).isLt; omega⟩

/-- The codes and the scales of the hidden rows. -/
def codes : Vec Ideal ⟨2, ![4096, 4480]⟩ .fp8e4m3 := fun i => Quant.code (hidden x xs w ws (i 0)) (i 1)
def scales : Vec Ideal ⟨2, ![4096, 1]⟩ .f32 := fun i => Quant.scale (hidden x xs w ws (i 0))

end Cert.In

end
-- ==== Proof.InHidden.lean ====
/-
  The hidden values of one step.

  A step multiplies 1024 rows of codes by its 128 gate columns and its 128 up columns, scales both by the rows' scales and
  the columns' scales, and makes the hidden value `glu gate up` (`hidden_at`). With the rearranged weights of InLanes.lean
  the gate column l is the step's column 2l and the up column l its column 2l + 1 (`slab_at`).
-/
module

public import proofs.«01_k».proof.Proof.InLanes
public import proofs.«01_k».proof.Proof.InDefs

@[expose] public section

set_option maxRecDepth 16384

noncomputable section

namespace Cert.InKernelIdeal.Lanes

open Cert.InKernelIdeal Cert.InKernelIdeal.Gen Cert.InKernelIdeal.Body Idealize.ShloMosaic Idealize.ShloMosaic.TcCoe

/-- Columns 2l and 2l + 1 of a step's 256 columns. -/
def even (l : Fin 128) : Fin 256 := ⟨2 * l.val, by omega⟩
def odd (l : Fin 128) : Fin 256 := ⟨2 * l.val + 1, by omega⟩

/-! ## The scales of the columns -/

theorem pay15_at (v : Vec Ideal S1x128 .f32) (r : Fin 8) (l : Fin 128) : k0_pay15 (F := Ideal) v (ix2 r l) = v (ix2 0 l) := by
  unfold k0_pay15
  pointwise

theorem pay18_at (v : Vec Ideal S1x128 .f32) (r : Fin 8) (l : Fin 128) : k0_pay18 (F := Ideal) v (ix2 r l) = v (ix2 0 (laneA l)) := by
  have e := wordA_val l
  rw [← lane8_at r l] at e
  rw [← pay15_at v r]
  unfold k0_pay18 k0_pay15
  rw [shapeCast_comp (s := S8x128), shapeCast_self (s := S8x128)]
  exact gather_at _ _ r l (laneA l) e

/-- The other gather of a scale row. -/
def other (v : FVec Ideal S8x128 .f32) : FVec Ideal S8x128 .f32 :=
  dynamicGather 1 v (shapeCast S8x128 (shapeCast S8x128x1 (select k0_pay19 (addi k0_pay17 k0_pay20) k0_pay17) shapeCasts_S8x128_S8x128x1) shapeCasts_S8x128x1_S8x128)

theorem other_at (v : Vec Ideal S1x128 .f32) (r : Fin 8) (l : Fin 128) : other (k0_pay15 (F := Ideal) v) (ix2 r l) = v (ix2 0 (laneB l)) := by
  have e := wordB_val l
  rw [← lane8_at r l] at e
  rw [← pay15_at v r]
  unfold other
  rw [shapeCast_comp, shapeCast_self]
  exact gather_at _ _ r l (laneB l) e

/-- The rows of gate scales and of up scales. -/
def gateRow (a b : Vec Ideal S1x128 .f32) : FVec Ideal S8x128 .f32 := select k0_pay16 (k0_pay18 (F := Ideal) a) (other (k0_pay15 (F := Ideal) b))
def upRow (a b : Vec Ideal S1x128 .f32) : FVec Ideal S8x128 .f32 :=
  dynamicRotate 1 64#32 none (select k0_pay16 (other (k0_pay15 (F := Ideal) b)) (k0_pay18 (F := Ideal) a)) rotates_S8x128_d1

theorem gateRow_at (a b : Vec Ideal S1x128 .f32) (l : Fin 128) :
    gateRow a b (ix2 0 l) = if l.val < 64 then a (ix2 0 (laneA l)) else b (ix2 0 (laneB l)) := by
  have e : gateRow a b (ix2 0 l) = Scalar.select (k0_pay16 (ix2 0 l)) (k0_pay18 (F := Ideal) a (ix2 0 l)) (other (k0_pay15 (F := Ideal) b) (ix2 0 l)) := rfl
  rw [e, pay16_at, pay18_at, other_at]
  by_cases h : l.val < 64
  · rw [if_pos h, if_pos h]; rfl
  · rw [if_neg h, if_neg h]; rfl

theorem upRow_at (a b : Vec Ideal S1x128 .f32) (l : Fin 128) :
    upRow a b (ix2 0 l)
      = if l.val < 64 then a (ix2 0 (laneA ⟨(l.val + 64) % 128, Nat.mod_lt _ (by omega)⟩)) else b (ix2 0 (laneB ⟨(l.val + 64) % 128, Nat.mod_lt _ (by omega)⟩)) := by
  have e' : ∀ l, select k0_pay16 (other (k0_pay15 (F := Ideal) b)) (k0_pay18 (F := Ideal) a) (ix2 0 l)
      = Scalar.select (k0_pay16 (ix2 0 l)) (other (k0_pay15 (F := Ideal) b) (ix2 0 l)) (k0_pay18 (F := Ideal) a (ix2 0 l)) := fun _ => rfl
  unfold upRow
  rw [rotate_at, e', pay16_at, pay18_at, other_at]
  by_cases h : l.val < 64
  · rw [if_pos h, if_neg (by show ¬(l.val + 64) % 128 < 64; omega)]; rfl
  · rw [if_neg h, if_pos (by show (l.val + 64) % 128 < 64; omega)]; rfl

/-! ## The hidden values -/

/-- The products scaled by the rows' scales. -/
def acc (w : Vec Ideal S5120x256 .fp8e4m3) (x : Vec Ideal S1024x5120 .fp8e4m3) (xs : Vec Ideal S1024x1 .f32) : FVec Ideal S1024x256 .f32 :=
  mulf (matmul (φ₁ := .fp8e4m3) (φ₂ := .fp8e4m3) dot_S1024x5120_S5120x256_S1024x256_1_0_0_1_n_n none x w (constant S1024x256 .f32 0x00000000#32)) (broadcastTo S1024x256 xs broadcasts_S1024x1_S1024x256)

theorem acc_at (w : Vec Ideal S5120x256 .fp8e4m3) (x : Vec Ideal S1024x5120 .fp8e4m3) (xs : Vec Ideal S1024x1 .f32) (r : Fin 1024) (b : Fin 256) :
    acc w x xs (ix2 r b) = ((∑ k : Fin 5120, x (ix2 r k) * w (ix2 k b)) * xs (ix2 r 0) : EReal) := by
  unfold acc
  pointwise

/-- The left and right halves times a row of column scales. -/
def left (p : FVec Ideal S1024x256 .f32) (s : FVec Ideal S8x128 .f32) : FVec Ideal S1024x128 .f32 :=
  mulf (extractStridedSlice S1024x128 ![0, 0] p slices_S1024x256_o0_0_S1024x128)
    (broadcastTo S1024x128 (extractStridedSlice S1x128 ![0, 0] s slices_S8x128_o0_0_S1x128) broadcasts_S1x128_S1024x128)
def right (p : FVec Ideal S1024x256 .f32) (s : FVec Ideal S8x128 .f32) : FVec Ideal S1024x128 .f32 :=
  mulf (extractStridedSlice S1024x128 ![0, 128] p slices_S1024x256_o0_128_S1024x128)
    (broadcastTo S1024x128 (extractStridedSlice S1x128 ![0, 0] s slices_S8x128_o0_0_S1x128) broadcasts_S1x128_S1024x128)

theorem left_at (p : FVec Ideal S1024x256 .f32) (s : FVec Ideal S8x128 .f32) (r : Fin 1024) (l : Fin 128) :
    left p s (ix2 r l) = p (ix2 r ⟨l.val, by omega⟩) * s (ix2 0 l) := by
  unfold left
  pointwise
theorem right_at (p : FVec Ideal S1024x256 .f32) (s : FVec Ideal S8x128 .f32) (r : Fin 1024) (l : Fin 128) :
    right p s (ix2 r l) = p (ix2 r ⟨128 + l.val, by omega⟩) * s (ix2 0 l) := by
  unfold right
  pointwise

theorem pay4_eq (a b : Vec Ideal S1x128 .f32) (w : Vec Ideal S5120x256 .fp8e4m3) (x : Vec Ideal S1024x5120 .fp8e4m3) (xs : Vec Ideal S1024x1 .f32) :
    k0_pay4 (k0_pay15 (F := Ideal) b) k0_pay16 k0_pay17 (k0_pay18 (F := Ideal) a) k0_pay19 k0_pay20 w x xs
      = mulf (mulf (left (acc w x xs) (gateRow a b)) (logistic (left (acc w x xs) (gateRow a b)))) (right (acc w x xs) (upRow a b)) := rfl

theorem hidden_at (a b : Vec Ideal S1x128 .f32) (w : Vec Ideal S5120x256 .fp8e4m3) (x : Vec Ideal S1024x5120 .fp8e4m3) (xs : Vec Ideal S1024x1 .f32)
    (r : Fin 1024) (l : Fin 128) :
    k0_pay4 (k0_pay15 (F := Ideal) b) k0_pay16 k0_pay17 (k0_pay18 (F := Ideal) a) k0_pay19 k0_pay20 w x xs (ix2 r l)
      = In.glu ((∑ k : Fin 5120, x (ix2 r k) * w (ix2 k ⟨l.val, by omega⟩)) * xs (ix2 r 0) * gateRow a b (ix2 0 l))
          ((∑ k : Fin 5120, x (ix2 r k) * w (ix2 k ⟨128 + l.val, by omega⟩)) * xs (ix2 r 0) * upRow a b (ix2 0 l)) := by
  have e : ∀ g u : FVec Ideal S1024x128 .f32, mulf (mulf g (logistic g)) u (ix2 r l) = In.glu (g (ix2 r l)) (u (ix2 r l)) := fun _ _ => rfl
  rw [pay4_eq, e, left_at, right_at, acc_at, acc_at]

/-! ## The rearranged weights -/

/-- A step's column of gates and ups: the left half's column l is 2l, the right half's is 2l + 1. -/
def source (c : Fin 256) : Fin 256 := if h : c.val < 128 then ⟨2 * c.val, by omega⟩ else ⟨2 * (c.val - 128) + 1, by omega⟩

theorem source_lo (c : Fin 256) (v : ℕ) (e : c.val = v) (h : v < 128) : (source c).val = 2 * v := by subst e; unfold source; rw [dif_pos h]
theorem source_hi (c : Fin 256) (v : ℕ) (e : c.val = 128 + v) : (source c).val = 2 * v + 1 := by
  unfold source; rw [dif_neg (by omega)]; show 2 * (c.val - 128) + 1 = _; omega

/-- Every piece of every trip holds the rearranged weights of its rows. -/
theorem pieces_at (i : grid0.Coords) (h5 : k0_cond5 i = 1#1) (w : Vec Ideal S5120x256 .fp8e4m3) :
    ∀ n, ∀ p ∈ pieces i h5 w n, ∀ x : p.1.shape.Idx, p.2 x = (fun y : S5120x256.Idx => w (ix2 (y 0) (source (y 1)))) (p.1.emb x)
  | 0, p, hp, _ => absurd hp (List.not_mem_nil)
  | n + 1, p, hp, x => by
    rw [pieces] at hp
    rcases List.mem_append.mp hp with hp | hp
    · by_cases h : n < k0_t1_loop.trips
      · rw [dif_pos h] at hp
        have o1 := off1_eq ⟨n, h⟩
        have o2 := off2_eq ⟨n, h⟩
        have hl0 : ∀ (r : Fin 256) (l : Fin 128), ((rL i h5 ⟨n, h⟩).idx (ix2 r l) 0).val = 256 * n + r.val := fun r l => by
          show k0_off1 ⟨n, h⟩ 0 + 1 * r.val = _; rw [o1]; show 256 * n + 1 * r.val = _; omega
        have hl1 : ∀ (r : Fin 256) (l : Fin 128), ((rL i h5 ⟨n, h⟩).idx (ix2 r l) 1).val = l.val := fun r l => by
          show k0_off1 ⟨n, h⟩ 1 + 1 * l.val = _; rw [o1]; show 0 + 1 * l.val = _; omega
        have hr0 : ∀ (r : Fin 256) (l : Fin 128), ((rR i h5 ⟨n, h⟩).idx (ix2 r l) 0).val = 256 * n + r.val := fun r l => by
          show k0_off2 ⟨n, h⟩ 0 + 1 * r.val = _; rw [o2]; show 256 * n + 1 * r.val = _; omega
        have hr1 : ∀ (r : Fin 256) (l : Fin 128), ((rR i h5 ⟨n, h⟩).idx (ix2 r l) 1).val = 128 + l.val := fun r l => by
          show k0_off2 ⟨n, h⟩ 1 + 1 * l.val = _; rw [o2]; show 128 + 1 * l.val = _; omega
        simp only [tripPieces, List.mem_cons, List.not_mem_nil, or_false] at hp
        rcases hp with rfl | rfl
        · obtain ⟨r, l, rfl⟩ : ∃ (r : Fin 256) (l : Fin 128), x = ix2 r l := ⟨x 0, x 1, eq_ix2 x⟩
          refine (up_at _ _ r l).trans ?_
          show (if l.val < 64 then w ((rL i h5 ⟨n, h⟩).idx (ix2 r (laneA _))) else w ((rR i h5 ⟨n, h⟩).idx (ix2 r (laneB _)))) = w (ix2 _ (source _))
          by_cases hl : l.val < 64
          · rw [if_pos hl]
            refine congrArg w ((eq_ix2 _).trans (congrArg₂ ix2 (Fin.ext ((hl0 _ _).trans (hr0 r l).symm)) (Fin.ext ((hl1 _ _).trans ?_))))
            have e : ((rR i h5 ⟨n, h⟩).emb (ix2 r l) 1).val = 128 + l.val := hr1 r l
            refine Eq.trans ?_ (source_hi _ _ e).symm
            unfold laneA
            show (if (l.val + 64) % 128 < 64 then _ else 2 * ((l.val + 64) % 128) - 127) = _
            rw [if_neg (by omega)]
            omega
          · rw [if_neg hl]
            refine congrArg w ((eq_ix2 _).trans (congrArg₂ ix2 (Fin.ext ((hr0 _ _).trans (hr0 r l).symm)) (Fin.ext ((hr1 _ _).trans ?_))))
            have e : ((rR i h5 ⟨n, h⟩).emb (ix2 r l) 1).val = 128 + l.val := hr1 r l
            refine Eq.trans ?_ (source_hi _ _ e).symm
            unfold laneB
            show 128 + (if (l.val + 64) % 128 < 64 then 2 * ((l.val + 64) % 128) + 1 else _) = _
            rw [if_pos (by omega)]
            omega
        · obtain ⟨r, l, rfl⟩ : ∃ (r : Fin 256) (l : Fin 128), x = ix2 r l := ⟨x 0, x 1, eq_ix2 x⟩
          refine (gate_at _ _ r l).trans ?_
          show (if l.val < 64 then w ((rL i h5 ⟨n, h⟩).idx (ix2 r (laneA _))) else w ((rR i h5 ⟨n, h⟩).idx (ix2 r (laneB _)))) = w (ix2 _ (source _))
          have e : ((rL i h5 ⟨n, h⟩).emb (ix2 r l) 1).val = l.val := hl1 r l
          by_cases hl : l.val < 64
          · rw [if_pos hl]
            refine congrArg w ((eq_ix2 _).trans (congrArg₂ ix2 (Fin.ext ((hl0 _ _).trans (hl0 r l).symm)) (Fin.ext ((hl1 _ _).trans ?_))))
            exact (if_pos hl).trans (source_lo _ _ e l.isLt).symm
          · rw [if_neg hl]
            refine congrArg w ((eq_ix2 _).trans (congrArg₂ ix2 (Fin.ext ((hr0 _ _).trans (hl0 r l).symm)) (Fin.ext ((hr1 _ _).trans ?_))))
            refine Eq.trans ?_ (source_lo _ _ e l.isLt).symm
            unfold laneB
            show 128 + (if l.val < 64 then _ else 2 * l.val - 128) = _
            rw [if_neg hl]
            omega
      · rw [dif_neg h] at hp
        exact absurd hp (List.not_mem_nil)
    · exact pieces_at i h5 w n p hp x

theorem perm_at (i : grid0.Coords) (h5 : k0_cond5 i = 1#1) (w : Vec Ideal S5120x256 .fp8e4m3) (k : Fin 5120) (c : Fin 256) :
    perm i h5 w (ix2 k c) = w (ix2 k (source c)) := by
  unfold perm
  exact View.canon_apply_of_pieces (fun y : S5120x256.Idx => w (ix2 (y 0) (source (y 1)))) _ (pieces_at i h5 w _) (ix2 k c) (cover_pieces i h5 w _)

/-- The hidden values a step stores, from the blocks it stages. -/
theorem slab_at (i : grid0.Coords) (h5 : k0_cond5 i = 1#1) (x : Vec Ideal S1024x5120 .fp8e4m3) (xs : Vec Ideal S1024x1 .f32) (w : Vec Ideal S5120x256 .fp8e4m3)
    (ws : Vec Ideal S1x256 .f32) (r : Fin 1024) (l : Fin 128) :
    k0_pay4 (k0_pay15 (View.ld ws rC1)) k0_pay16 k0_pay17 (k0_pay18 (View.ld ws rC0)) k0_pay19 k0_pay20 (View.ld (perm i h5 w) rW) (View.ld x rX) (View.ld xs rS) (ix2 r l)
      = In.glu ((∑ k : Fin 5120, x (ix2 r k) * w (ix2 k (even l))) * xs (ix2 r 0) * ws (ix2 0 (even l)))
          ((∑ k : Fin 5120, x (ix2 r k) * w (ix2 k (odd l))) * xs (ix2 r 0) * ws (ix2 0 (odd l))) := by
  have eC : ∀ l : Fin 128, (View.ld ws rC0 : Vec Ideal S1x128 .f32) (ix2 0 l) = ws (ix2 0 ⟨l.val, by omega⟩) := fun l => by
    refine congrArg ws ((eq_ix2 _).trans (congrArg₂ ix2 (Subsingleton.elim _ _) (Fin.ext ?_)))
    show 0 + 1 * l.val = l.val; omega
  have eD : ∀ l : Fin 128, (View.ld ws rC1 : Vec Ideal S1x128 .f32) (ix2 0 l) = ws (ix2 0 ⟨128 + l.val, by omega⟩) := fun l => by
    refine congrArg ws ((eq_ix2 _).trans (congrArg₂ ix2 (Subsingleton.elim _ _) (Fin.ext ?_)))
    show 128 + 1 * l.val = 128 + l.val; omega
  have eg : gateRow (View.ld ws rC0) (View.ld ws rC1) (ix2 0 l) = ws (ix2 0 (even l)) := by
    rw [gateRow_at, eC, eD]
    unfold even laneA laneB
    by_cases h : l.val < 64
    · rw [if_pos h]; exact congrArg (fun c => ws (ix2 0 c)) (Fin.ext (if_pos h))
    · rw [if_neg h]; refine congrArg (fun c => ws (ix2 0 c)) (Fin.ext ?_)
      show 128 + (if l.val < 64 then _ else 2 * l.val - 128) = 2 * l.val
      rw [if_neg h]; omega
  have eu : upRow (View.ld ws rC0) (View.ld ws rC1) (ix2 0 l) = ws (ix2 0 (odd l)) := by
    rw [upRow_at, eC, eD]
    unfold odd laneA laneB
    by_cases h : l.val < 64
    · rw [if_pos h]; refine congrArg (fun c => ws (ix2 0 c)) (Fin.ext ?_)
      show (if (l.val + 64) % 128 < 64 then _ else 2 * ((l.val + 64) % 128) - 127) = 2 * l.val + 1
      rw [if_neg (by omega)]; omega
    · rw [if_neg h]; refine congrArg (fun c => ws (ix2 0 c)) (Fin.ext ?_)
      show 128 + (if (l.val + 64) % 128 < 64 then 2 * ((l.val + 64) % 128) + 1 else _) = 2 * l.val + 1
      rw [if_pos (by omega)]; omega
  have sg : source ⟨l.val, by omega⟩ = even l := by unfold source; rw [dif_pos (show l.val < 128 from l.isLt)]; rfl
  have su : source ⟨128 + l.val, by omega⟩ = odd l := by
    unfold source
    rw [dif_neg (show ¬128 + l.val < 128 by omega)]
    exact Fin.ext (show 2 * (128 + l.val - 128) + 1 = 2 * l.val + 1 by omega)
  rw [View.ld_unit_zero (by decide) _ (perm i h5 w), View.ld_unit_zero (by decide) _ x, View.ld_unit_zero (by decide) _ xs, hidden_at, eg, eu]
  simp only [perm_at, sg, su]

end Cert.InKernelIdeal.Lanes

end
-- ==== Proof.InQuant.lean ====
/-
  The blocks a step of the input projection stores, entry by entry.

  `outQ_at` and `outK_at`: the blocks of `q`, `k` and `v` are the projection of the staged rows and columns. `outS_at` and
  `outC_at`: the scale of a row is the quantiser's (Quant.lean) of the greatest of the row's 128 lane maxima, and the codes
  are the stacked slabs times its inverse, clipped, the slab n on lanes 128n .. 128n + 127.
-/
module

public import proofs.«01_k».proof.Proof.InHidden

@[expose] public section

set_option maxRecDepth 16384

noncomputable section

namespace Cert.InKernelIdeal.Body

open Cert.InKernelIdeal Cert.InKernelIdeal.Gen Idealize.ShloMosaic Idealize.ShloMosaic.TcCoe

/-! ## The projection of a step -/

/-- The projection of the staged row r by the staged column b. -/
def blk (x : Vec Ideal S1024x5120 .fp8e4m3) (xs : Vec Ideal S1024x1 .f32) (w : Vec Ideal S5120x256 .fp8e4m3) (ws : Vec Ideal S1x256 .f32) (r : Fin 1024) (b : Fin 256) : EReal :=
  ((∑ k : Fin 5120, x (ix2 r k) * w (ix2 k b)) * xs (ix2 r 0) * ws (ix2 0 b) : EReal)

theorem pay1_at (x : Vec Ideal S1024x5120 .fp8e4m3) (xs : Vec Ideal S1024x1 .f32) (w : Vec Ideal S5120x256 .fp8e4m3) (ws : Vec Ideal S1x256 .f32) (r : Fin 1024) (b : Fin 256) :
    k0_pay1 (F := Ideal) w x xs ws (ix2 r b) = blk x xs w ws r b := by
  unfold k0_pay1 blk
  pointwise

theorem pay2_at (x : Vec Ideal S1024x5120 .fp8e4m3) (xs : Vec Ideal S1024x1 .f32) (w : Vec Ideal S5120x256 .fp8e4m3) (ws : Vec Ideal S1x256 .f32) (r : Fin 1024) (l : Fin 128) :
    k0_pay2 (F := Ideal) w x xs ws (ix3 0 r l) = blk x xs w ws r ⟨l.val, by omega⟩ := by
  rw [← pay1_at]
  unfold k0_pay2
  generalize k0_pay1 (F := Ideal) w x xs ws = p
  pointwise

theorem pay3_at (x : Vec Ideal S1024x5120 .fp8e4m3) (xs : Vec Ideal S1024x1 .f32) (w : Vec Ideal S5120x256 .fp8e4m3) (ws : Vec Ideal S1x256 .f32) (r : Fin 1024) (l : Fin 128) :
    k0_pay3 (F := Ideal) w x xs ws (ix3 0 r l) = blk x xs w ws r ⟨128 + l.val, by omega⟩ := by
  rw [← pay1_at]
  unfold k0_pay3
  generalize k0_pay1 (F := Ideal) w x xs ws = p
  pointwise

theorem outK_at (x : Vec Ideal S1024x5120 .fp8e4m3) (xs : Vec Ideal S1024x1 .f32) (w : Vec Ideal S5120x256 .fp8e4m3) (ws : Vec Ideal S1x256 .f32) (r : Fin 1024) (b : Fin 256) :
    outK x xs w ws (ix2 r b) = blk x xs w ws r b := by
  unfold outK
  frame_out
  exact pay1_at x xs w ws r b

theorem outQ_at (x : Vec Ideal S1024x5120 .fp8e4m3) (xs : Vec Ideal S1024x1 .f32) (w : Vec Ideal S5120x256 .fp8e4m3) (ws : Vec Ideal S1x256 .f32) (h : Fin 2) (r : Fin 1024) (l : Fin 128) :
    outQ x xs w ws (ix3 h r l) = blk x xs w ws r ⟨128 * h.val + l.val, by omega⟩ := by
  have hx : View.ld x rX = x := View.ld_unit_zero (by decide) _ x
  have hs : View.ld xs rS = xs := View.ld_unit_zero (by decide) _ xs
  have hw : View.ld w rW = w := View.ld_unit_zero (by decide) _ w
  have hc : View.ld ws rC = ws := View.ld_unit_zero (by decide) _ ws
  unfold outQ
  rw [hx, hs, hw, hc]
  refine (View.canon_apply_of_pieces (fun y : S2x1024x128.Idx => blk x xs w ws (y 1) ⟨128 * (y 0).val + (y 2).val, by
    have h : (y 0).val < 2 := (y 0).isLt; have h' : (y 2).val < 128 := (y 2).isLt; omega⟩) _ ?_ (ix3 h r l) (cover_Q _ _ _)).trans rfl
  intro p hp y
  simp only [List.mem_cons, List.not_mem_nil, or_false] at hp
  rcases hp with rfl | rfl
  · obtain ⟨a, b, e, rfl⟩ : ∃ (a : Fin 1) (b : Fin 1024) (e : Fin 128), y = ix3 a b e := ⟨y 0, y 1, y 2, eq_ix3 y⟩
    obtain rfl : a = 0 := Subsingleton.elim _ _
    refine (pay3_at x xs w ws b e).trans (congrArg₂ (blk x xs w ws) (Fin.ext ?_) (Fin.ext ?_))
    · show b.val = 0 + 1 * b.val; omega
    · show 128 + e.val = 128 * (1 + 1 * 0) + (0 + 1 * e.val); omega
  · obtain ⟨a, b, e, rfl⟩ : ∃ (a : Fin 1) (b : Fin 1024) (e : Fin 128), y = ix3 a b e := ⟨y 0, y 1, y 2, eq_ix3 y⟩
    obtain rfl : a = 0 := Subsingleton.elim _ _
    refine (pay2_at x xs w ws b e).trans (congrArg₂ (blk x xs w ws) (Fin.ext ?_) (Fin.ext ?_))
    · show b.val = 0 + 1 * b.val; omega
    · show e.val = 128 * (0 + 1 * 0) + (0 + 1 * e.val); omega

/-! ## The scale and the codes from the lane maxima -/

/-- The greatest of a row's lane maxima. -/
def most (A : Vec Ideal S1024x128 .f32) (a : Fin 1024) : EReal := Finset.fold max (Ideal.ofBits FTy.f32 4286578688#32) (fun k : Fin 128 => A (ix2 a k)) Finset.univ

/-- The column of quotients. -/
def col (A : Vec Ideal S1024x128 .f32) : FVec Ideal S1024x1 .f32 :=
  mulf (shapeCast S1024x1 (multiReduction .maximumf [1] S1024 (A : FVec Ideal S1024x128 .f32) 0xFF800000#32 reduces_S1024x128_S1024 (.inl rfl) rfl) shapeCasts_S1024_S1024x1)
    (broadcast S1024x1 (Scalar.ofBits .f32 0x3B124925#32))

theorem column (v : FVec Ideal S1024 .f32) (a : Fin 1024) : shapeCast S1024x1 v shapeCasts_S1024_S1024x1 (ix2 a 0) = v (ix1 a) := by
  pointwise

theorem columnI (v : IVec S1024 32) (a : Fin 1024) : shapeCast S1024x1 v shapeCasts_S1024_S1024x1 (ix2 a 0) = v (ix1 a) := by
  pointwise

theorem col_at (A : Vec Ideal S1024x128 .f32) (a : Fin 1024) : col A (ix2 a 0) = most A a * Ideal.ofBits FTy.f32 991054117#32 := by
  have e : ∀ w : FVec Ideal S1024x1 .f32, mulf w (broadcast S1024x1 (Scalar.ofBits .f32 0x3B124925#32)) (ix2 a 0) = w (ix2 a 0) * Ideal.ofBits FTy.f32 991054117#32 := fun _ => rfl
  have f : multiReduction (F := Ideal) (φ := .f32) .maximumf [1] S1024 A 0xFF800000#32 reduces_S1024x128_S1024 (.inl rfl) rfl (ix1 a) = most A a := by
    refine (Ideal.multiReduction_maximumf_single (φ := .f32) A _ reduces_S1024x128_S1024 _ _ (ix1 a)).trans ?_
    refine congrArg (fun f => Finset.fold max _ f Finset.univ) (funext fun k : Fin 128 => congrArg A ?_)
    funext d
    match d with
    | 0 => rfl
    | 1 => rfl
  unfold col
  rw [e, column, f]

/-- The exponent fields of a column of quotients. -/
def fields (T : FVec Ideal S1024x1 .f32) : IVec S1024x1 32 :=
  select (cmpf .oge T (broadcast S1024x1 (Scalar.ofBits .f32 0x7B800000#32))) (broadcast S1024x1 255#32)
    (shapeCast S1024x1 (multiReductionI .maxsi [1] S1024
      (select (cmpf .oge (broadcastTo S1024x256 T broadcasts_S1024x1_S1024x256) (bitcastToFloat .f32 (shli (iota .tc S1024x256 32 [1] iota_S1024x256_d1_w32) (broadcast S1024x256 23#32))))
        (iota .tc S1024x256 32 [1] iota_S1024x256_d1_w32) (broadcast S1024x256 0#32))
      2147483648#32 reduces_S1024x256_S1024 rfl) shapeCasts_S1024_S1024x1)

theorem fields_at (T : FVec Ideal S1024x1 .f32) (a : Fin 1024) : fields T (ix2 a 0) = Scale.field (T (ix2 a 0)) := by
  unfold fields Scale.field Scale.word
  pointwise

/-- The exponents from the fields. -/
def exps (F : IVec S1024x1 32) : IVec S1024x1 32 :=
  select (ori (cmpi .eq F (broadcast S1024x1 0#32)) (cmpi .eq F (broadcast S1024x1 255#32))) (broadcast S1024x1 0#32) (subi F (broadcast S1024x1 126#32))

theorem exps_at (F : IVec S1024x1 32) (i : S1024x1.Idx) : exps F i = Scale.expK (F i) := rfl

theorem pay21_eq (A : Vec Ideal S1024x128 .f32) : k0_pay21 (F := Ideal) A = exps (fields (col A)) := rfl

theorem pay21_at (A : Vec Ideal S1024x128 .f32) (a : Fin 1024) :
    k0_pay21 (F := Ideal) A (ix2 a 0) = Scale.expK (Scale.field (most A a * Ideal.ofBits FTy.f32 991054117#32)) := by
  rw [pay21_eq, exps_at, fields_at, col_at]

/-- The words of a column of exponents plus 127, and of 127 minus them. -/
def up (E : IVec S1024x1 32) : FVec Ideal S1024x1 .f32 := bitcastToFloat .f32 (shli (addi E (broadcast S1024x1 127#32)) (broadcast S1024x1 23#32))
def down (E : IVec S1024x1 32) : FVec Ideal S1024x1 .f32 := bitcastToFloat .f32 (shli (subi (broadcast S1024x1 127#32) E) (broadcast S1024x1 23#32))
theorem up_at (E : IVec S1024x1 32) (i : S1024x1.Idx) : up E i = Scale.word (IntOp.addi (E i) 127#32) := rfl
theorem down_at (E : IVec S1024x1 32) (i : S1024x1.Idx) : down E i = Scale.word (IntOp.subi 127#32 (E i)) := rfl
theorem pay22_eq (A : Vec Ideal S1024x128 .f32) : k0_pay22 (F := Ideal) A = up (k0_pay21 (F := Ideal) A) := rfl
theorem pay23_eq (A : Vec Ideal S1024x128 .f32) : k0_pay23 (F := Ideal) A = down (k0_pay21 (F := Ideal) A) := by
  unfold k0_pay23
  exact shapeCast_self _ _

theorem outS_at (A : Vec Ideal S1024x128 .f32) (a : Fin 1024) :
    outS A (ix2 a 0) = Ideal.exp2 (Scale.expR (most A a * Ideal.ofBits FTy.f32 991054117#32)) := by
  unfold outS
  frame_out
  rw [pay22_eq, up_at, pay21_at]
  exact Scale.scale_eq _

/-- The inverse scale of a row. -/
def inv (A : Vec Ideal S1024x128 .f32) (a : Fin 1024) : EReal := Ideal.exp2 (Ideal.ofBits FTy.f32 0#32 - Scale.expR (most A a * Ideal.ofBits FTy.f32 991054117#32))

theorem code_at (A : Vec Ideal S1024x128 .f32) (v : Vec Ideal S1x1024x128 .f32) (a : Fin 1024) (l : Fin 128) :
    code A v (ix2 a l) = Quant.clip (v (ix3 0 a l)) (inv A a) := by
  have hA : View.ld A rA = A := View.ld_unit_zero (by decide) _ A
  have hd : down (k0_pay21 (F := Ideal) A) (ix2 a 0) = inv A a := by
    rw [down_at, pay21_at]
    exact Scale.inv_eq _
  unfold code
  rw [hA, pay23_eq, ← hd]
  clear hd
  generalize down (k0_pay21 (F := Ideal) A) = D
  unfold k0_pay30 k0_pay24 Quant.clip
  pointwise

/-- The codes at row y 0 and lane y 1. -/
def coded (H : Vec Ideal S35x1024x128 .f32) (A : Vec Ideal S1024x128 .f32) : Vec Ideal S1024x4480 .fp8e4m3 := fun y =>
  Quant.clip (H (ix3 ⟨(y 1).val / 128, by have h : (y 1).val < 4480 := (y 1).isLt; omega⟩ (y 0) ⟨(y 1).val % 128, by omega⟩)) (inv A (y 0))

/-- The codes of slab n are the lanes 128n .. 128n + 127. -/
theorem piece_at (H : Vec Ideal S35x1024x128 .f32) (A : Vec Ideal S1024x128 .f32) (n : Fin 35) (hT : ∀ a, ![n.val, 0, 0] a + S1x1024x128.size a ≤ S35x1024x128.size a)
    (hU : ∀ a, ![0, 128 * n.val] a + S1024x128.size a ≤ S1024x4480.size a) (y : S1024x128.Idx) :
    code A (View.ld H (Rect.unit (s := S35x1024x128) ![n.val, 0, 0] S1x1024x128.size hT)) y = coded H A ((Rect.unit (s := S1024x4480) ![0, 128 * n.val] S1024x128.size hU).emb y) := by
  obtain ⟨a, l, rfl⟩ : ∃ (a : Fin 1024) (l : Fin 128), y = ix2 a l := ⟨y 0, y 1, eq_ix2 y⟩
  rw [code_at]
  unfold coded
  have h0 : (Rect.unit (s := S1024x4480) ![0, 128 * n.val] S1024x128.size hU).emb (ix2 a l) 0 = a := Fin.ext (by show 0 + 1 * a.val = a.val; omega)
  have h1 : ((Rect.unit (s := S1024x4480) ![0, 128 * n.val] S1024x128.size hU).emb (ix2 a l) 1).val = 128 * n.val + l.val := by
    show 128 * n.val + 1 * l.val = _; omega
  refine congrArg₂ Quant.clip (congrArg H ?_) (congrArg (inv A) h0.symm)
  refine (eq_ix3 _).trans ?_
  refine congr (congrArg₂ ix3 (Fin.ext ?_) ?_) (Fin.ext ?_)
  · show n.val + 1 * 0 = _ / 128; rw [h1]; omega
  · rw [h0]; exact Fin.ext (by show 0 + 1 * a.val = a.val; omega)
  · show 0 + 1 * l.val = _ % 128; rw [h1]; omega

theorem outC_at (H : Vec Ideal S35x1024x128 .f32) (A : Vec Ideal S1024x128 .f32) (y : S1024x4480.Idx) : outC H A y = coded H A y := by
  unfold outC
  refine View.canon_apply_of_pieces (coded H A) _ ?_ y ?_
  swap
  · refine View.cover_of_tiled (s := S1024x4480) _ S1024x128.size ?_ y
    rfl
  intro p hp y
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_at H A 34 inb_S35x1024x128_S1x1024x128_34_0_0 inb_S1024x4480_S1024x128_0_4352 y
  · exact piece_at H A 33 inb_S35x1024x128_S1x1024x128_33_0_0 inb_S1024x4480_S1024x128_0_4224 y
  · exact piece_at H A 32 inb_S35x1024x128_S1x1024x128_32_0_0 inb_S1024x4480_S1024x128_0_4096 y
  · exact piece_at H A 31 inb_S35x1024x128_S1x1024x128_31_0_0 inb_S1024x4480_S1024x128_0_3968 y
  · exact piece_at H A 30 inb_S35x1024x128_S1x1024x128_30_0_0 inb_S1024x4480_S1024x128_0_3840 y
  · exact piece_at H A 29 inb_S35x1024x128_S1x1024x128_29_0_0 inb_S1024x4480_S1024x128_0_3712 y
  · exact piece_at H A 28 inb_S35x1024x128_S1x1024x128_28_0_0 inb_S1024x4480_S1024x128_0_3584 y
  · exact piece_at H A 27 inb_S35x1024x128_S1x1024x128_27_0_0 inb_S1024x4480_S1024x128_0_3456 y
  · exact piece_at H A 26 inb_S35x1024x128_S1x1024x128_26_0_0 inb_S1024x4480_S1024x128_0_3328 y
  · exact piece_at H A 25 inb_S35x1024x128_S1x1024x128_25_0_0 inb_S1024x4480_S1024x128_0_3200 y
  · exact piece_at H A 24 inb_S35x1024x128_S1x1024x128_24_0_0 inb_S1024x4480_S1024x128_0_3072 y
  · exact piece_at H A 23 inb_S35x1024x128_S1x1024x128_23_0_0 inb_S1024x4480_S1024x128_0_2944 y
  · exact piece_at H A 22 inb_S35x1024x128_S1x1024x128_22_0_0 inb_S1024x4480_S1024x128_0_2816 y
  · exact piece_at H A 21 inb_S35x1024x128_S1x1024x128_21_0_0 inb_S1024x4480_S1024x128_0_2688 y
  · exact piece_at H A 20 inb_S35x1024x128_S1x1024x128_20_0_0 inb_S1024x4480_S1024x128_0_2560 y
  · exact piece_at H A 19 inb_S35x1024x128_S1x1024x128_19_0_0 inb_S1024x4480_S1024x128_0_2432 y
  · exact piece_at H A 18 inb_S35x1024x128_S1x1024x128_18_0_0 inb_S1024x4480_S1024x128_0_2304 y
  · exact piece_at H A 17 inb_S35x1024x128_S1x1024x128_17_0_0 inb_S1024x4480_S1024x128_0_2176 y
  · exact piece_at H A 16 inb_S35x1024x128_S1x1024x128_16_0_0 inb_S1024x4480_S1024x128_0_2048 y
  · exact piece_at H A 15 inb_S35x1024x128_S1x1024x128_15_0_0 inb_S1024x4480_S1024x128_0_1920 y
  · exact piece_at H A 14 inb_S35x1024x128_S1x1024x128_14_0_0 inb_S1024x4480_S1024x128_0_1792 y
  · exact piece_at H A 13 inb_S35x1024x128_S1x1024x128_13_0_0 inb_S1024x4480_S1024x128_0_1664 y
  · exact piece_at H A 12 inb_S35x1024x128_S1x1024x128_12_0_0 inb_S1024x4480_S1024x128_0_1536 y
  · exact piece_at H A 11 inb_S35x1024x128_S1x1024x128_11_0_0 inb_S1024x4480_S1024x128_0_1408 y
  · exact piece_at H A 10 inb_S35x1024x128_S1x1024x128_10_0_0 inb_S1024x4480_S1024x128_0_1280 y
  · exact piece_at H A 9 inb_S35x1024x128_S1x1024x128_9_0_0 inb_S1024x4480_S1024x128_0_1152 y
  · exact piece_at H A 8 inb_S35x1024x128_S1x1024x128_8_0_0 inb_S1024x4480_S1024x128_0_1024 y
  · exact piece_at H A 7 inb_S35x1024x128_S1x1024x128_7_0_0 inb_S1024x4480_S1024x128_0_896 y
  · exact piece_at H A 6 inb_S35x1024x128_S1x1024x128_6_0_0 inb_S1024x4480_S1024x128_0_768 y
  · exact piece_at H A 5 inb_S35x1024x128_S1x1024x128_5_0_0 inb_S1024x4480_S1024x128_0_640 y
  · exact piece_at H A 4 inb_S35x1024x128_S1x1024x128_4_0_0 inb_S1024x4480_S1024x128_0_512 y
  · exact piece_at H A 3 inb_S35x1024x128_S1x1024x128_3_0_0 inb_S1024x4480_S1024x128_0_384 y
  · exact piece_at H A 2 inb_S35x1024x128_S1x1024x128_2_0_0 inb_S1024x4480_S1024x128_0_256 y
  · exact piece_at H A 1 inb_S35x1024x128_S1x1024x128_1_0_0 inb_S1024x4480_S1024x128_0_128 y
  · exact piece_at H A 0 inb_S35x1024x128_S1x1024x128_0_0_0 inb_S1024x4480_S1024x128_0_0 y

end Cert.InKernelIdeal.Body

end
-- ==== Proof.InFrame.lean ====
/-
  The input projection's run: what every buffer holds at every grid point, and the launch.

  Point `t` of the 168 is row block `t / 42` at step `t % 42`. The blocks of `q`, `k` and `v` are stored at the steps
  0..4, 5 and 6; the slabs of hidden values accumulate in a scratch over the steps 7..41 (`Good`), and with the running
  maximum they give the codes and the scale stored at step 41. From these the launch theorem of the pipeline gives every
  array's final contents (`run_main`) and the frame (`frame`).
-/
module

public import proofs.«01_k».proof.Proof.InTriples
public import Idealize.ShloMosaic.Lib.Pipeline.TableIdle
public import Idealize.ShloMosaic.Lib.Pointwise.Index
public import Idealize.ShloMosaic.Lib.Claim

@[expose] public section

set_option maxRecDepth 16384

noncomputable section

namespace Cert.InKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InKernelIdeal Cert.InKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

theorem N_eq : cfg0.N = 168 := by decide +kernel

theorem cond1 : ∀ t : Fin cfg0.N, k0_cond1 (grid0.coords t) = 1#1 ↔ t.val % 42 < 7 := by decide +kernel
theorem cond2 : ∀ t : Fin cfg0.N, k0_cond2 (grid0.coords t) = 1#1 ↔ t.val % 42 < 5 := by decide +kernel
theorem cond3 : ∀ t : Fin cfg0.N, k0_cond3 (grid0.coords t) = 1#1 ↔ t.val % 42 = 5 := by decide +kernel
theorem cond4 : ∀ t : Fin cfg0.N, k0_cond4 (grid0.coords t) = 1#1 ↔ t.val % 42 = 6 := by decide +kernel
theorem cond5 : ∀ t : Fin cfg0.N, k0_cond5 (grid0.coords t) = 1#1 ↔ 7 ≤ t.val % 42 := by decide +kernel
theorem cond6 : ∀ t : Fin cfg0.N, k0_cond6 (grid0.coords t) = 1#1 ↔ t.val % 42 = 41 := by decide +kernel

theorem idle4 : ∀ t : Fin cfg0.N, cfg0.idle 4 (cfg0.grid.coords t) = decide (5 ≤ t.val % 42) := by decide +kernel
theorem idle5 : ∀ t : Fin cfg0.N, cfg0.idle 5 (cfg0.grid.coords t) = decide (t.val % 42 ≠ 5) := by decide +kernel
theorem idle6 : ∀ t : Fin cfg0.N, cfg0.idle 6 (cfg0.grid.coords t) = decide (t.val % 42 ≠ 6) := by decide +kernel
theorem idle7 : ∀ t : Fin cfg0.N, cfg0.idle 7 (cfg0.grid.coords t) = decide (t.val % 42 ≠ 41) := by decide +kernel
theorem idle8 : ∀ t : Fin cfg0.N, cfg0.idle 8 (cfg0.grid.coords t) = decide (t.val % 42 ≠ 41) := by decide +kernel

/-- The block of `q` is written back when the head pair changes: at the steps 0..3, and at the row block's last. -/
theorem flush4 : ∀ t : Fin cfg0.N, (cfg0.win 4).flush t = decide (t.val % 42 < 4 ∨ t.val % 42 = 41) := by
  have h : ∀ t : Fin cfg0.N, (cfg0.win 4).flushF t = decide (t.val % 42 < 4 ∨ t.val % 42 = 41) := by decide +kernel
  exact fun t => ((cfg0.win 4).flush_eq_flushF t).trans (h t)
theorem flush5 (t : Fin cfg0.N) : (cfg0.win 5).flush t = decide (t.val % 42 = 41) := by
  rw [Bool.eq_iff_iff, flush0_5, decide_eq_true_iff]
theorem flush6 (t : Fin cfg0.N) : (cfg0.win 6).flush t = decide (t.val % 42 = 41) := by
  rw [Bool.eq_iff_iff, flush0_6, decide_eq_true_iff]
theorem flush7 (t : Fin cfg0.N) : (cfg0.win 7).flush t = decide (t.val % 42 = 41) := by
  rw [Bool.eq_iff_iff, flush0_7, decide_eq_true_iff]
theorem flush8 (t : Fin cfg0.N) : (cfg0.win 8).flush t = decide (t.val % 42 = 41) := by
  rw [Bool.eq_iff_iff, flush0_8, decide_eq_true_iff]

/-- A block's buffer holds nothing stored until the step that stores it. -/
theorem fresh4 (n : ℕ) (h : n ≤ cfg0.N) : cfg0.fresh 4 n = decide (n % 42 < 5) := by
  refine cfg0.fresh_tab 4 (fun n => decide (n % 42 < 5)) rfl (fun t => ?_) n h
  rw [flush4, idle4, Bool.eq_iff_iff]
  simp only [decide_eq_true_iff, Bool.or_eq_true, Bool.and_eq_true]
  omega
theorem fresh5 (n : ℕ) (h : n ≤ cfg0.N) : cfg0.fresh 5 n = decide (n % 42 < 6) := by
  refine cfg0.fresh_tab 5 (fun n => decide (n % 42 < 6)) rfl (fun t => ?_) n h
  rw [flush5, idle5, Bool.eq_iff_iff]
  simp only [decide_eq_true_iff, Bool.or_eq_true, Bool.and_eq_true]
  omega
theorem fresh6 (n : ℕ) (h : n ≤ cfg0.N) : cfg0.fresh 6 n = decide (n % 42 < 7) := by
  refine cfg0.fresh_tab 6 (fun n => decide (n % 42 < 7)) rfl (fun t => ?_) n h
  rw [flush6, idle6, Bool.eq_iff_iff]
  simp only [decide_eq_true_iff, Bool.or_eq_true, Bool.and_eq_true]
  omega

/-- Step `j` of point `t`'s row block. -/
def at_ (t : Fin cfg0.N) (j : Fin 42) : Fin cfg0.N := ⟨42 * (t.val / 42) + j.val, by have := t.isLt; have := j.isLt; have := N_eq; omega⟩

/-- The point of row block `b` that stores slab `n` of the hidden values. -/
def hpt (b n : ℕ) : Fin cfg0.N := ⟨42 * min b 3 + (7 + min n 34), by have := N_eq; omega⟩

theorem hpt_mod (b n : ℕ) : (hpt b n).val % 42 = 7 + min n 34 := by unfold hpt; dsimp only; omega

theorem hpt_cond5 (b n : ℕ) : k0_cond5 (grid0.coords (hpt b n)) = 1#1 := (cond5 _).mpr (by rw [hpt_mod]; omega)

theorem eq_hpt (t : Fin cfg0.N) (h : 7 ≤ t.val % 42) : t = hpt (t.val / 42) (t.val % 42 - 7) := by
  have := t.isLt; have := N_eq
  refine Fin.ext ?_
  unfold hpt; dsimp only; omega

theorem off3_eq : ∀ t : Fin cfg0.N, 7 ≤ t.val % 42 → k0_off3 (grid0.coords t) = ![t.val % 42 - 7, 0, 0] := by decide +kernel

/-! ## What the scratches hold -/

/-- Slab `n` of row block `b`. -/
def slabAt (c : Dev nD) (b n : ℕ) : Vec F S1x1024x128 .f32 :=
  slab (grid0.coords (hpt b n)) (hpt_cond5 b n) (iblk m c 0 (hpt b n)) (iblk m c 1 (hpt b n)) (iblk m c 2 (hpt b n)) (iblk m c 3 (hpt b n))

/-- The 35 slabs of row block `b`, stacked. -/
def slabs (c : Dev nD) (b : ℕ) : Vec F S35x1024x128 .f32 :=
  fun y => slabAt m c b (y 0).val (Idealize.ShloMosaic.ix3 0 (y 1) (y 2))

/-- The running maximum of row block `b` once slab `n` is stored. -/
def amaxAt (c : Dev nD) (b : ℕ) : ℕ → Vec F S1024x128 .f32
  | 0 => amax (grid0.coords (hpt b 0)) (hpt_cond5 b 0) (iblk m c 0 (hpt b 0)) (iblk m c 1 (hpt b 0)) (iblk m c 2 (hpt b 0)) (iblk m c 3 (hpt b 0)) (View.canon [])
  | n + 1 => amax (grid0.coords (hpt b (n + 1))) (hpt_cond5 b (n + 1)) (iblk m c 0 (hpt b (n + 1))) (iblk m c 1 (hpt b (n + 1))) (iblk m c 2 (hpt b (n + 1))) (iblk m c 3 (hpt b (n + 1))) (amaxAt c b n)

/-- What is known of the scratches before point `n`: past step 7, the slabs stored so far and the running maximum. -/
def Good (c : Dev nD) (n : ℕ) (H : Vec F S35x1024x128 .f32) (A : Vec F S1024x128 .f32) : Prop :=
  8 ≤ n % 42 → A = amaxAt m c (n / 42) (n % 42 - 8) ∧ ∀ y : S35x1024x128.Idx, (y 0).val < n % 42 - 7 → H y = slabs m c (n / 42) y

/-- At the first slab the running maximum is the slab's magnitudes, whatever the scratch held. -/
theorem amax_first (t : Fin cfg0.N) (h : t.val % 42 = 7) (h5 : k0_cond5 (grid0.coords t) = 1#1) (x xs w ws) (A A' : Vec F S1024x128 .f32) :
    amax (grid0.coords t) h5 x xs w ws A = amax (grid0.coords t) h5 x xs w ws A' := by
  have hc : ∀ t : Fin cfg0.N, t.val % 42 = 7 → Scalar.cmpi .eq (BitVec.ofNat 32 (grid0.coords t 1).val) 7#32 = 1#1 := by decide +kernel
  unfold amax
  congr 3
  unfold k0_pay6
  dsimp only
  rw [hc t h]
  rfl

theorem mem_rH (t : Fin cfg0.N) (h : 7 ≤ t.val % 42) (h5 : k0_cond5 (grid0.coords t) = 1#1) (y : S35x1024x128.Idx) :
    y ∈ (rH (grid0.coords t) h5).set ↔ (y 0).val = t.val % 42 - 7 := by
  have h0 : (y 0).val < 35 := (y 0).isLt
  have h1 : (y 1).val < 1024 := (y 1).isLt
  have h2 : (y 2).val < 128 := (y 2).isLt
  rw [Rect.mem_set_unit]
  rw [off3_eq t h]
  constructor
  · intro k
    have k0 : t.val % 42 - 7 ≤ (y 0).val ∧ (y 0).val < t.val % 42 - 7 + 1 := k 0
    omega
  · intro k a
    fin_cases a
    · show t.val % 42 - 7 ≤ (y 0).val ∧ (y 0).val < t.val % 42 - 7 + 1; omega
    · show 0 ≤ (y 1).val ∧ (y 1).val < 0 + 1024; omega
    · show 0 ≤ (y 2).val ∧ (y 2).val < 0 + 128; omega

theorem slab_congr (c : Dev nD) (t t' : Fin cfg0.N) (e : t = t') (h5 : k0_cond5 (grid0.coords t) = 1#1) (h5' : k0_cond5 (grid0.coords t') = 1#1) :
    slab (grid0.coords t) h5 (iblk m c 0 t) (iblk m c 1 t) (iblk m c 2 t) (iblk m c 3 t) = slab (grid0.coords t') h5' (iblk m c 0 t') (iblk m c 1 t') (iblk m c 2 t') (iblk m c 3 t') := by
  subst e; rfl

theorem slab_hpt (c : Dev nD) (t : Fin cfg0.N) (h : 7 ≤ t.val % 42) (h5 : k0_cond5 (grid0.coords t) = 1#1) :
    slab (grid0.coords t) h5 (iblk m c 0 t) (iblk m c 1 t) (iblk m c 2 t) (iblk m c 3 t) = slabAt m c (t.val / 42) (t.val % 42 - 7) :=
  slab_congr m c t _ (eq_hpt t h) h5 _

theorem amax_congr (c : Dev nD) (t t' : Fin cfg0.N) (e : t = t') (h5 : k0_cond5 (grid0.coords t) = 1#1) (h5' : k0_cond5 (grid0.coords t') = 1#1) (A : Vec F S1024x128 .f32) :
    amax (grid0.coords t) h5 (iblk m c 0 t) (iblk m c 1 t) (iblk m c 2 t) (iblk m c 3 t) A = amax (grid0.coords t') h5' (iblk m c 0 t') (iblk m c 1 t') (iblk m c 2 t') (iblk m c 3 t') A := by
  subst e; rfl

/-- The slab a point stores, over the slabs before it. -/
theorem overlay_slab (c : Dev nD) (t : Fin cfg0.N) (h : 7 ≤ t.val % 42) (h5 : k0_cond5 (grid0.coords t) = 1#1) (H : Vec F S35x1024x128 .f32)
    (hH : ∀ y : S35x1024x128.Idx, (y 0).val < t.val % 42 - 7 → H y = slabs m c (t.val / 42) y) (y : S35x1024x128.Idx) (hy : (y 0).val < t.val % 42 - 6) :
    (rH (grid0.coords t) h5).overlay H (slab (grid0.coords t) h5 (iblk m c 0 t) (iblk m c 1 t) (iblk m c 2 t) (iblk m c 3 t)) y = slabs m c (t.val / 42) y := by
  by_cases hm : y ∈ (rH (grid0.coords t) h5).set
  · have e := (mem_rH t h h5 y).mp hm
    have ex : y = (rH (grid0.coords t) h5).emb (Idealize.ShloMosaic.ix3 0 (y 1) (y 2)) := by
      funext a
      refine Fin.ext ?_
      fin_cases a
      · show (y 0).val = k0_off3 (grid0.coords t) 0 + 1 * 0
        rw [off3_eq t h, e]; show t.val % 42 - 7 = t.val % 42 - 7 + 1 * 0; omega
      · show (y 1).val = k0_off3 (grid0.coords t) 1 + 1 * (y 1).val
        rw [off3_eq t h]; show (y 1).val = 0 + 1 * (y 1).val; omega
      · show (y 2).val = k0_off3 (grid0.coords t) 2 + 1 * (y 2).val
        rw [off3_eq t h]; show (y 2).val = 0 + 1 * (y 2).val; omega
    refine (congrArg _ ex).trans ?_
    rw [Rect.overlay_emb]
    unfold slabs
    rw [e]
    exact congrFun (slab_hpt m c t h h5) _
  · rw [Rect.overlay_of_not_mem _ _ _ hm]
    refine hH y ?_
    have hne : ¬ (y 0).val = t.val % 42 - 7 := fun k => hm ((mem_rH t h h5 y).mpr k)
    generalize (y 0).val = e at hne hy ⊢
    omega

/-- One more point keeps what is known of the scratches. -/
theorem good_step (c : Dev nD) (t : Fin cfg0.N) (h : 7 ≤ t.val % 42) (h5 : k0_cond5 (grid0.coords t) = 1#1) (H : Vec F S35x1024x128 .f32)
    (A : Vec F S1024x128 .f32) (hg : Good m c t.val H A) :
    amax (grid0.coords t) h5 (iblk m c 0 t) (iblk m c 1 t) (iblk m c 2 t) (iblk m c 3 t) A = amaxAt m c (t.val / 42) (t.val % 42 - 7)
    ∧ ∀ y : S35x1024x128.Idx, (y 0).val < t.val % 42 - 6 → (rH (grid0.coords t) h5).overlay H (slab (grid0.coords t) h5 (iblk m c 0 t) (iblk m c 1 t) (iblk m c 2 t) (iblk m c 3 t)) y = slabs m c (t.val / 42) y := by
  by_cases h7 : t.val % 42 = 7
  · refine ⟨?_, fun y hy => overlay_slab m c t h h5 H (fun z hz => absurd hz (by omega)) y hy⟩
    rw [amax_first t h7 h5 _ _ _ _ A (View.canon [])]
    have e0 : t = hpt (t.val / 42) 0 := by
      have := eq_hpt t h
      rw [h7] at this
      exact this
    rw [show t.val % 42 - 7 = 0 by omega]
    exact amax_congr m c t _ e0 h5 _ _
  · obtain ⟨hA, hH⟩ := hg (by omega)
    refine ⟨?_, fun y hy => overlay_slab m c t h h5 H hH y hy⟩
    subst hA
    obtain ⟨n, hn⟩ : ∃ n, t.val % 42 - 7 = n + 1 := ⟨t.val % 42 - 8, by omega⟩
    rw [hn, show t.val % 42 - 8 = n by omega]
    refine amax_congr m c t _ ?_ h5 _ _
    rw [← hn]
    exact eq_hpt t h

/-- The three scratches before point `n`, and the generator's register. -/
def scratch (c : Dev nD) (n : ℕ) : sProp 𝕄 :=
  iprop((∃ H A, ⌜Good m c n H A⌝ ∗ owns (c : Thread nD τ) (Memref.whole cc0_scratch0) fullShare H ∗ owns (c : Thread nD τ) (Memref.whole cc0_scratch1) fullShare A)
    ∗ (∃ d, owns (c : Thread nD τ) (Memref.whole cc0_scratch2) fullShare d) ∗ ∃ r, prngReg c r)

/-! ## The proof data -/

/-- What the body leaves in each window at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => let s := if t.val % 42 < 5 then t else at_ t 4; outQ (iblk m c 0 s) (iblk m c 1 s) (iblk m c 2 s) (iblk m c 3 s)
    | ⟨5, _⟩ => outK (iblk m c 0 (at_ t 5)) (iblk m c 1 (at_ t 5)) (iblk m c 2 (at_ t 5)) (iblk m c 3 (at_ t 5))
    | ⟨6, _⟩ => outK (iblk m c 0 (at_ t 6)) (iblk m c 1 (at_ t 6)) (iblk m c 2 (at_ t 6)) (iblk m c 3 (at_ t 6))
    | ⟨7, _⟩ => outC (slabs m c (t.val / 42)) (amaxAt m c (t.val / 42) 34)
    | ⟨8, _⟩ => outS (amaxAt m c (t.val / 42) 34)
  Φ t := scratch m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) (h : t.val % 42 < 5) : (dats m 0 c).after 4 t = outQ (iblk m c 0 t) (iblk m c 1 t) (iblk m c 2 t) (iblk m c 3 t) := by
  dsimp only [dats]; rw [if_pos h]
theorem after0_4' (c : Dev nD) (t : Fin cfg0.N) (h : ¬t.val % 42 < 5) : (dats m 0 c).after 4 t = outQ (iblk m c 0 (at_ t 4)) (iblk m c 1 (at_ t 4)) (iblk m c 2 (at_ t 4)) (iblk m c 3 (at_ t 4)) := by
  dsimp only [dats]; rw [if_neg h]
theorem after0_5 (c : Dev nD) (t : Fin cfg0.N) : (dats m 0 c).after 5 t = outK (iblk m c 0 (at_ t 5)) (iblk m c 1 (at_ t 5)) (iblk m c 2 (at_ t 5)) (iblk m c 3 (at_ t 5)) := by dsimp only [dats]
theorem after0_6 (c : Dev nD) (t : Fin cfg0.N) : (dats m 0 c).after 6 t = outK (iblk m c 0 (at_ t 6)) (iblk m c 1 (at_ t 6)) (iblk m c 2 (at_ t 6)) (iblk m c 3 (at_ t 6)) := by dsimp only [dats]
theorem after0_7 (c : Dev nD) (t : Fin cfg0.N) : (dats m 0 c).after 7 t = outC (slabs m c (t.val / 42)) (amaxAt m c (t.val / 42) 34) := by dsimp only [dats]
theorem after0_8 (c : Dev nD) (t : Fin cfg0.N) : (dats m 0 c).after 8 t = outS (amaxAt m c (t.val / 42) 34) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem at_congr (t t' : Fin cfg0.N) (j : Fin 42) (h : t.val / 42 = t'.val / 42) : at_ t j = at_ t' j := by
  unfold at_; exact Fin.ext (by dsimp only; rw [h])

theorem at_self (t : Fin cfg0.N) (j : Fin 42) (h : t.val % 42 = j.val) : at_ t j = t := by
  unfold at_; exact Fin.ext (by dsimp only; omega)

/-- The blocks of `q`, `k` and `v` are still what was stored when the row block's last step writes them back. -/
theorem before0_4 (c : Dev nD) (t : Fin cfg0.N) (h : t.val % 42 = 41) (d) : (dats m 0 c).before 4 t d = (dats m 0 c).after 4 t := by
  have hN := t.isLt
  rw [(dats m 0 c).before_out_traj 4 rfl (fun _ _ => rfl) ?_ t.val t rfl d, fresh4 _ (by omega)]
  · rw [decide_eq_false (by omega), if_neg (by decide), after0_4' m c _ (by dsimp only; omega), after0_4' m c t (by omega),
      at_congr ⟨t.val - 1, by omega⟩ t 4 (by dsimp only; omega)]
  · intro t h0 hi hf
    have hN := t.isLt
    rw [idle4, decide_eq_true_iff] at hi
    rw [after0_4' m c t (by omega)]
    by_cases h5 : t.val % 42 = 5
    · rw [after0_4 m c _ (by dsimp only; omega), show (⟨t.val - 1, by omega⟩ : Fin cfg0.N) = at_ t 4 by unfold at_; exact Fin.ext (by show t.val - 1 = 42 * (t.val / 42) + 4; omega)]
    · rw [after0_4' m c _ (by dsimp only; omega), at_congr ⟨t.val - 1, by omega⟩ t 4 (by dsimp only; omega)]
theorem before0_5 (c : Dev nD) (t : Fin cfg0.N) (h : t.val % 42 = 41) (d) : (dats m 0 c).before 5 t d = (dats m 0 c).after 5 t := by
  have hN := t.isLt
  rw [(dats m 0 c).before_out_traj 5 rfl (fun _ _ => rfl) ?_ t.val t rfl d, fresh5 _ (by omega)]
  · rw [decide_eq_false (by omega), if_neg (by decide), after0_5, after0_5, at_congr ⟨t.val - 1, by omega⟩ t 5 (by dsimp only; omega)]
  · intro t h0 hi hf
    have hN := t.isLt
    have hf' := hf
    rw [fresh5 _ (by omega), decide_eq_false_iff_not] at hf'
    rw [after0_5, after0_5, at_congr ⟨t.val - 1, by omega⟩ t 5 (by dsimp only; omega)]
theorem before0_6 (c : Dev nD) (t : Fin cfg0.N) (h : t.val % 42 = 41) (d) : (dats m 0 c).before 6 t d = (dats m 0 c).after 6 t := by
  have hN := t.isLt
  rw [(dats m 0 c).before_out_traj 6 rfl (fun _ _ => rfl) ?_ t.val t rfl d, fresh6 _ (by omega)]
  · rw [decide_eq_false (by omega), if_neg (by decide), after0_6, after0_6, at_congr ⟨t.val - 1, by omega⟩ t 6 (by dsimp only; omega)]
  · intro t h0 hi hf
    have hN := t.isLt
    have hf' := hf
    rw [fresh6 _ (by omega), decide_eq_false_iff_not] at hf'
    rw [after0_6, after0_6, at_congr ⟨t.val - 1, by omega⟩ t 6 (by dsimp only; omega)]

/-! ## The body obligation, at each kind of point -/

/-- Every window's hold on its buffer before point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What the body leaves, the outputs' buffers at `Q`. -/
def bodyPost (c : Dev nD) (t : Fin cfg0.N) (Q : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ Q)

/-- An output left as it was found. -/
abbrev kept (c : Dev nD) (t : Fin cfg0.N) (w : Fin cfg0.W) : sProp 𝕄 :=
  iprop(∃ d, owns (c : Thread nD τ) ((cfg0.win w).stage (cfg0.slots t w)) fullShare ((dats m 0 c).before w t d))
/-- An output at what the proof data says. -/
abbrev left (c : Dev nD) (t : Fin cfg0.N) (w : Fin cfg0.W) : sProp 𝕄 :=
  owns (c : Thread nD τ) ((cfg0.win w).stage (cfg0.slots t w)) fullShare ((dats m 0 c).after w t)

theorem good_of_lt (c : Dev nD) (n : ℕ) (h : n % 42 < 8) (H A) : Good m c n H A := fun h' => absurd h' (by omega)

/-- A step that stores a head pair of `q`. -/
theorem sound_q (c : Dev nD) (t : Fin cfg0.N) (h : t.val % 42 < 5) :
    bodyPre m c t ⊢ wp frame (wpE (defs₀ (F := F)) Variants.none c none) Set.univ (bodyAt0 t)
      (fun _ => bodyPost m c t iprop(left m c t 4 ∗ kept m c t 5 ∗ kept m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left]
  rw [after0_4 m c t h]
  iintro ⟨⟨HS, HZ⟩, Ho, ⟨%d0, H0⟩, ⟨%d1, H1⟩, ⟨%d2, H2⟩, ⟨%d3, H3⟩, H4, H5, H6, H7, H8⟩
  iapply (triple_q c Set.univ (grid0.coords t) _ _ _ _ _ _ _ _ _ _ _ _ _ _ _ _ _ _ _ _ _ _ _ _ (iblk m c 0 t) (iblk m c 1 t) (iblk m c 2 t) (iblk m c 3 t) _ ((cond1 t).mpr (by omega)) ((cond2 t).mpr (by omega)) (fun e => absurd ((cond3 t).mp e) (by omega)) (fun e => absurd ((cond4 t).mp e) (by omega)) (fun e => absurd ((cond5 t).mp e) (by omega)) (fun e => absurd ((cond6 t).mp e) (by omega)))
  isplitl [H0 H1 H2 H3]
  · isplitl [H0]; · iexact H0
    isplitl [H1]; · iexact H1
    isplitl [H2]; · iexact H2
    iexact H3
  isplitl [H4]
  · icases H4 with ⟨%d, H4⟩; iexists _; iexact H4
  iintro ⟨⟨H0, H1, H2, H3⟩, H4⟩
  isplitl [HS HZ]
  · isplitl [HS]
    · icases HS with ⟨%H, %A, %hg, HS⟩
      iexists H; iexists A
      isplitr
      · ipureintro; exact good_of_lt m c _ (by omega) _ _
      · iexact HS
    · iexact HZ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The step that stores `k`. -/
theorem sound_k (c : Dev nD) (t : Fin cfg0.N) (h : t.val % 42 = 5) :
    bodyPre m c t ⊢ wp frame (wpE (defs₀ (F := F)) Variants.none c none) Set.univ (bodyAt0 t)
      (fun _ => bodyPost m c t iprop(kept m c t 4 ∗ left m c t 5 ∗ kept m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left]
  rw [after0_5, at_self t 5 h]
  iintro ⟨⟨HS, HZ⟩, Ho, ⟨%d0, H0⟩, ⟨%d1, H1⟩, ⟨%d2, H2⟩, ⟨%d3, H3⟩, H4, H5, H6, H7, H8⟩
  iapply (triple_k c Set.univ (grid0.coords t) _ _ _ _ _ _ _ _ _ _ _ _ _ _ _ _ _ _ _ _ _ _ _ _ (iblk m c 0 t) (iblk m c 1 t) (iblk m c 2 t) (iblk m c 3 t) _ ((cond1 t).mpr (by omega)) (fun e => absurd ((cond2 t).mp e) (by omega)) ((cond3 t).mpr (by omega)) (fun e => absurd ((cond4 t).mp e) (by omega)) (fun e => absurd ((cond5 t).mp e) (by omega)) (fun e => absurd ((cond6 t).mp e) (by omega)))
  isplitl [H0 H1 H2 H3]
  · isplitl [H0]; · iexact H0
    isplitl [H1]; · iexact H1
    isplitl [H2]; · iexact H2
    iexact H3
  isplitl [H5]
  · icases H5 with ⟨%d, H5⟩; iexists _; iexact H5
  iintro ⟨⟨H0, H1, H2, H3⟩, H5⟩
  isplitl [HS HZ]
  · isplitl [HS]
    · icases HS with ⟨%H, %A, %hg, HS⟩
      iexists H; iexists A
      isplitr
      · ipureintro; exact good_of_lt m c _ (by omega) _ _
      · iexact HS
    · iexact HZ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The step that stores `v`. -/
theorem sound_v (c : Dev nD) (t : Fin cfg0.N) (h : t.val % 42 = 6) :
    bodyPre m c t ⊢ wp frame (wpE (defs₀ (F := F)) Variants.none c none) Set.univ (bodyAt0 t)
      (fun _ => bodyPost m c t iprop(kept m c t 4 ∗ kept m c t 5 ∗ left m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left]
  rw [after0_6, at_self t 6 h]
  iintro ⟨⟨HS, HZ⟩, Ho, ⟨%d0, H0⟩, ⟨%d1, H1⟩, ⟨%d2, H2⟩, ⟨%d3, H3⟩, H4, H5, H6, H7, H8⟩
  iapply (triple_v c Set.univ (grid0.coords t) _ _ _ _ _ _ _ _ _ _ _ _ _ _ _ _ _ _ _ _ _ _ _ _ (iblk m c 0 t) (iblk m c 1 t) (iblk m c 2 t) (iblk m c 3 t) _ ((cond1 t).mpr (by omega)) (fun e => absurd ((cond2 t).mp e) (by omega)) (fun e => absurd ((cond3 t).mp e) (by omega)) ((cond4 t).mpr (by omega)) (fun e => absurd ((cond5 t).mp e) (by omega)) (fun e => absurd ((cond6 t).mp e) (by omega)))
  isplitl [H0 H1 H2 H3]
  · isplitl [H0]; · iexact H0
    isplitl [H1]; · iexact H1
    isplitl [H2]; · iexact H2
    iexact H3
  isplitl [H6]
  · icases H6 with ⟨%d, H6⟩; iexists _; iexact H6
  iintro ⟨⟨H0, H1, H2, H3⟩, H6⟩
  isplitl [HS HZ]
  · isplitl [HS]
    · icases HS with ⟨%H, %A, %hg, HS⟩
      iexists H; iexists A
      isplitr
      · ipureintro; exact good_of_lt m c _ (by omega) _ _
      · iexact HS
    · iexact HZ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A step that stores a slab of hidden values. -/
theorem sound_h (c : Dev nD) (t : Fin cfg0.N) (h : 7 ≤ t.val % 42 ∧ t.val % 42 < 41) :
    bodyPre m c t ⊢ wp frame (wpE (defs₀ (F := F)) Variants.none c none) Set.univ (bodyAt0 t)
      (fun _ => bodyPost m c t iprop(kept m c t 4 ∗ kept m c t 5 ∗ kept m c t 6 ∗ kept m c t 7 ∗ kept m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  iintro ⟨⟨⟨%H, %A, %hg, HH, HA⟩, HW, HR⟩, Ho, ⟨%d0, H0⟩, ⟨%d1, H1⟩, ⟨%d2, H2⟩, ⟨%d3, H3⟩, H4, H5, H6, H7, H8⟩
  have h5 : k0_cond5 (grid0.coords t) = 1#1 := (cond5 t).mpr (by omega)
  obtain ⟨gA, gH⟩ := good_step m c t (by omega) h5 H A hg
  iapply (triple_h c Set.univ (grid0.coords t) _ _ _ _ _ _ _ _ _ _ _ _ _ _ _ _ _ _ _ _ _ _ _ _ (iblk m c 0 t) (iblk m c 1 t) (iblk m c 2 t) (iblk m c 3 t) _ (fun e => absurd ((cond1 t).mp e) (by omega)) h5 (fun e => absurd ((cond6 t).mp e) (by omega)) H A)
  isplitl [H0 H1 H2 H3]
  · isplitl [H0]; · iexact H0
    isplitl [H1]; · iexact H1
    isplitl [H2]; · iexact H2
    iexact H3
  isplitl [HH]; · iexact HH
  isplitl [HA]; · iexact HA
  isplitl [HW]; · iexact HW
  iintro ⟨⟨H0, H1, H2, H3⟩, HH, HA, HW⟩
  isplitl [HH HA HW HR]
  · isplitl [HH HA]
    · iexists _; iexists _
      isplitr
      swap
      · isplitl [HH]; · iexact HH
        iexact HA
      · ipureintro
        intro _
        rw [show (t.val + 1) / 42 = t.val / 42 by omega, show (t.val + 1) % 42 - 8 = t.val % 42 - 7 by omega, show (t.val + 1) % 42 - 7 = t.val % 42 - 6 by omega]
        exact ⟨gA, gH⟩
    · isplitl [HW]; · iexact HW
      iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The row block's last step: its slab, then the codes and the scale. -/
theorem sound_l (c : Dev nD) (t : Fin cfg0.N) (h : t.val % 42 = 41) :
    bodyPre m c t ⊢ wp frame (wpE (defs₀ (F := F)) Variants.none c none) Set.univ (bodyAt0 t)
      (fun _ => bodyPost m c t iprop(left m c t 4 ∗ left m c t 5 ∗ left m c t 6 ∗ left m c t 7 ∗ left m c t 8)) := by
  have hN := t.isLt
  unfold bodyPre bodyPost bodyAt0
  simp only [before0_0, before0_1, before0_2, before0_3]
  rw [show (dats m 0 c).Φ t.succ = scratch m c (t.val + 1) from rfl, show (dats m 0 c).Φ t.castSucc = scratch m c t.val from rfl,
    show (dats m 0 c).owesAt () t.succ = (dats m 0 c).owesAt () t.castSucc from rfl,
    after0_0, after0_1, after0_2, after0_3]
  unfold scratch
  simp only [left, before0_4 m c t h, before0_5 m c t h, before0_6 m c t h]
  rw [after0_7, after0_8]
  iintro ⟨⟨⟨%H, %A, %hg, HH, HA⟩, HW, HR⟩, Ho, ⟨%d0, H0⟩, ⟨%d1, H1⟩, ⟨%d2, H2⟩, ⟨%d3, H3⟩, H4, H5, H6, H7, H8⟩
  have h5 : k0_cond5 (grid0.coords t) = 1#1 := (cond5 t).mpr (by omega)
  obtain ⟨gA, gH⟩ := good_step m c t (by omega) h5 H A hg
  have gH' : (rH (grid0.coords t) h5).overlay H (slab (grid0.coords t) h5 (iblk m c 0 t) (iblk m c 1 t) (iblk m c 2 t) (iblk m c 3 t)) = slabs m c (t.val / 42) :=
    funext fun y => gH y (by have : (y 0).val < 35 := (y 0).isLt; generalize (y 0).val = e at this ⊢; omega)
  have gA' : amax (grid0.coords t) h5 (iblk m c 0 t) (iblk m c 1 t) (iblk m c 2 t) (iblk m c 3 t) A = amaxAt m c (t.val / 42) 34 := by rw [gA, h]
  iapply (triple_l c Set.univ (grid0.coords t) _ _ _ _ _ _ _ _ _ _ _ _ _ _ _ _ _ _ _ _ _ _ _ _ (iblk m c 0 t) (iblk m c 1 t) (iblk m c 2 t) (iblk m c 3 t) _ (fun e => absurd ((cond1 t).mp e) (by omega)) h5 ⟨(cond6 t).mpr (by omega), trivial⟩ H A)
  isplitl [H0 H1 H2 H3]
  · isplitl [H0]; · iexact H0
    isplitl [H1]; · iexact H1
    isplitl [H2]; · iexact H2
    iexact H3
  isplitl [HH]; · iexact HH
  isplitl [HA]; · iexact HA
  isplitl [HW]; · iexact HW
  isplitl [H7]
  · icases H7 with ⟨%d, H7⟩; iexists _; iexact H7
  isplitl [H8]
  · icases H8 with ⟨%d, H8⟩; iexists _; iexact H8
  iintro ⟨⟨H0, H1, H2, H3⟩, HH, HA, HW, H7, H8⟩
  rw [gH', gA']
  isplitl [HH HA HW HR]
  · isplitl [HH HA]
    · iexists _; iexists _
      isplitr
      swap
      · isplitl [HH]; · iexact HH
        iexact HA
      · ipureintro
        exact good_of_lt m c _ (by omega) _ _
    · isplitl [HW]; · iexact HW
      iexact HR
  isplitl [Ho]; · iexact Ho
  isplitl [H0]; · iexact H0
  isplitl [H1]; · iexact H1
  isplitl [H2]; · iexact H2
  isplitl [H3]; · iexact H3
  isplitl [H4]; · icases H4 with ⟨%d, H4⟩; iexact H4
  isplitl [H5]; · icases H5 with ⟨%d, H5⟩; iexact H5
  isplitl [H6]; · icases H6 with ⟨%d, H6⟩; iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem idle_in (t : Fin cfg0.N) : cfg0.idle 0 (cfg0.grid.coords t) = false ∧ cfg0.idle 1 (cfg0.grid.coords t) = false
    ∧ cfg0.idle 2 (cfg0.grid.coords t) = false ∧ cfg0.idle 3 (cfg0.grid.coords t) = false := ⟨rfl, rfl, rfl, rfl⟩

theorem body_obligation (c : Dev nD) : BodyObligation (dats (F := F) m 0 c) (defs₀ (F := F)) Variants.none () Set.univ := fun t => by
  obtain ⟨i0, i1, i2, i3⟩ := idle_in t
  have cases : t.val % 42 < 5 ∨ t.val % 42 = 5 ∨ t.val % 42 = 6 ∨ (7 ≤ t.val % 42 ∧ t.val % 42 < 41) ∨ t.val % 42 = 41 := by omega
  rw [bigSep_W0, bigSep_W0, defs₀_row]
  simp only [i0, i1, i2, i3]
  rcases cases with h | h | h | h | h
  · have j4 : idle0 4 (grid0.coords t) = false := (idle4 t).trans (by rw [decide_eq_false_iff_not]; omega)
    have j5 : idle0 5 (grid0.coords t) = true := (idle5 t).trans (by rw [decide_eq_true_iff]; omega)
    have f5 : (cfg0.win 5).flush t = false := by rw [flush5, decide_eq_false_iff_not]; omega
    have j6 : idle0 6 (grid0.coords t) = true := (idle6 t).trans (by rw [decide_eq_true_iff]; omega)
    have f6 : (cfg0.win 6).flush t = false := by rw [flush6, decide_eq_false_iff_not]; omega
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f5, f6, f7, f8]
    exact triple_restated (sound_q m c t h) rfl .rfl fun _ => .rfl
  · have j4 : idle0 4 (grid0.coords t) = true := (idle4 t).trans (by rw [decide_eq_true_iff]; omega)
    have f4 : (cfg0.win 4).flush t = false := by rw [flush4, decide_eq_false_iff_not]; omega
    have j5 : idle0 5 (grid0.coords t) = false := (idle5 t).trans (by rw [decide_eq_false_iff_not]; omega)
    have j6 : idle0 6 (grid0.coords t) = true := (idle6 t).trans (by rw [decide_eq_true_iff]; omega)
    have f6 : (cfg0.win 6).flush t = false := by rw [flush6, decide_eq_false_iff_not]; omega
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f4, f6, f7, f8]
    exact triple_restated (sound_k m c t h) rfl .rfl fun _ => .rfl
  · have j4 : idle0 4 (grid0.coords t) = true := (idle4 t).trans (by rw [decide_eq_true_iff]; omega)
    have f4 : (cfg0.win 4).flush t = false := by rw [flush4, decide_eq_false_iff_not]; omega
    have j5 : idle0 5 (grid0.coords t) = true := (idle5 t).trans (by rw [decide_eq_true_iff]; omega)
    have f5 : (cfg0.win 5).flush t = false := by rw [flush5, decide_eq_false_iff_not]; omega
    have j6 : idle0 6 (grid0.coords t) = false := (idle6 t).trans (by rw [decide_eq_false_iff_not]; omega)
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f4, f5, f7, f8]
    exact triple_restated (sound_v m c t h) rfl .rfl fun _ => .rfl
  · have j4 : idle0 4 (grid0.coords t) = true := (idle4 t).trans (by rw [decide_eq_true_iff]; omega)
    have f4 : (cfg0.win 4).flush t = false := by rw [flush4, decide_eq_false_iff_not]; omega
    have j5 : idle0 5 (grid0.coords t) = true := (idle5 t).trans (by rw [decide_eq_true_iff]; omega)
    have f5 : (cfg0.win 5).flush t = false := by rw [flush5, decide_eq_false_iff_not]; omega
    have j6 : idle0 6 (grid0.coords t) = true := (idle6 t).trans (by rw [decide_eq_true_iff]; omega)
    have f6 : (cfg0.win 6).flush t = false := by rw [flush6, decide_eq_false_iff_not]; omega
    have j7 : idle0 7 (grid0.coords t) = true := (idle7 t).trans (by rw [decide_eq_true_iff]; omega)
    have f7 : (cfg0.win 7).flush t = false := by rw [flush7, decide_eq_false_iff_not]; omega
    have j8 : idle0 8 (grid0.coords t) = true := (idle8 t).trans (by rw [decide_eq_true_iff]; omega)
    have f8 : (cfg0.win 8).flush t = false := by rw [flush8, decide_eq_false_iff_not]; omega
    simp only [j4, j5, j6, j7, j8, f4, f5, f6, f7, f8]
    exact triple_restated (sound_h m c t h) rfl .rfl fun _ => .rfl
  · have j4 : idle0 4 (grid0.coords t) = true := (idle4 t).trans (by rw [decide_eq_true_iff]; omega)
    have f4 : (cfg0.win 4).flush t = true := by rw [flush4, decide_eq_true_iff]; omega
    have j5 : idle0 5 (grid0.coords t) = true := (idle5 t).trans (by rw [decide_eq_true_iff]; omega)
    have f5 : (cfg0.win 5).flush t = true := by rw [flush5, decide_eq_true_iff]; omega
    have j6 : idle0 6 (grid0.coords t) = true := (idle6 t).trans (by rw [decide_eq_true_iff]; omega)
    have f6 : (cfg0.win 6).flush t = true := by rw [flush6, decide_eq_true_iff]; omega
    have j7 : idle0 7 (grid0.coords t) = false := (idle7 t).trans (by rw [decide_eq_false_iff_not]; omega)
    have j8 : idle0 8 (grid0.coords t) = false := (idle8 t).trans (by rw [decide_eq_false_iff_not]; omega)
    simp only [j4, j5, j6, j7, j8, f4, f5, f6]
    exact triple_restated (sound_l m c t h) rfl .rfl fun _ => .rfl

/-! ## The run and the frame -/

theorem scratch_in (c : Dev nD) : (Pipeline.ΦA spec0 c : sProp 𝕄) ⊢ (dats m 0 c).Φ 0 := by
  rw [show (dats m 0 c).Φ 0 = scratch m c 0 from rfl]
  unfold Pipeline.ΦA scratch
  rw [scopedRest0_eq]
  iintro ⟨⟨⟨%H, HH⟩, ⟨%A, HA⟩, ⟨%W, HW⟩⟩, HR⟩
  isplitl [HH HA]
  · iexists H; iexists A
    isplitr
    · ipureintro; exact good_of_lt m c _ (by omega) _ _
    · isplitl [HH]
      · rw [owns_whole]; iexact HH
      · rw [owns_whole]; iexact HA
  isplitl [HW]
  · iexists W; rw [owns_whole]; iexact HW
  iexact HR

theorem scratch_out (c : Dev nD) : (dats m 0 c).Φ (Fin.last cfg0.N) ⊢ (Pipeline.ΦA spec0 c : sProp 𝕄) := by
  rw [show (dats m 0 c).Φ (Fin.last cfg0.N) = scratch m c cfg0.N from rfl]
  unfold Pipeline.ΦA scratch
  rw [scopedRest0_eq]
  simp only [owns_whole]
  iintro ⟨⟨%H, %A, %hg, HH, HA⟩, ⟨%W, HW⟩, HR⟩
  isplitl [HH HA HW]
  · isplitl [HH]
    · iexists _; iexact HH
    isplitl [HA]
    · iexists _; iexact HA
    iexists _; iexact HW
  iexact HR

set_option backward.isDefEq.respectTransparency.types false in
set_option maxHeartbeats 800000 in
/-- The launch: every array of the pipeline ends at what the proof data says, the transposition after the region runs on
    those, and every semaphore counter ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := scratch_in m) (hout := scratch_out m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: every execution ends, with the arguments unchanged and every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.InKernelIdeal.Body
-- ==== Proof.InArray.lean ====
/-
  The input projection's results, as whole arrays.

  Each staged block is a block of the arguments, so the blocks the steps store are blocks of `In.heads`, `In.k`, `In.v`; slab n
  of row block b is the hidden values 128n .. 128n + 127 of its rows (`slab_eq`). The running lane maxima, folded over the
  lanes, are the rows' greatest magnitudes (`most_eq`), so the codes and scales are the quantiser's. The blocks tile the five
  arrays.
-/
module

public import proofs.«01_k».proof.Proof.InQuant
public import proofs.«01_k».proof.Proof.InFrame

@[expose] public section

set_option maxRecDepth 16384

noncomputable section

namespace Cert.InKernelIdeal.Body

open Cert.InKernelIdeal Cert.InKernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments; the columns' scales enter the call reshaped. -/
abbrev X (c : Dev nD) : Vec Ideal S4096x5120 .fp8e4m3 := m ((c : Thread nD τ).loc main_arg0)
abbrev XS (c : Dev nD) : Vec Ideal S4096x1 .f32 := m ((c : Thread nD τ).loc main_arg1)
abbrev W (c : Dev nD) : Vec Ideal S5120x10752 .fp8e4m3 := m ((c : Thread nD τ).loc main_arg2)
abbrev WS (c : Dev nD) : Vec Ideal S1x10752 .f32 := shapeCast S1x10752 (m ((c : Thread nD τ).loc main_arg3)) shapeCasts_S10752_S1x10752
theorem V_ws (c : Dev nD) : V m c main_v0 = WS m c := by
  show StableHlo.after hostOps0 _ (Proc.devRef .tc main_v0) = _
  after_results
  rfl

/-- Which block each window is on at a grid point. -/
theorem index : ∀ t : Fin cfg0.N, win0_0.index t = ![t.val / 42, 0] ∧ win0_1.index t = ![t.val / 42, 0] ∧ win0_2.index t = ![0, t.val % 42] ∧ win0_3.index t = ![0, t.val % 42]
    ∧ win0_4.index t = ![min (t.val % 42) 4, t.val / 42, 0] ∧ win0_5.index t = ![t.val / 42, 0] ∧ win0_6.index t = ![t.val / 42, 0] ∧ win0_7.index t = ![t.val / 42, 0]
    ∧ win0_8.index t = ![t.val / 42, 0] := by decide +kernel

/-- The projection of the blocks staged at a point is the whole arrays'. -/
theorem blk_eq (c : Dev nD) (t : Fin cfg0.N) (r : Fin 1024) (b : Fin 256) (R : Fin 4096) (C : Fin 10752) (hr : R.val = 1024 * (t.val / 42) + r.val)
    (hc : C.val = 256 * (t.val % 42) + b.val) :
    blk (iblk m c 0 t) (iblk m c 1 t) (iblk m c 2 t) (iblk m c 3 t) r b = In.proj (X m c) (XS m c) (W m c) (WS m c) R C := by
  obtain ⟨e0, e1, e2, e3, -⟩ := index t
  have hr' : R.val = t.val / 42 * 1024 + r.val := by omega
  have hc' : C.val = t.val % 42 * 256 + b.val := by omega
  have r0 : ∀ k : Fin 5120, iblk m c 0 t (ix2 r k) = X m c (ix2 R k) := fun k => by
    have a : X m c = V m c main_arg0 := (V_main_arg0 m c).symm
    rw [a]
    blk_ext [iblk, e0, hr']
  have r1 : iblk m c 1 t (ix2 r 0) = XS m c (ix2 R 0) := by
    have a : XS m c = V m c main_arg1 := (V_main_arg1 m c).symm
    rw [a]
    blk_ext [iblk, e1, hr']
  have r2 : ∀ k : Fin 5120, iblk m c 2 t (ix2 k b) = W m c (ix2 k C) := fun k => by
    have a : W m c = V m c main_arg2 := (V_main_arg2 m c).symm
    rw [a]
    blk_ext [iblk, e2, hc']
  have r3 : iblk m c 3 t (ix2 0 b) = WS m c (ix2 0 C) := by
    rw [← V_ws]
    blk_ext [iblk, e3, hc']
  unfold blk In.proj
  simp only [r0, r1, r2, r3]

/-- The hidden values of the launched arguments. -/
abbrev H (c : Dev nD) (r : Fin 4096) (j : Fin 4480) : EReal := In.hidden (X m c) (XS m c) (W m c) (WS m c) r j

/-! ## The slabs -/

/-- The hidden values the point of slab n of row block b makes. -/
theorem made (c : Dev nD) (b n : ℕ) (hb : b < 4) (hn : n < 35) (r : Fin 1024) (l : Fin 128) (R : Fin 4096) (J : Fin 4480) (hr : R.val = 1024 * b + r.val) (hj : J.val = 128 * n + l.val) :
    k0_pay4 (F := Ideal) (k0_pay15 (View.ld (iblk m c 3 (hpt b n)) rC1)) k0_pay16 k0_pay17 (k0_pay18 (View.ld (iblk m c 3 (hpt b n)) rC0)) k0_pay19 k0_pay20
      (View.ld (perm (grid0.coords (hpt b n)) (hpt_cond5 b n) (iblk m c 2 (hpt b n))) rW) (View.ld (iblk m c 0 (hpt b n)) rX) (View.ld (iblk m c 1 (hpt b n)) rS) (ix2 r l) = H m c R J := by
  have hv : (hpt b n).val = 42 * b + (7 + n) := by
    show 42 * min b 3 + (7 + min n 34) = _; omega
  refine (Lanes.slab_at (grid0.coords (hpt b n)) (hpt_cond5 b n) (iblk m c 0 (hpt b n)) (iblk m c 1 (hpt b n)) (iblk m c 2 (hpt b n)) (iblk m c 3 (hpt b n)) r l).trans ?_
  refine congrArg₂ In.glu ?_ ?_
  · refine blk_eq m c (hpt b n) r (Lanes.even l) R _ (by omega) ?_
    show 1792 + 2 * J.val = 256 * _ + 2 * l.val
    omega
  · refine blk_eq m c (hpt b n) r (Lanes.odd l) R _ (by omega) ?_
    show 1792 + 2 * J.val + 1 = 256 * _ + (2 * l.val + 1)
    omega

/-- Slab n of row block b. -/
theorem slab_eq (c : Dev nD) (b n : ℕ) (hb : b < 4) (hn : n < 35) (r : Fin 1024) (l : Fin 128) (R : Fin 4096) (J : Fin 4480) (hr : R.val = 1024 * b + r.val) (hj : J.val = 128 * n + l.val) :
    slabAt m c b n (ix3 0 r l) = H m c R J := by
  refine Eq.trans ?_ (made m c b n hb hn r l R J hr hj)
  unfold slabAt slab k0_pay5
  generalize k0_pay4 (F := Ideal) _ _ _ _ _ _ _ _ _ = p
  pointwise

/-! ## The lane maxima -/

/-- Only the first slab's point starts the running maximum afresh. -/
theorem starts : ∀ t : Fin cfg0.N, Scalar.cmpi .eq (BitVec.ofNat 32 (grid0.coords t 1).val) 7#32 = if t.val % 42 = 7 then 1#1 else 0#1 := by decide +kernel

/-- The choice between a slab's magnitudes and their maximum with the ones before, entry by entry. -/
def step (s : BitVec 1) (p A : FVec Ideal S1024x128 .f32) : FVec Ideal S1024x128 .f32 := Scalar.select s (absf p) (maximumf A (absf p))
theorem step_first (p A : FVec Ideal S1024x128 .f32) (y : S1024x128.Idx) : step 1#1 p A y = Quant.mag (p y) := rfl
theorem step_next (p A : FVec Ideal S1024x128 .f32) (y : S1024x128.Idx) : step 0#1 p A y = (max (A y) (Quant.mag (p y)) : EReal) := rfl

theorem amax_eq (i : grid0.Coords) (h5 : k0_cond5 i = 1#1) (x : Vec Ideal S1024x5120 .fp8e4m3) (xs : Vec Ideal S1024x1 .f32) (w : Vec Ideal S5120x256 .fp8e4m3) (ws : Vec Ideal S1x256 .f32)
    (A : Vec Ideal S1024x128 .f32) :
    amax i h5 x xs w ws A = step (Scalar.cmpi .eq (BitVec.ofNat 32 (i 1).val) 7#32)
      (k0_pay4 (F := Ideal) (k0_pay15 (View.ld ws rC1)) k0_pay16 k0_pay17 (k0_pay18 (View.ld ws rC0)) k0_pay19 k0_pay20 (View.ld (perm i h5 w) rW) (View.ld x rX) (View.ld xs rS)) A := by
  have hA : View.ld A rA = A := View.ld_unit_zero (by decide) _ A
  unfold amax
  rw [hA]
  generalize perm i h5 w = w'
  frame_out
  unfold k0_pay6
  exact shapeCast_self _ _

/-- The running maximum after slab n is at most z where every slab's magnitude so far is. -/
theorem amax_le (c : Dev nD) (b : ℕ) (hb : b < 4) (r : Fin 1024) (l : Fin 128) (R : Fin 4096) (hr : R.val = 1024 * b + r.val) (z : EReal) :
    ∀ n, n < 35 → ((amaxAt m c b n (ix2 r l) : EReal) ≤ z ↔ ∀ J : Fin 4480, J.val % 128 = l.val → J.val / 128 ≤ n → Quant.mag (H m c R J) ≤ z) := by
  intro n
  induction n with
  | zero =>
    intro hn
    have e : amaxAt m c b 0 (ix2 r l) = Quant.mag (H m c R ⟨l.val, by omega⟩) := by
      show amax _ _ _ _ _ _ _ (ix2 r l) = _
      rw [amax_eq, starts, if_pos (by rw [hpt_mod]; rfl), step_first]
      exact congrArg Quant.mag (made m c b 0 hb hn r l R _ hr (by show l.val = 128 * 0 + l.val; omega))
    rw [e]
    constructor
    · intro h J hJ hJ'
      rw [show J = ⟨l.val, by omega⟩ from Fin.ext (by show J.val = l.val; omega)]
      exact h
    · intro h
      exact h _ (by show l.val % 128 = l.val; omega) (by show l.val / 128 ≤ 0; omega)
  | succ n ih =>
    intro hn
    have e : (amaxAt m c b (n + 1) (ix2 r l) : EReal) = max (amaxAt m c b n (ix2 r l)) (Quant.mag (H m c R ⟨128 * (n + 1) + l.val, by omega⟩)) := by
      show amax _ _ _ _ _ _ _ (ix2 r l) = _
      rw [amax_eq, starts, if_neg (by rw [hpt_mod]; omega), step_next]
      exact congrArg (fun v => max (amaxAt m c b n (ix2 r l) : EReal) (Quant.mag v)) (made m c b (n + 1) hb hn r l R _ hr rfl)
    rw [e, max_le_iff, ih (by omega)]
    constructor
    · rintro ⟨h, h'⟩ J hJ hJ'
      by_cases hc : J.val / 128 ≤ n
      · exact h J hJ hc
      · rw [show J = ⟨128 * (n + 1) + l.val, by omega⟩ from Fin.ext (by show J.val = 128 * (n + 1) + l.val; omega)]
        exact h'
    · intro h
      exact ⟨fun J hJ hJ' => h J hJ (by omega), h _ (by show (128 * (n + 1) + l.val) % 128 = l.val; omega) (by show (128 * (n + 1) + l.val) / 128 ≤ n + 1; omega)⟩

/-- The greatest of a row's lane maxima is the greatest magnitude of the row. -/
theorem most_eq (c : Dev nD) (b : ℕ) (hb : b < 4) (r : Fin 1024) (R : Fin 4096) (hr : R.val = 1024 * b + r.val) : most (amaxAt m c b 34) r = Quant.top (H m c R) := by
  refine eq_of_forall_ge_iff fun z => ?_
  unfold most
  rw [Finset.fold_max_le, Finset.fold_max_le]
  refine and_congr_right fun _ => ⟨fun h J _ => ?_, fun h l _ => ?_⟩
  · exact (amax_le m c b hb r ⟨J.val % 128, by omega⟩ R hr z 34 (by omega)).mp (h _ (Finset.mem_univ _)) J rfl (by omega)
  · exact (amax_le m c b hb r l R hr z 34 (by omega)).mpr fun J _ _ => h J (Finset.mem_univ _)

/-! ## The arrays -/

theorem lt4 (t : Fin cfg0.N) : t.val / 42 < 4 := by have := t.isLt; have := N_eq; omega

theorem heads_array (c : Dev nD) : (dats m 0 c).arrAt 4 cfg0.N = In.heads (X m c) (XS m c) (W m c) (WS m c) := by
  refine (dats m 0 c).arrAt_eq_of_covers 4 _ (by decide +kernel) fun t hf y => ?_
  have e := index t
  blk_simp
  obtain ⟨h, r, l, rfl⟩ : ∃ (h : Fin 2) (r : Fin 1024) (l : Fin 128), y = ix3 h r l := ⟨y 0, y 1, y 2, eq_ix3 y⟩
  by_cases h5 : t.val % 42 < 5
  · rw [after0_4 m c t h5, outQ_at]
    refine blk_eq m c t r _ _ _ ?_ ?_
    · blk_simp [e.2.2.2.2.1]; try (try dsimp only); omega
    · blk_simp [e.2.2.2.2.1]; try (try dsimp only); omega
  · rw [after0_4' m c t h5, outQ_at]
    have hd : (at_ t 4).val / 42 = t.val / 42 := by show (42 * (t.val / 42) + 4) / 42 = _; omega
    have hm : (at_ t 4).val % 42 = 4 := by show (42 * (t.val / 42) + 4) % 42 = _; omega
    refine blk_eq m c (at_ t 4) r _ _ _ ?_ ?_
    · rw [hd]; blk_simp [e.2.2.2.2.1]; try (try dsimp only); omega
    · rw [hm]; blk_simp [e.2.2.2.2.1]; try (try dsimp only); omega

theorem k_array (c : Dev nD) : (dats m 0 c).arrAt 5 cfg0.N = In.k (X m c) (XS m c) (W m c) (WS m c) := by
  refine (dats m 0 c).arrAt_eq_of_covers 5 _ (by decide +kernel) fun t hf y => ?_
  have e := index t
  blk_simp
  obtain ⟨r, b, rfl⟩ : ∃ (r : Fin 1024) (b : Fin 256), y = ix2 r b := ⟨y 0, y 1, eq_ix2 y⟩
  rw [after0_5, outK_at]
  have hd : (at_ t 5).val / 42 = t.val / 42 := by show (42 * (t.val / 42) + 5) / 42 = _; omega
  have hm : (at_ t 5).val % 42 = 5 := by show (42 * (t.val / 42) + 5) % 42 = _; omega
  refine blk_eq m c (at_ t 5) r _ _ _ ?_ ?_
  · rw [hd]; blk_simp [e.2.2.2.2.2.1]; try omega
  · rw [hm]; blk_simp [e.2.2.2.2.2.1]; try omega

theorem v_array (c : Dev nD) : (dats m 0 c).arrAt 6 cfg0.N = In.v (X m c) (XS m c) (W m c) (WS m c) := by
  refine (dats m 0 c).arrAt_eq_of_covers 6 _ (by decide +kernel) fun t hf y => ?_
  have e := index t
  blk_simp
  obtain ⟨r, b, rfl⟩ : ∃ (r : Fin 1024) (b : Fin 256), y = ix2 r b := ⟨y 0, y 1, eq_ix2 y⟩
  rw [after0_6, outK_at]
  have hd : (at_ t 6).val / 42 = t.val / 42 := by show (42 * (t.val / 42) + 6) / 42 = _; omega
  have hm : (at_ t 6).val % 42 = 6 := by show (42 * (t.val / 42) + 6) % 42 = _; omega
  refine blk_eq m c (at_ t 6) r _ _ _ ?_ ?_
  · rw [hd]; blk_simp [e.2.2.2.2.2.2.1]; try omega
  · rw [hm]; blk_simp [e.2.2.2.2.2.2.1]; try omega

theorem codes_array (c : Dev nD) : (dats m 0 c).arrAt 7 cfg0.N = In.codes (X m c) (XS m c) (W m c) (WS m c) := by
  refine (dats m 0 c).arrAt_eq_of_covers 7 _ (by decide +kernel) fun t hf y => ?_
  have e := index t
  blk_simp
  obtain ⟨r, j, rfl⟩ : ∃ (r : Fin 1024) (j : Fin 4480), y = ix2 r j := ⟨y 0, y 1, eq_ix2 y⟩
  rw [after0_7, outC_at]
  have hr : ((((View.whole main_v1_3).slice (win0_7.rect t)).emb (ix2 r j)) 0).val = 1024 * (t.val / 42) + r.val := by
    blk_simp [e.2.2.2.2.2.2.2.1]; try omega
  have hj : (((View.whole main_v1_3).slice (win0_7.rect t)).emb (ix2 r j)) 1 = j := Fin.ext (by blk_simp [e.2.2.2.2.2.2.2.1])
  have hs : slabs m c (t.val / 42) (ix3 ⟨j.val / 128, by omega⟩ r ⟨j.val % 128, by omega⟩) = H m c ((((View.whole main_v1_3).slice (win0_7.rect t)).emb (ix2 r j)) 0) j :=
    slab_eq m c (t.val / 42) (j.val / 128) (lt4 t) (by omega) r ⟨j.val % 128, by omega⟩ _ j hr (by show j.val = 128 * (j.val / 128) + j.val % 128; omega)
  have hi : inv (amaxAt m c (t.val / 42) 34) r = Ideal.exp2 (Ideal.ofBits FTy.f32 0#32 - Scale.expR (Quant.quot (H m c ((((View.whole main_v1_3).slice (win0_7.rect t)).emb (ix2 r j)) 0)))) := by
    unfold inv
    rw [most_eq m c (t.val / 42) (lt4 t) r _ hr]
    rfl
  refine (congrArg₂ Quant.clip hs hi).trans ?_
  show Quant.code (H m c _) j = Quant.code (H m c _) _
  rw [hj]

theorem scales_array (c : Dev nD) : (dats m 0 c).arrAt 8 cfg0.N = In.scales (X m c) (XS m c) (W m c) (WS m c) := by
  refine (dats m 0 c).arrAt_eq_of_covers 8 _ (by decide +kernel) fun t hf y => ?_
  have e := index t
  blk_simp
  obtain ⟨r, b, rfl⟩ : ∃ (r : Fin 1024) (b : Fin 1), y = ix2 r b := ⟨y 0, y 1, eq_ix2 y⟩
  obtain rfl : b = 0 := Subsingleton.elim _ _
  have hr : ((((View.whole main_v1_4).slice (win0_8.rect t)).emb (ix2 r 0)) 0).val = 1024 * (t.val / 42) + r.val := by
    blk_simp [e.2.2.2.2.2.2.2.2]; try omega
  rw [after0_8, outS_at, most_eq m c (t.val / 42) (lt4 t) r _ hr]
  rfl

/-- The transposition after the region takes the heads, head by head, to `q`. -/
theorem q_result (c : Dev nD) : Pipeline.afterTail₀ cfgs (dats m) 0 (V0 m) [hostOps1] c main_v2 = In.q (X m c) (XS m c) (W m c) (WS m c) := by
  have e : ∀ T : Vec Ideal S10x4096x128 .bf16, T = In.heads (X m c) (XS m c) (W m c) (WS m c) →
      transpose S4096x10x128 [1, 0, 2] T transposes_S10x4096x128_S4096x10x128_1_0_2 = In.q (X m c) (XS m c) (W m c) (WS m c) := by
    rintro T rfl
    funext i
    obtain ⟨r, h, l, rfl⟩ : ∃ (r : Fin 4096) (h : Fin 10) (l : Fin 128), i = ix3 r h l := ⟨i 0, i 1, i 2, eq_ix3 i⟩
    pointwise
    rfl
  have f : ∀ V' : Valuation τ sig (Elt Ideal), StableHlo.after ([hostOps1] : List (List (HloOp τ sig (Elt Ideal)))).flatten V' (Proc.devRef .tc main_v2)
      = transpose S4096x10x128 [1, 0, 2] (V' (Proc.devRef .tc main_v1_0) : Vec Ideal S10x4096x128 .bf16) transposes_S10x4096x128_S4096x10x128_1_0_2 := by
    intro V'
    show StableHlo.after hostOps1 V' (Proc.devRef .tc main_v2) = _
    after_results
  unfold Pipeline.afterTail₀
  refine (f _).trans (e _ ?_)
  exact (Pipeline.withArrays_arr spec0 launch0.win.arr_inj c (V0 m c) (fun w => (dats m 0 c).arrAt w cfg0.N) 4).trans (heads_array m c)

/-- The run: the five results are the projection's, and the arguments are left as they were. -/
theorem run : θ_run defs (onTc (τ := τ) (main (F := Ideal))) ⟨m, fun _ => 0, ρ⟩ fun r => ∀ c : Dev nD,
      r.2.mem ((c : Thread nD τ).loc main_v2) = In.q (X m c) (XS m c) (W m c) (WS m c)
      ∧ r.2.mem ((c : Thread nD τ).loc main_v1_1) = In.k (X m c) (XS m c) (W m c) (WS m c)
      ∧ r.2.mem ((c : Thread nD τ).loc main_v1_2) = In.v (X m c) (XS m c) (W m c) (WS m c)
      ∧ r.2.mem ((c : Thread nD τ).loc main_v1_3) = In.codes (X m c) (XS m c) (W m c) (WS m c)
      ∧ r.2.mem ((c : Thread nD τ).loc main_v1_4) = In.scales (X m c) (XS m c) (W m c) (WS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v2 (Pipeline.mem_restRefs_of main_v2 (by decide) (by decide))).trans (q_result m c), ((h c).1 5).trans (k_array m c), ((h c).1 6).trans (v_array m c),
      ((h c).1 7).trans (codes_array m c), ((h c).1 8).trans (scales_array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.InKernelIdeal.Body

end
-- ==== Proof.InWhole.lean ====
/-
  The input projection by the reference, on whole arrays.

  The reference projects every row at once, slices `q` (ten heads to a row), `k`, `v` and the pairs of gate and up columns,
  and quantises the hidden rows with logarithms and powers of two; its results are the functions of InDefs.lean.
-/
module

public import proofs.«01_k».proof.Proof.InDefs
public import proofs.«01_k».proof.Proof.Gen.InReferenceIdeal.Frame
public import Idealize.ShloMosaic.Lib.Pipeline.ValueKit
public import Idealize.ShloMosaic.Lib.Tactic

@[expose] public section

set_option maxRecDepth 16384

noncomputable section

namespace Cert.InReferenceIdeal.Whole

open Cert.InReferenceIdeal Cert.InReferenceIdeal.Gen Idealize.ShloMosaic Idealize.ShloMosaic.TcCoe Idealize.SL.Sem
open Idealize.ShloMosaic.Pipeline (Dat)

/-! ## The projection and its slices -/

variable (x : Vec Ideal S4096x5120 .fp8e4m3) (xs : Vec Ideal S4096x1 .f32) (w : Vec Ideal S5120x10752 .fp8e4m3) (ws : Vec Ideal S1x10752 .f32)

theorem proj_at (r : Fin 4096) (c : Fin 10752) : k0_pay4 (F := Ideal) x w xs ws (ix2 r c) = In.proj x xs w ws r c := by
  unfold k0_pay4 In.proj
  pointwise

/-- The 1280 columns of `q`, as ten heads of 128 lanes. -/
theorem queries_at (r : Fin 4096) (h : Fin 10) (l : Fin 128) :
    k0_pay5 (F := Ideal) x w xs ws (ix3 r h l) = k0_pay4 (F := Ideal) x w xs ws (ix2 r ⟨128 * h.val + l.val, by omega⟩) := by
  unfold k0_pay5
  generalize k0_pay4 (F := Ideal) x w xs ws = P
  generalize hS : extractStridedSlice S4096x1280 ![0, 0] P slices_S4096x10752_o0_0_S4096x1280 = S
  have e : truncf .bf16 (shapeCast S4096x10x128 S shapeCasts_S4096x1280_S4096x10x128) bitsLt_bf16_f32 (ix3 r h l) = S (ix2 r ⟨128 * h.val + l.val, by omega⟩) := by
    pointwise
    exact congrArg (fun c => S (ix2 r c)) (Fin.ext (by show h.val * 128 + l.val = 128 * h.val + l.val; omega))
  refine e.trans ?_
  rw [← hS]
  pointwise

theorem keys_at (r : Fin 4096) (b : Fin 256) : k0_pay6 (F := Ideal) x w xs ws (ix2 r b) = k0_pay4 (F := Ideal) x w xs ws (ix2 r ⟨1280 + b.val, by omega⟩) := by
  unfold k0_pay6
  generalize k0_pay4 (F := Ideal) x w xs ws = P
  pointwise

theorem values_at (r : Fin 4096) (b : Fin 256) : k0_pay7 (F := Ideal) x w xs ws (ix2 r b) = k0_pay4 (F := Ideal) x w xs ws (ix2 r ⟨1536 + b.val, by omega⟩) := by
  unfold k0_pay7
  generalize k0_pay4 (F := Ideal) x w xs ws = P
  pointwise

/-- The pairs of gate and up columns. -/
def pairs (P : FVec Ideal S4096x10752 .f32) : FVec Ideal S4096x4480x2 .f32 :=
  shapeCast S4096x4480x2 (extractStridedSlice S4096x8960 ![0, 1792] P slices_S4096x10752_o0_1792_S4096x8960) shapeCasts_S4096x8960_S4096x4480x2

theorem pairs_at (P : FVec Ideal S4096x10752 .f32) (r : Fin 4096) (j : Fin 4480) (b : Fin 2) : pairs P (ix3 r j b) = P (ix2 r ⟨1792 + (2 * j.val + b.val), by omega⟩) := by
  unfold pairs
  generalize hS : extractStridedSlice S4096x8960 ![0, 1792] P slices_S4096x10752_o0_1792_S4096x8960 = S
  have e : shapeCast S4096x4480x2 S shapeCasts_S4096x8960_S4096x4480x2 (ix3 r j b) = S (ix2 r ⟨2 * j.val + b.val, by omega⟩) := by
    pointwise
    exact congrArg (fun c => S (ix2 r c)) (Fin.ext (by show j.val * 2 + b.val = 2 * j.val + b.val; omega))
  rw [e, ← hS]
  pointwise

def gates (T : FVec Ideal S4096x4480x2 .f32) : FVec Ideal S4096x4480 .f32 :=
  shapeCast S4096x4480 (extractStridedSlice S4096x4480x1 ![0, 0, 0] T slices_S4096x4480x2_o0_0_0_S4096x4480x1) shapeCasts_S4096x4480x1_S4096x4480
def ups (T : FVec Ideal S4096x4480x2 .f32) : FVec Ideal S4096x4480 .f32 :=
  shapeCast S4096x4480 (extractStridedSlice S4096x4480x1 ![0, 0, 1] T slices_S4096x4480x2_o0_0_1_S4096x4480x1) shapeCasts_S4096x4480x1_S4096x4480
theorem gates_at (T : FVec Ideal S4096x4480x2 .f32) (r : Fin 4096) (j : Fin 4480) : gates T (ix2 r j) = T (ix3 r j 0) := by
  unfold gates
  pointwise
theorem ups_at (T : FVec Ideal S4096x4480x2 .f32) (r : Fin 4096) (j : Fin 4480) : ups T (ix2 r j) = T (ix3 r j 1) := by
  unfold ups
  pointwise

theorem pay8_eq : k0_pay8 (F := Ideal) x w xs ws = mulf (mulf (gates (pairs (k0_pay4 x w xs ws))) (logistic (gates (pairs (k0_pay4 x w xs ws))))) (ups (pairs (k0_pay4 x w xs ws))) := rfl

/-- The hidden values. -/
theorem hidden_at (r : Fin 4096) (j : Fin 4480) : k0_pay8 (F := Ideal) x w xs ws (ix2 r j) = In.hidden x xs w ws r j := by
  have e : ∀ g u : FVec Ideal S4096x4480 .f32, mulf (mulf g (logistic g)) u (ix2 r j) = In.glu (g (ix2 r j)) (u (ix2 r j)) := fun _ _ => rfl
  rw [pay8_eq, e, gates_at, ups_at, pairs_at, pairs_at, proj_at, proj_at]
  rfl

/-! ## The quantiser -/

/-- The column of quotients. -/
def col (v : FVec Ideal S4096x4480 .f32) : FVec Ideal S4096x1 .f32 :=
  mulf (shapeCast S4096x1 (multiReduction .maximumf [1] S4096 (absf v) 0xFF800000#32 reduces_S4096x4480_S4096 (.inl rfl) rfl) shapeCasts_S4096_S4096x1)
    (broadcast S4096x1 (Scalar.ofBits .f32 0x3B124925#32))

theorem column (v : FVec Ideal S4096 .f32) (a : Fin 4096) : shapeCast S4096x1 v shapeCasts_S4096_S4096x1 (ix2 a 0) = v (ix1 a) := by
  pointwise

theorem col_at (v : FVec Ideal S4096x4480 .f32) (a : Fin 4096) : col v (ix2 a 0) = Quant.quot fun k : Fin 4480 => v (ix2 a k) := by
  have e : ∀ w : FVec Ideal S4096x1 .f32, mulf w (broadcast S4096x1 (Scalar.ofBits .f32 0x3B124925#32)) (ix2 a 0) = w (ix2 a 0) * Ideal.ofBits FTy.f32 991054117#32 := fun _ => rfl
  have f : multiReduction .maximumf [1] S4096 (absf v) 0xFF800000#32 reduces_S4096x4480_S4096 (.inl rfl) rfl (ix1 a) = Quant.top fun k : Fin 4480 => v (ix2 a k) := by
    refine (Ideal.multiReduction_maximumf_single (absf v) _ reduces_S4096x4480_S4096 _ _ (ix1 a)).trans ?_
    refine congrArg (fun f => Finset.fold max _ f Finset.univ) (funext fun k : Fin 4480 => congrArg (fun i => Quant.mag (v i)) ?_)
    funext d
    match d with
    | 0 => rfl
    | 1 => rfl
  unfold col Quant.quot
  rw [e, column, f]

/-- The exponent of a column of quotients, entry by entry. -/
def exps (T : FVec Ideal S4096x1 .f32) : FVec Ideal S4096x1 .f32 :=
  select (andi (cmpf .oge T (broadcast S4096x1 (Scalar.ofBits .f32 0x00800000#32))) (cmpf .olt T (broadcast S4096x1 (Scalar.ofBits .f32 0x7B800000#32))))
    (addf (floor (divf (log T) (log (broadcast S4096x1 (Scalar.ofBits .f32 0x40000000#32))))) (broadcast S4096x1 (Scalar.ofBits .f32 0x3F800000#32)))
    (broadcast S4096x1 (Scalar.ofBits .f32 0x00000000#32))

theorem exps_at (T : FVec Ideal S4096x1 .f32) (i : S4096x1.Idx) : exps T i = Scale.expR (T i) := (Scale.expR_select (T i) : _)

/-- The exponents of a column of quotients, from the column and its two comparisons. -/
theorem pay1_eq (T : FVec Ideal S4096x1 .f32) :
    k0_pay1 (F := Ideal) T (cmpf .oge T (broadcast S4096x1 (Scalar.ofBits .f32 0x00800000#32))) (broadcast S4096x1 (Scalar.ofBits .f32 0x7B800000#32)) = exps T := rfl
theorem pay9_eq : k0_pay9 (F := Ideal) x w xs ws = col (k0_pay8 (F := Ideal) x w xs ws) := rfl
theorem pay10_eq : k0_pay10 (F := Ideal) x w xs ws = cmpf .oge (k0_pay9 (F := Ideal) x w xs ws) (broadcast S4096x1 (Scalar.ofBits .f32 0x00800000#32)) := rfl
theorem exponents : k0_pay1 (F := Ideal) (k0_pay9 (F := Ideal) x w xs ws) (k0_pay10 (F := Ideal) x w xs ws) (k0_pay11 (F := Ideal)) = exps (col (k0_pay8 (F := Ideal) x w xs ws)) := by
  rw [pay10_eq, ← pay9_eq]
  exact pay1_eq _

theorem scale_at (a : Fin 4096) :
    k0_pay3 (F := Ideal) (k0_pay9 (F := Ideal) x w xs ws) (k0_pay10 (F := Ideal) x w xs ws) (k0_pay11 (F := Ideal)) (ix2 a 0)
      = Quant.scale fun k : Fin 4480 => k0_pay8 (F := Ideal) x w xs ws (ix2 a k) := by
  have e : ∀ w : FVec Ideal S4096x1 .f32, exp2 w (ix2 a 0) = Ideal.exp2 (w (ix2 a 0)) := fun _ => rfl
  unfold k0_pay3
  rw [e, exponents, exps_at, col_at]
  unfold Quant.scale
  with_reducible rfl

/-- A column spread over the lanes reads its row's entry. -/
theorem spread (T : FVec Ideal S4096x1 .f32) (a : Fin 4096) (b : Fin 4480) :
    broadcastTo S4096x4480 T broadcasts_S4096x1_S4096x4480 (ix2 a b) = T (ix2 a 0) := by
  pointwise

/-- Rows times inverse scales, clipped. -/
def clipped (v w : FVec Ideal S4096x4480 .f32) : FVec Ideal S4096x4480 .fp8e4m3 :=
  truncf .fp8e4m3 (minimumf (broadcast S4096x4480 (Scalar.ofBits .f32 0x43E00000#32)) (maximumf (broadcast S4096x4480 (Scalar.ofBits .f32 0xC3E00000#32)) (mulf v w))) bitsLt_fp8e4m3_f32
def inverse (E : FVec Ideal S4096x1 .f32) : FVec Ideal S4096x1 .f32 := exp2 (subf (broadcast S4096x1 (Scalar.ofBits (F := Ideal) .f32 0x00000000#32)) E)
theorem clipped_at (v w : FVec Ideal S4096x4480 .f32) (i : S4096x4480.Idx) : clipped v w i = Quant.clip (v i) (w i) := rfl
theorem inverse_at (E : FVec Ideal S4096x1 .f32) (i : S4096x1.Idx) : inverse E i = Ideal.exp2 (Ideal.ofBits FTy.f32 0#32 - E i) := rfl

theorem pay2_eq (v : FVec Ideal S4096x4480 .f32) (T : FVec Ideal S4096x1 .f32) (B : IVec S4096x1 1) (U : FVec Ideal S4096x1 .f32) :
    k0_pay2 (F := Ideal) v T B U = clipped v (broadcastTo S4096x4480 (inverse (k0_pay1 T B U)) broadcasts_S4096x1_S4096x4480) := rfl

theorem code_at (a : Fin 4096) (b : Fin 4480) :
    k0_pay2 (F := Ideal) (k0_pay8 (F := Ideal) x w xs ws) (k0_pay9 (F := Ideal) x w xs ws) (k0_pay10 (F := Ideal) x w xs ws) (k0_pay11 (F := Ideal)) (ix2 a b)
      = Quant.code (fun k : Fin 4480 => k0_pay8 (F := Ideal) x w xs ws (ix2 a k)) b := by
  unfold Quant.code
  rw [pay2_eq, clipped_at, spread, inverse_at, exponents, exps_at, col_at]

/-! ## The arrays -/

theorem ld_x : View.ld x r0_0 = x := View.ld_unit_zero (by decide) _ x
theorem ld_w : View.ld w r0_1 = w := View.ld_unit_zero (by decide) _ w
theorem ld_xs : View.ld xs r0_2 = xs := View.ld_unit_zero (by decide) _ xs
theorem ld_ws : View.ld ws r0_3 = ws := View.ld_unit_zero (by decide) _ ws

theorem q_at (r : Fin 4096) (h : Fin 10) (l : Fin 128) : out0_4 (F := Ideal) x xs w ws (ix3 r h l) = In.proj x xs w ws r ⟨128 * h.val + l.val, by omega⟩ := by
  unfold out0_4
  frame_out
  rw [queries_at, proj_at]

theorem k_at (r : Fin 4096) (b : Fin 256) : out0_5 (F := Ideal) x xs w ws (ix2 r b) = In.proj x xs w ws r ⟨1280 + b.val, by omega⟩ := by
  unfold out0_5
  frame_out
  rw [keys_at, proj_at]

theorem v_at (r : Fin 4096) (b : Fin 256) : out0_6 (F := Ideal) x xs w ws (ix2 r b) = In.proj x xs w ws r ⟨1536 + b.val, by omega⟩ := by
  unfold out0_6
  frame_out
  rw [values_at, proj_at]

theorem codes_at (r : Fin 4096) (j : Fin 4480) : out0_7 (F := Ideal) x xs w ws (ix2 r j) = Quant.code (In.hidden x xs w ws r) j := by
  unfold out0_7 k0_pay12 k0_pay13 k0_pay14
  frame_out
  rw [code_at]
  exact congrArg (fun f => Quant.code f j) (funext fun k => hidden_at x xs w ws r k)

theorem scales_at (r : Fin 4096) : out0_8 (F := Ideal) x xs w ws (ix2 r 0) = Quant.scale (In.hidden x xs w ws r) := by
  unfold out0_8 k0_pay12 k0_pay13 k0_pay14
  frame_out
  rw [scale_at]
  exact congrArg Quant.scale (funext fun k => hidden_at x xs w ws r k)

variable (m : (ℓ : Loc nD τ sig) → Buf (Elt Ideal) ℓ) (ρ : Dev nD → PrngReg)

/-- The arguments; the columns' scales enter the call reshaped. -/
abbrev X (c : Dev nD) : Vec Ideal S4096x5120 .fp8e4m3 := m ((c : Thread nD τ).loc main_arg0)
abbrev XS (c : Dev nD) : Vec Ideal S4096x1 .f32 := m ((c : Thread nD τ).loc main_arg1)
abbrev W (c : Dev nD) : Vec Ideal S5120x10752 .fp8e4m3 := m ((c : Thread nD τ).loc main_arg2)
abbrev WS (c : Dev nD) : Vec Ideal S1x10752 .f32 := shapeCast S1x10752 (m ((c : Thread nD τ).loc main_arg3)) shapeCasts_S10752_S1x10752
theorem V_ws (c : Dev nD) : V m c main_v0 = WS m c := by
  show StableHlo.after hostOps0 _ (Proc.devRef .tc main_v0) = _
  after_results
  rfl

/-- Which block each window is on at a grid point. -/
theorem index : ∀ t : Fin cfg0.N, win0_0.index t = ![0, 0] ∧ win0_1.index t = ![0, 0] ∧ win0_2.index t = ![0, 0] ∧ win0_3.index t = ![0, 0]
    ∧ win0_4.index t = ![0, 0, 0] ∧ win0_5.index t = ![0, 0] ∧ win0_6.index t = ![0, 0] ∧ win0_7.index t = ![0, 0] ∧ win0_8.index t = ![0, 0] := by decide +kernel

/-- The staged blocks are the arguments. -/
theorem block_x (c : Dev nD) (t : Fin cfg0.N) : iblk m c 0 t = X m c := by
  have a : X m c = V m c main_arg0 := (V_main_arg0 m c).symm
  have e := (index t).1
  rw [a]
  funext y
  obtain ⟨r, k, rfl⟩ : ∃ (r : Fin 4096) (k : Fin 5120), y = ix2 r k := ⟨y 0, y 1, eq_ix2 y⟩
  blk_ext [iblk, e]
theorem block_xs (c : Dev nD) (t : Fin cfg0.N) : iblk m c 1 t = XS m c := by
  have a : XS m c = V m c main_arg1 := (V_main_arg1 m c).symm
  have e := (index t).2.1
  rw [a]
  funext y
  obtain ⟨r, k, rfl⟩ : ∃ (r : Fin 4096) (k : Fin 1), y = ix2 r k := ⟨y 0, y 1, eq_ix2 y⟩
  blk_ext [iblk, e]
theorem block_w (c : Dev nD) (t : Fin cfg0.N) : iblk m c 2 t = W m c := by
  have a : W m c = V m c main_arg2 := (V_main_arg2 m c).symm
  have e := (index t).2.2.1
  rw [a]
  funext y
  obtain ⟨r, k, rfl⟩ : ∃ (r : Fin 5120) (k : Fin 10752), y = ix2 r k := ⟨y 0, y 1, eq_ix2 y⟩
  blk_ext [iblk, e]
theorem block_ws (c : Dev nD) (t : Fin cfg0.N) : iblk m c 3 t = WS m c := by
  have e := (index t).2.2.2.1
  rw [← V_ws]
  funext y
  obtain ⟨r, k, rfl⟩ : ∃ (r : Fin 1) (k : Fin 10752), y = ix2 r k := ⟨y 0, y 1, eq_ix2 y⟩
  blk_ext [iblk, e]

theorem q_array (c : Dev nD) : (dats m 0 c).arrAt 4 cfg0.N = In.q (X m c) (XS m c) (W m c) (WS m c) := by
  refine (dats m 0 c).arrAt_eq_of_covers 4 _ (by decide +kernel) fun t hf y => ?_
  have e := (index t).2.2.2.2.1
  blk_simp
  obtain ⟨h, r, l, rfl⟩ : ∃ (r : Fin 4096) (h : Fin 10) (l : Fin 128), y = ix3 r h l := ⟨y 0, y 1, y 2, eq_ix3 y⟩
  rw [after0_4, block_x, block_xs, block_w, block_ws, q_at]
  refine congrArg₂ (In.proj (X m c) (XS m c) (W m c) (WS m c)) (Fin.ext ?_) (Fin.ext ?_)
  · blk_simp [e]
  · blk_simp [e]

theorem k_array (c : Dev nD) : (dats m 0 c).arrAt 5 cfg0.N = In.k (X m c) (XS m c) (W m c) (WS m c) := by
  refine (dats m 0 c).arrAt_eq_of_covers 5 _ (by decide +kernel) fun t hf y => ?_
  have e := (index t).2.2.2.2.2.1
  blk_simp
  obtain ⟨r, b, rfl⟩ : ∃ (r : Fin 4096) (b : Fin 256), y = ix2 r b := ⟨y 0, y 1, eq_ix2 y⟩
  rw [after0_5, block_x, block_xs, block_w, block_ws, k_at]
  refine congrArg₂ (In.proj (X m c) (XS m c) (W m c) (WS m c)) (Fin.ext ?_) (Fin.ext ?_)
  · blk_simp [e]
  · blk_simp [e]

theorem v_array (c : Dev nD) : (dats m 0 c).arrAt 6 cfg0.N = In.v (X m c) (XS m c) (W m c) (WS m c) := by
  refine (dats m 0 c).arrAt_eq_of_covers 6 _ (by decide +kernel) fun t hf y => ?_
  have e := (index t).2.2.2.2.2.2.1
  blk_simp
  obtain ⟨r, b, rfl⟩ : ∃ (r : Fin 4096) (b : Fin 256), y = ix2 r b := ⟨y 0, y 1, eq_ix2 y⟩
  rw [after0_6, block_x, block_xs, block_w, block_ws, v_at]
  refine congrArg₂ (In.proj (X m c) (XS m c) (W m c) (WS m c)) (Fin.ext ?_) (Fin.ext ?_)
  · blk_simp [e]
  · blk_simp [e]

theorem codes_array (c : Dev nD) : (dats m 0 c).arrAt 7 cfg0.N = In.codes (X m c) (XS m c) (W m c) (WS m c) := by
  refine (dats m 0 c).arrAt_eq_of_covers 7 _ (by decide +kernel) fun t hf y => ?_
  have e := (index t).2.2.2.2.2.2.2.1
  blk_simp
  obtain ⟨r, j, rfl⟩ : ∃ (r : Fin 4096) (j : Fin 4480), y = ix2 r j := ⟨y 0, y 1, eq_ix2 y⟩
  rw [after0_7, block_x, block_xs, block_w, block_ws, codes_at]
  refine congrArg₂ (fun r j => Quant.code (In.hidden (X m c) (XS m c) (W m c) (WS m c) r) j) (Fin.ext ?_) (Fin.ext ?_)
  · blk_simp [e]
  · blk_simp [e]

theorem scales_array (c : Dev nD) : (dats m 0 c).arrAt 8 cfg0.N = In.scales (X m c) (XS m c) (W m c) (WS m c) := by
  refine (dats m 0 c).arrAt_eq_of_covers 8 _ (by decide +kernel) fun t hf y => ?_
  have e := (index t).2.2.2.2.2.2.2.2
  blk_simp
  obtain ⟨r, b, rfl⟩ : ∃ (r : Fin 4096) (b : Fin 1), y = ix2 r b := ⟨y 0, y 1, eq_ix2 y⟩
  obtain rfl : b = 0 := Subsingleton.elim _ _
  rw [after0_8, block_x, block_xs, block_w, block_ws, scales_at]
  refine congrArg (fun r => Quant.scale (In.hidden (X m c) (XS m c) (W m c) (WS m c) r)) (Fin.ext ?_)
  blk_simp [e]

/-- The run: the five results are the projection's, and the arguments are left as they were. -/
theorem run : θ_run defs (onTc (τ := τ) (main (F := Ideal))) ⟨m, fun _ => 0, ρ⟩ fun r => ∀ c : Dev nD,
      r.2.mem ((c : Thread nD τ).loc main_v1_0) = In.q (X m c) (XS m c) (W m c) (WS m c)
      ∧ r.2.mem ((c : Thread nD τ).loc main_v1_1) = In.k (X m c) (XS m c) (W m c) (WS m c)
      ∧ r.2.mem ((c : Thread nD τ).loc main_v1_2) = In.v (X m c) (XS m c) (W m c) (WS m c)
      ∧ r.2.mem ((c : Thread nD τ).loc main_v1_3) = In.codes (X m c) (XS m c) (W m c) (WS m c)
      ∧ r.2.mem ((c : Thread nD τ).loc main_v1_4) = In.scales (X m c) (XS m c) (W m c) (WS m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (q_array m c), ((h c).1 5).trans (k_array m c), ((h c).1 6).trans (v_array m c),
      ((h c).1 7).trans (codes_array m c), ((h c).1 8).trans (scales_array m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.InReferenceIdeal.Whole

end
-- ==== Proof.InClaims.lean ====
/-
  The five claims about the input projection: the kernel's frame and its idealization's are the tracked runs of
  InFrameP.lean and InFrame.lean, the reference's is generated; the kernel and the reference both leave the functions of
  InDefs.lean of their arguments.
-/
module

public import proofs.«01_k».proof.Defs
public import proofs.«01_k».proof.Proof.InFrameP
public import proofs.«01_k».proof.Proof.InArray
public import proofs.«01_k».proof.Proof.InWhole
public import proofs.«01_k».proof.Proof.Gen.InReferenceIdeal
public import proofs.«01_k».proof.Proof.Gen.InReferenceIdeal.Frame

@[expose] public section

noncomputable section

namespace Cert.Proof.In

open Idealize.ShloMosaic Idealize.ShloMosaic.TcCoe Idealize.SL.Sem

theorem frame_kernel : Cert.quiescent_InKernel := fun m ρ _ => Cert.InKernel.Body.frame m ρ
theorem frame_ideal : Cert.quiescent_InKernelIdeal := fun m ρ _ => Cert.InKernelIdeal.Body.frame m ρ
theorem frame_reference : Cert.quiescent_InReferenceIdeal := fun m ρ _ => Cert.InReferenceIdeal.Gen.frame m ρ

/-- Equal arguments give equal entries to both programs' results. -/
theorem same (m : (ℓ : Loc Cert.InKernelIdeal.nD Cert.InKernelIdeal.τ Cert.InKernelIdeal.sig) → Buf (Elt Ideal) ℓ)
    (m' : (ℓ : Loc Cert.InReferenceIdeal.nD Cert.InReferenceIdeal.τ Cert.InReferenceIdeal.sig) → Buf (Elt Ideal) ℓ) (c : Dev Cert.InKernelIdeal.nD)
    (h0 : m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0))
    (h1 : m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1))
    (h2 : m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2))
    (h3 : m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) :
    Cert.InReferenceIdeal.Whole.X m' c = Cert.InKernelIdeal.Body.X m c ∧ Cert.InReferenceIdeal.Whole.XS m' c = Cert.InKernelIdeal.Body.XS m c ∧ Cert.InReferenceIdeal.Whole.W m' c = Cert.InKernelIdeal.Body.W m c ∧ Cert.InReferenceIdeal.Whole.WS m' c = Cert.InKernelIdeal.Body.WS m c := by
  refine ⟨h0, h1, h2, ?_⟩
  unfold Cert.InReferenceIdeal.Whole.WS Cert.InKernelIdeal.Body.WS
  rw [h3]

/-- Over the extended reals, equal arguments give equal `q`, `k`, `v`, hidden codes and scales. -/
theorem algebraic : Cert.algebraic_InKernelIdeal_InReferenceIdeal := by
  intro m ρ m' ρ' _ hagree
  refine ⟨fun c => Cert.In.q (Cert.InKernelIdeal.Body.X m c) (Cert.InKernelIdeal.Body.XS m c) (Cert.InKernelIdeal.Body.W m c) (Cert.InKernelIdeal.Body.WS m c), fun c => Cert.In.k (Cert.InKernelIdeal.Body.X m c) (Cert.InKernelIdeal.Body.XS m c) (Cert.InKernelIdeal.Body.W m c) (Cert.InKernelIdeal.Body.WS m c), fun c => Cert.In.v (Cert.InKernelIdeal.Body.X m c) (Cert.InKernelIdeal.Body.XS m c) (Cert.InKernelIdeal.Body.W m c) (Cert.InKernelIdeal.Body.WS m c), fun c => Cert.In.codes (Cert.InKernelIdeal.Body.X m c) (Cert.InKernelIdeal.Body.XS m c) (Cert.InKernelIdeal.Body.W m c) (Cert.InKernelIdeal.Body.WS m c), fun c => Cert.In.scales (Cert.InKernelIdeal.Body.X m c) (Cert.InKernelIdeal.Body.XS m c) (Cert.InKernelIdeal.Body.W m c) (Cert.InKernelIdeal.Body.WS m c), Cert.InKernelIdeal.Body.run m ρ, ?_⟩
  refine (θ_run Cert.InReferenceIdeal.defs _ _).mono (fun _ h c => ?_) (Cert.InReferenceIdeal.Whole.run m' ρ')
  obtain ⟨e0, e1, e2, e3⟩ := same m m' c (hagree c).1 (hagree c).2.1 (hagree c).2.2.1 (hagree c).2.2.2
  obtain ⟨q, k, v, hc, hs, rest⟩ := h c
  rw [e0, e1, e2, e3] at q k v hc hs
  exact ⟨q, k, v, hc, hs, rest⟩

end Cert.Proof.In

end
-- ==== Proof.DownBlock.lean ====
/-
  The down projection, block by block.

  `G codes scale w wscale x` is the down projection as a function of its five arrays: at row r and column c
  it is x[r, c] plus the contraction of row r of the codes with column c of the weights, times the row's
  scale, times the column's scale. The pipelined kernel computes one 1024 × 512 block of it at each grid
  point, contracting the whole inner axis there; its blocks tile the result (`kernel_array`).
-/
module

public import proofs.«01_k».proof.Defs
public import proofs.«01_k».proof.Proof.Gen.DownKernelIdeal.Value
public import Idealize.ShloMosaic.Lib.Pipeline.ValueKit
public import Idealize.ShloMosaic.Lib.Tactic

@[expose] public section

set_option maxRecDepth 16384

noncomputable section

namespace Cert.Down

open Idealize.ShloMosaic

/-- The down projection of a row of codes against a column of weights, added to the residual, at (r, c). -/
def G (codes : Vec Ideal ⟨2, ![4096, 4480]⟩ .fp8e4m3) (scale : Vec Ideal ⟨2, ![4096, 1]⟩ .f32)
    (w : Vec Ideal ⟨2, ![4480, 5120]⟩ .fp8e4m3) (wscale : Vec Ideal ⟨2, ![1, 5120]⟩ .f32)
    (x : Vec Ideal ⟨2, ![4096, 5120]⟩ .bf16) : Vec Ideal ⟨2, ![4096, 5120]⟩ .bf16 := fun i =>
  (x i + (∑ k : Fin 4480, codes (ix2 (i 0) k) * w (ix2 k (i 1))) * scale (ix2 (i 0) 0) * wscale (ix2 0 (i 1)) : EReal)

end Cert.Down

namespace Cert.DownKernelIdeal.Block

open Cert.DownKernelIdeal Cert.DownKernelIdeal.Gen Idealize.ShloMosaic Idealize.ShloMosaic.TcCoe Idealize.SL.Sem
open Idealize.ShloMosaic.Pipeline (Dat)

/-- What one grid point computes, at row a and column b of its block. -/
theorem payload (codes : Vec Ideal S1024x4480 .fp8e4m3) (w : Vec Ideal S4480x512 .fp8e4m3) (x : Vec Ideal S1024x512 .bf16)
    (scale : Vec Ideal S1024x1 .f32) (wscale : Vec Ideal S1x512 .f32) (a : Fin 1024) (b : Fin 512) :
    k0_pay1 (F := Ideal) codes w x scale wscale (ix2 a b)
      = (x (ix2 a b) + (∑ k : Fin 4480, codes (ix2 a k) * w (ix2 k b)) * scale (ix2 a 0) * wscale (ix2 0 b) : EReal) := by
  unfold k0_pay1
  pointwise

variable (m : (ℓ : Loc nD τ sig) → Buf (Elt Ideal) ℓ) (ρ : Dev nD → PrngReg)

/-- The weight scales and the residual enter the call as reshapes of two arguments. -/
theorem V_wscale (c : Dev nD) : V m c main_v1 = shapeCast S1x5120 (m ((c : Thread nD τ).loc main_arg3)) shapeCasts_S5120_S1x5120 := by
  show StableHlo.after hostOps0 _ (Proc.devRef .tc main_v1) = _
  after_results
  rfl
theorem V_x (c : Dev nD) : V m c main_v0 = shapeCast S4096x5120 (m ((c : Thread nD τ).loc main_arg4)) shapeCasts_S1x4096x5120_S4096x5120 := by
  show StableHlo.after hostOps0 _ (Proc.devRef .tc main_v0) = _
  after_results
  rfl

/-- The down projection of the launched arguments. -/
abbrev result (c : Dev nD) : Vec Ideal ⟨2, ![4096, 5120]⟩ .bf16 :=
  Down.G (m ((c : Thread nD τ).loc main_arg0)) (m ((c : Thread nD τ).loc main_arg1)) (m ((c : Thread nD τ).loc main_arg2))
    (shapeCast S1x5120 (m ((c : Thread nD τ).loc main_arg3)) shapeCasts_S5120_S1x5120)
    (shapeCast S4096x5120 (m ((c : Thread nD τ).loc main_arg4)) shapeCasts_S1x4096x5120_S4096x5120)

/-- Which block each window is on at a grid point. -/
theorem index (t : Fin cfg0.N) : win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val]
    ∧ win0_5.index t = ![(grid0.coords t 0).val, (grid0.coords t 1).val] :=
  (by decide +kernel : ∀ t : Fin grid0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val]
    ∧ win0_5.index t = ![(grid0.coords t 0).val, (grid0.coords t 1).val]) t

/-- The array the pipeline leaves is the down projection of the arguments: its blocks tile the array, and each is the
    projection's block. -/
theorem kernel_array (c : Dev nD) : (dats m 0 c).arrAt 5 cfg0.N = result m c := by
  refine (dats m 0 c).arrAt_eq_of_covers 5 _ (by decide +kernel) fun t hf y => ?_
  obtain ⟨e0, e1, e2, e3, e4, e5⟩ := index t
  blk_simp
  rw [after0_5]
  frame_out
  obtain ⟨a, b, rfl⟩ : ∃ (a : Fin 1024) (b : Fin 512), y = ix2 a b := ⟨y 0, y 1, eq_ix2 y⟩
  rw [payload]
  unfold result Down.G
  rw [← V_wscale, ← V_x]
  have r0 : ∀ k : Fin 4480, iblk m c 0 t (ix2 a k) = m ((c : Thread nD τ).loc main_arg0) (ix2 (((View.whole main_v2).slice (win0_5.rect t)).emb (ix2 a b) 0) k) :=
    fun k => by blk_ext [iblk, V_main_arg0, e0, e5]
  have r2 : ∀ k : Fin 4480, iblk m c 2 t (ix2 k b) = m ((c : Thread nD τ).loc main_arg2) (ix2 k (((View.whole main_v2).slice (win0_5.rect t)).emb (ix2 a b) 1)) :=
    fun k => by blk_ext [iblk, V_main_arg2, e2, e5]
  have r1 : iblk m c 1 t (ix2 a 0) = m ((c : Thread nD τ).loc main_arg1) (ix2 (((View.whole main_v2).slice (win0_5.rect t)).emb (ix2 a b) 0) 0) := by
    blk_ext [iblk, V_main_arg1, e1, e5]
  have r3 : iblk m c 3 t (ix2 0 b) = V m c main_v1 (ix2 0 (((View.whole main_v2).slice (win0_5.rect t)).emb (ix2 a b) 1)) := by
    blk_ext [iblk, e3, e5]
  have r4 : iblk m c 4 t (ix2 a b) = V m c main_v0 (((View.whole main_v2).slice (win0_5.rect t)).emb (ix2 a b)) := by
    blk_ext [iblk, e4, e5]
  rw [r1, r3, r4, Finset.sum_congr rfl fun k _ => by rw [r0 k, r2 k]]

/-- The kernel's run: the result is the down projection of the arguments, which it leaves as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (kernel_array m c), (h c).2⟩) (Value.run_blocks m ρ)

end Cert.DownKernelIdeal.Block

end
-- ==== Proof.DownWhole.lean ====
/-
  The down projection by the reference, on whole arrays.

  The reference contracts the whole arrays at once; its result is `Down.G` of the arguments (`reference_array`).
-/
module

public import proofs.«01_k».proof.Defs
public import proofs.«01_k».proof.Proof.DownBlock
public import proofs.«01_k».proof.Proof.Gen.DownReferenceIdeal.Value
public import Idealize.ShloMosaic.Lib.Pipeline.ValueKit
public import Idealize.ShloMosaic.Lib.Tactic

@[expose] public section

set_option maxRecDepth 16384

noncomputable section

namespace Cert.DownReferenceIdeal.Whole

open Cert.DownReferenceIdeal Cert.DownReferenceIdeal.Gen Idealize.ShloMosaic Idealize.ShloMosaic.TcCoe Idealize.SL.Sem
open Idealize.ShloMosaic.Pipeline (Dat)

/-- What the reference computes, at row a and column b. -/
theorem payload (codes : Vec Ideal S4096x4480 .fp8e4m3) (w : Vec Ideal S4480x5120 .fp8e4m3) (x : Vec Ideal S4096x5120 .bf16)
    (scale : Vec Ideal S4096x1 .f32) (wscale : Vec Ideal S1x5120 .f32) (a : Fin 4096) (b : Fin 5120) :
    k0_pay1 (F := Ideal) codes w scale wscale x (ix2 a b)
      = (x (ix2 a b) + (∑ k : Fin 4480, codes (ix2 a k) * w (ix2 k b)) * scale (ix2 a 0) * wscale (ix2 0 b) : EReal) := by
  unfold k0_pay1
  pointwise

variable (m : (ℓ : Loc nD τ sig) → Buf (Elt Ideal) ℓ) (ρ : Dev nD → PrngReg)

/-- The weight scales and the residual enter the call as reshapes of two arguments. -/
theorem V_wscale (c : Dev nD) : V m c main_v0 = shapeCast S1x5120 (m ((c : Thread nD τ).loc main_arg3)) shapeCasts_S5120_S1x5120 := by
  show StableHlo.after hostOps0 _ (Proc.devRef .tc main_v0) = _
  after_results
  rfl
theorem V_x (c : Dev nD) : V m c main_v1 = shapeCast S4096x5120 (m ((c : Thread nD τ).loc main_arg4)) shapeCasts_S1x4096x5120_S4096x5120 := by
  show StableHlo.after hostOps0 _ (Proc.devRef .tc main_v1) = _
  after_results
  rfl

/-- The down projection of the launched arguments. -/
abbrev result (c : Dev nD) : Vec Ideal ⟨2, ![4096, 5120]⟩ .bf16 :=
  Down.G (m ((c : Thread nD τ).loc main_arg0)) (m ((c : Thread nD τ).loc main_arg1)) (m ((c : Thread nD τ).loc main_arg2))
    (shapeCast S1x5120 (m ((c : Thread nD τ).loc main_arg3)) shapeCasts_S5120_S1x5120)
    (shapeCast S4096x5120 (m ((c : Thread nD τ).loc main_arg4)) shapeCasts_S1x4096x5120_S4096x5120)

/-- Which block each window is on at a grid point. -/
theorem index (t : Fin cfg0.N) : win0_0.index t = ![0, 0] ∧ win0_1.index t = ![0, 0]
    ∧ win0_2.index t = ![0, 0] ∧ win0_3.index t = ![0, 0]
    ∧ win0_4.index t = ![0, 0]
    ∧ win0_5.index t = ![0, 0] :=
  (by decide +kernel : ∀ t : Fin grid0.N, win0_0.index t = ![0, 0] ∧ win0_1.index t = ![0, 0]
    ∧ win0_2.index t = ![0, 0] ∧ win0_3.index t = ![0, 0]
    ∧ win0_4.index t = ![0, 0]
    ∧ win0_5.index t = ![0, 0]) t

/-- The array the reference leaves is the down projection of the arguments: its one block is the whole array. -/
theorem reference_array (c : Dev nD) : (dats m 0 c).arrAt 5 cfg0.N = result m c := by
  refine (dats m 0 c).arrAt_eq_of_covers 5 _ (by decide +kernel) fun t hf y => ?_
  obtain ⟨e0, e1, e2, e3, e4, e5⟩ := index t
  blk_simp
  rw [after0_5]
  frame_out
  obtain ⟨a, b, rfl⟩ : ∃ (a : Fin 4096) (b : Fin 5120), y = ix2 a b := ⟨y 0, y 1, eq_ix2 y⟩
  rw [payload]
  unfold result Down.G
  rw [← V_wscale, ← V_x]
  have r0 : ∀ k : Fin 4480, iblk m c 0 t (ix2 a k) = m ((c : Thread nD τ).loc main_arg0) (ix2 (((View.whole main_v2).slice (win0_5.rect t)).emb (ix2 a b) 0) k) :=
    fun k => by blk_ext [iblk, V_main_arg0, e0, e5]
  have r2 : ∀ k : Fin 4480, iblk m c 2 t (ix2 k b) = m ((c : Thread nD τ).loc main_arg2) (ix2 k (((View.whole main_v2).slice (win0_5.rect t)).emb (ix2 a b) 1)) :=
    fun k => by blk_ext [iblk, V_main_arg2, e2, e5]
  have r1 : iblk m c 1 t (ix2 a 0) = m ((c : Thread nD τ).loc main_arg1) (ix2 (((View.whole main_v2).slice (win0_5.rect t)).emb (ix2 a b) 0) 0) := by
    blk_ext [iblk, V_main_arg1, e1, e5]
  have r3 : iblk m c 3 t (ix2 0 b) = V m c main_v0 (ix2 0 (((View.whole main_v2).slice (win0_5.rect t)).emb (ix2 a b) 1)) := by
    blk_ext [iblk, e3, e5]
  have r4 : iblk m c 4 t (ix2 a b) = V m c main_v1 (((View.whole main_v2).slice (win0_5.rect t)).emb (ix2 a b)) := by
    blk_ext [iblk, e4, e5]
  rw [r1, r3, r4, Finset.sum_congr rfl fun k _ => by rw [r0 k, r2 k]]

/-- The reference's run: the result is the down projection of the arguments, which it leaves as they were. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (reference_array m c), (h c).2⟩) (Value.run_blocks m ρ)

end Cert.DownReferenceIdeal.Whole

end
-- ==== Proof.DownClaims.lean ====
/-
  The five claims about the down projection: the frames are generated, and the kernel and the reference both leave
  `Down.G` of their arguments.
-/
module

public import proofs.«01_k».proof.Defs
public import proofs.«01_k».proof.Proof.Gen.DownKernel
public import proofs.«01_k».proof.Proof.Gen.DownKernel.Frame
public import proofs.«01_k».proof.Proof.DownBlock
public import proofs.«01_k».proof.Proof.DownWhole

@[expose] public section

noncomputable section

namespace Cert.Proof.Down

open Idealize.ShloMosaic Idealize.ShloMosaic.TcCoe Idealize.SL.Sem

theorem frame_kernel : Cert.quiescent_DownKernel := fun m ρ _ => Cert.DownKernel.Gen.frame m ρ
theorem frame_ideal : Cert.quiescent_DownKernelIdeal := fun m ρ _ => Cert.DownKernelIdeal.Gen.frame m ρ
theorem frame_reference : Cert.quiescent_DownReferenceIdeal := fun m ρ _ => Cert.DownReferenceIdeal.Gen.frame m ρ

/-- Over the extended reals, equal arguments give equal results. -/
theorem algebraic : Cert.algebraic_DownKernelIdeal_DownReferenceIdeal := by
  intro m ρ m' ρ' _ hagree
  refine ⟨fun c => Cert.DownKernelIdeal.Block.result m c, Cert.DownKernelIdeal.Block.run m ρ, ?_⟩
  refine (θ_run Cert.DownReferenceIdeal.defs _ _).mono (fun _ h c => ⟨(h c).1.trans ?_, (h c).2⟩)
    (Cert.DownReferenceIdeal.Whole.run m' ρ')
  unfold Cert.DownKernelIdeal.Block.result Cert.DownReferenceIdeal.Whole.result
  rw [(hagree c).1, (hagree c).2.1, (hagree c).2.2.1, (hagree c).2.2.2.1, (hagree c).2.2.2.2]

end Cert.Proof.Down

end
-- ==== Proof.lean ====
/- The proof. -/
module

public import proofs.«01_k».proof.Defs
public import proofs.«01_k».proof.Proof.Gen.NormKernel
public import proofs.«01_k».proof.Proof.Gen.NormKernel.Skeleton
public import proofs.«01_k».proof.Proof.Gen.NormKernel.Launch
public import proofs.«01_k».proof.Proof.Gen.NormKernel.Points
public import proofs.«01_k».proof.Proof.Gen.NormKernel.Frame
public import proofs.«01_k».proof.Proof.Gen.NormKernelIdeal
public import proofs.«01_k».proof.Proof.Gen.NormKernelIdeal.Skeleton
public import proofs.«01_k».proof.Proof.Gen.NormKernelIdeal.Launch
public import proofs.«01_k».proof.Proof.Gen.NormKernelIdeal.Points
public import proofs.«01_k».proof.Proof.Gen.NormKernelIdeal.Frame
public import proofs.«01_k».proof.Proof.Gen.NormReferenceIdeal
public import proofs.«01_k».proof.Proof.Gen.NormReferenceIdeal.Skeleton
public import proofs.«01_k».proof.Proof.Gen.NormReferenceIdeal.Launch
public import proofs.«01_k».proof.Proof.Gen.NormReferenceIdeal.Points
public import proofs.«01_k».proof.Proof.Gen.NormReferenceIdeal.Frame
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownKernelIdeal.Value
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownReferenceIdeal.Value
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernel.Loops
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InKernelIdeal.Loops
public import proofs.«01_k».proof.Proof.Gen.InReferenceIdeal
public import proofs.«01_k».proof.Proof.Gen.InReferenceIdeal.Skeleton
public import proofs.«01_k».proof.Proof.Gen.InReferenceIdeal.Launch
public import proofs.«01_k».proof.Proof.Gen.InReferenceIdeal.Points
public import proofs.«01_k».proof.Proof.Gen.InReferenceIdeal.Frame
public import proofs.«01_k».proof.Proof.NormClaims
public import proofs.«01_k».proof.Proof.InClaims
public import proofs.«01_k».proof.Proof.DownClaims
public import Idealize.ShloMosaic.Adequacy
public import Idealize.ShloMosaic.Init

@[expose] public section

noncomputable section

namespace Cert.Proof

open Idealize.ShloMosaic Idealize.SL.Sem

theorem claim : Cert.Claim :=
  ⟨Cert.NormKernel.Gen.facts, Cert.NormKernelIdeal.Gen.facts, Cert.NormReferenceIdeal.Gen.facts,
    Cert.InKernel.Gen.facts, Cert.InKernelIdeal.Gen.facts, Cert.InReferenceIdeal.Gen.facts,
    Cert.DownKernel.Gen.facts, Cert.DownKernelIdeal.Gen.facts, Cert.DownReferenceIdeal.Gen.facts,
    Norm.frame_kernel, Norm.frame_ideal, Norm.frame_reference,
    In.frame_kernel, In.frame_ideal, In.frame_reference,
    Down.frame_kernel, Down.frame_ideal, Down.frame_reference,
    trivial, Norm.algebraic, trivial, In.algebraic, trivial, Down.algebraic⟩

end Cert.Proof

end
